-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_input [hPre_finite_input : Cert.Pre_finite_input.Facts] (m : (ℓ : Loc Cert.KernelIdeal.nD Cert.KernelIdeal.τ Cert.KernelIdeal.sig) → Buf (Elt Ideal) ℓ) : Prop :=
  ∀ c : Dev Cert.KernelIdeal.nD,
    (Cert.Pre_finite_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_input [hPre_finite_input : Cert.Pre_finite_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_input [hKernelIdeal : Cert.KernelIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_input m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_input [hReferenceIdeal : Cert.ReferenceIdeal.Facts] [hPre_finite_input : Cert.Pre_finite_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_input [hKernelIdeal : Cert.KernelIdeal.Facts] [hReferenceIdeal : Cert.ReferenceIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v26)) (v4 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_v27) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22_0) = v0 c
          ∧ r.2.mem ((c.tc : Thread Cert.ReferenceIdeal.nD Cert.ReferenceIdeal.τ).loc Cert.ReferenceIdeal.main_v22_1) = v1 c
          ∧ r.2.mem ((c.tc : Thread Cert.ReferenceIdeal.nD Cert.ReferenceIdeal.τ).loc Cert.ReferenceIdeal.main_v22_2) = v2 c
          ∧ r.2.mem ((c.tc : Thread Cert.ReferenceIdeal.nD Cert.ReferenceIdeal.τ).loc Cert.ReferenceIdeal.main_v22_3) = v3 c
          ∧ r.2.mem ((c.tc : Thread Cert.ReferenceIdeal.nD Cert.ReferenceIdeal.τ).loc Cert.ReferenceIdeal.main_v22_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_input : Cert.Pre_finite_input.Facts),
    quiescent_Kernel (hKernel := hKernel)
    ∧ quiescent_KernelIdeal (hKernelIdeal := hKernelIdeal)
    ∧ quiescent_KernelIdeal_pre_finite_input (hKernelIdeal := hKernelIdeal) (hPre_finite_input := hPre_finite_input)
    ∧ quiescent_ReferenceIdeal (hReferenceIdeal := hReferenceIdeal)
    ∧ quiescent_ReferenceIdeal_pre_finite_input (hReferenceIdeal := hReferenceIdeal) (hPre_finite_input := hPre_finite_input)
    ∧ preserves_Kernel_KernelIdeal
    ∧ algebraic_KernelIdeal_ReferenceIdeal_pre_finite_input (hKernelIdeal := hKernelIdeal) (hReferenceIdeal := hReferenceIdeal) (hPre_finite_input := hPre_finite_input)
-- ==== Pre_finite_input.lean ====
abbrev S2x1536x8192 : Shape := ⟨3, ![2, 1536, 8192]⟩
abbrev S2112x8192 : Shape := ⟨2, ![2112, 8192]⟩
abbrev S17x64 : Shape := ⟨2, ![17, 64]⟩
abbrev S1536 : Shape := ⟨1, ![1536]⟩
abbrev S512 : Shape := ⟨1, ![512]⟩
abbrev S2 : Shape := ⟨1, ![2]⟩
abbrev S_ : Shape := ⟨0, ![]⟩

class Facts : Prop where
  bitsLt_bf16_f32 : FTy.bits .bf16 < FTy.bits .f32
  bcast_S_S2x1536x8192 : S_.BroadcastsInDim S2x1536x8192 (![] : Fin 0 → Fin S2x1536x8192.rank)

variable [Facts]

def fn {F : FTy → Type} [FloatOps F] (main_arg0 : FVec F S2x1536x8192 .bf16) (main_arg1 : FVec F S2112x8192 .fp8e4m3) (main_arg2 : FVec F S17x64 .f32) (main_arg3 : FVec F S1536 .bf16) (main_arg4 : FVec F S512 .bf16) (main_arg5 : IVec S2 32) : IVec S2x1536x8192 1 :=
  let main_v0 : FVec F S2x1536x8192 .f32 := (extf .f32 · bitsLt_bf16_f32) main_arg0
  let main_v1 : FVec F S2x1536x8192 .f32 := Host.absf main_v0
  let main_cst : FVec F S_ .f32 := constant S_ .f32 0x7F7F0000#32
  let main_v2 : FVec F S2x1536x8192 .f32 := broadcastInDim S2x1536x8192 ![] bcast_S_S2x1536x8192 main_cst
  let main_v3 : IVec S2x1536x8192 1 := cmpf .ole main_v1 main_v2
  main_v3
-- ==== Kernel.lean ====
abbrev S2x1536x8192 : Shape := ⟨3, ![2, 1536, 8192]⟩
abbrev S2112x8192 : Shape := ⟨2, ![2112, 8192]⟩
abbrev S17x64 : Shape := ⟨2, ![17, 64]⟩
abbrev S1536 : Shape := ⟨1, ![1536]⟩
abbrev S512 : Shape := ⟨1, ![512]⟩
abbrev S2 : Shape := ⟨1, ![2]⟩
abbrev S32 : Shape := ⟨1, ![32]⟩
abbrev S_ : Shape := ⟨0, ![]⟩
abbrev S32x2 : Shape := ⟨2, ![32, 2]⟩
abbrev S64 : Shape := ⟨1, ![64]⟩
abbrev S128 : Shape := ⟨1, ![128]⟩
abbrev S1x128 : Shape := ⟨2, ![1, 128]⟩
abbrev S17x128x64 : Shape := ⟨3, ![17, 128, 64]⟩
abbrev S2176x64 : Shape := ⟨2, ![2176, 64]⟩
abbrev S2112x64 : Shape := ⟨2, ![2112, 64]⟩
abbrev S2112x8x8 : Shape := ⟨3, ![2112, 8, 8]⟩
abbrev S8x2112x8 : Shape := ⟨3, ![8, 2112, 8]⟩
abbrev S3072x8192 : Shape := ⟨2, ![3072, 8192]⟩
abbrev S1x1536 : Shape := ⟨2, ![1, 1536]⟩
abbrev S1x512 : Shape := ⟨2, ![1, 512]⟩
abbrev S3072x1536 : Shape := ⟨2, ![3072, 1536]⟩
abbrev S3072x512 : Shape := ⟨2, ![3072, 512]⟩
abbrev S3072x64 : Shape := ⟨2, ![3072, 64]⟩
abbrev S512x1024 : Shape := ⟨2, ![512, 1024]⟩
abbrev S2112x1024 : Shape := ⟨2, ![2112, 1024]⟩
abbrev S1x2112x8 : Shape := ⟨3, ![1, 2112, 8]⟩
abbrev S512x1536 : Shape := ⟨2, ![512, 1536]⟩
abbrev S512x512 : Shape := ⟨2, ![512, 512]⟩
abbrev S512x64 : Shape := ⟨2, ![512, 64]⟩
abbrev S8x2176x1024 : Shape := ⟨3, ![8, 2176, 1024]⟩
abbrev S512x2176 : Shape := ⟨2, ![512, 2176]⟩
abbrev S512x128 : Shape := ⟨2, ![512, 128]⟩
abbrev S2112x128 : Shape := ⟨2, ![2112, 128]⟩
abbrev S1x2112x1 : Shape := ⟨3, ![1, 2112, 1]⟩
abbrev S2112x1 : Shape := ⟨2, ![2112, 1]⟩
abbrev S1x2112x128 : Shape := ⟨3, ![1, 2112, 128]⟩
abbrev S64x128 : Shape := ⟨2, ![64, 128]⟩
abbrev S1x64x128 : Shape := ⟨3, ![1, 64, 128]⟩
abbrev S512x1 : Shape := ⟨2, ![512, 1]⟩
abbrev S512x256 : Shape := ⟨2, ![512, 256]⟩
abbrev S1x2176x1024 : Shape := ⟨3, ![1, 2176, 1024]⟩
abbrev S2176x1024 : Shape := ⟨2, ![2176, 1024]⟩
abbrev S1 : Shape := ⟨1, ![1]⟩
abbrev S2x1536x1536 : Shape := ⟨3, ![2, 1536, 1536]⟩
abbrev S2x1536x512 : Shape := ⟨3, ![2, 1536, 512]⟩
abbrev S2x1536x64 : Shape := ⟨3, ![2, 1536, 64]⟩

abbrev nBuf : Space → Nat
  | .hbm => 44
  | .vmem => 23
  | .smem => 1
  | _ => 0

abbrev bufTy : (tb : Table) → Fin (tcTables nBuf tb) → BufTy
  | .hbm, ⟨0, _⟩ => ⟨S2x1536x8192, .bf16⟩
  | .hbm, ⟨1, _⟩ => ⟨S2112x8192, .fp8e4m3⟩
  | .hbm, ⟨2, _⟩ => ⟨S17x64, .f32⟩
  | .hbm, ⟨3, _⟩ => ⟨S1536, .bf16⟩
  | .hbm, ⟨4, _⟩ => ⟨S512, .bf16⟩
  | .hbm, ⟨5, _⟩ => ⟨S2, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32x2, .f32⟩
  | .hbm, ⟨21, _⟩ => ⟨S64, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S17x128x64, .f32⟩
  | .hbm, ⟨27, _⟩ => ⟨S2176x64, .f32⟩
  | .hbm, ⟨28, _⟩ => ⟨S2112x64, .f32⟩
  | .hbm, ⟨29, _⟩ => ⟨S2112x8x8, .f32⟩
  | .hbm, ⟨30, _⟩ => ⟨S8x2112x8, .f32⟩
  | .hbm, ⟨31, _⟩ => ⟨S3072x8192, .bf16⟩
  | .hbm, ⟨32, _⟩ => ⟨S1x1536, .bf16⟩
  | .hbm, ⟨33, _⟩ => ⟨S1x512, .bf16⟩
  | .hbm, ⟨34, _⟩ => ⟨S3072x1536, .bf16⟩
  | .hbm, ⟨35, _⟩ => ⟨S3072x512, .bf16⟩
  | .hbm, ⟨36, _⟩ => ⟨S3072x64, .bf16⟩
  | .hbm, ⟨37, _⟩ => ⟨S3072x8192, .fp8e4m3⟩
  | .hbm, ⟨38, _⟩ => ⟨S3072x64, .f32⟩
  | .hbm, ⟨39, _⟩ => ⟨S2x1536x1536, .bf16⟩
  | .hbm, ⟨40, _⟩ => ⟨S2x1536x512, .bf16⟩
  | .hbm, ⟨41, _⟩ => ⟨S2x1536x64, .bf16⟩
  | .hbm, ⟨42, _⟩ => ⟨S2x1536x8192, .fp8e4m3⟩
  | .hbm, ⟨43, _⟩ => ⟨S2x1536x64, .f32⟩
  | .local _ .vmem, ⟨0, _⟩ => ⟨S512x1024, .bf16⟩
  | .local _ .vmem, ⟨1, _⟩ => ⟨S512x1024, .bf16⟩
  | .local _ .vmem, ⟨2, _⟩ => ⟨S2112x1024, .fp8e4m3⟩
  | .local _ .vmem, ⟨3, _⟩ => ⟨S2112x1024, .fp8e4m3⟩
  | .local _ .vmem, ⟨4, _⟩ => ⟨S1x2112x8, .f32⟩
  | .local _ .vmem, ⟨5, _⟩ => ⟨S1x2112x8, .f32⟩
  | .local _ .vmem, ⟨6, _⟩ => ⟨S1x1536, .bf16⟩
  | .local _ .vmem, ⟨7, _⟩ => ⟨S1x512, .bf16⟩
  | .local _ .vmem, ⟨8, _⟩ => ⟨S1x128, .f32⟩
  | .local _ .vmem, ⟨9, _⟩ => ⟨S512x1536, .bf16⟩
  | .local _ .vmem, ⟨10, _⟩ => ⟨S512x1536, .bf16⟩
  | .local _ .vmem, ⟨11, _⟩ => ⟨S512x512, .bf16⟩
  | .local _ .vmem, ⟨12, _⟩ => ⟨S512x512, .bf16⟩
  | .local _ .vmem, ⟨13, _⟩ => ⟨S512x64, .bf16⟩
  | .local _ .vmem, ⟨14, _⟩ => ⟨S512x64, .bf16⟩
  | .local _ .vmem, ⟨15, _⟩ => ⟨S512x1024, .fp8e4m3⟩
  | .local _ .vmem, ⟨16, _⟩ => ⟨S512x1024, .fp8e4m3⟩
  | .local _ .vmem, ⟨17, _⟩ => ⟨S512x64, .f32⟩
  | .local _ .vmem, ⟨18, _⟩ => ⟨S512x64, .f32⟩
  | .local _ .vmem, ⟨19, _⟩ => ⟨S8x2176x1024, .bf16⟩
  | .local _ .vmem, ⟨20, _⟩ => ⟨S512x1024, .bf16⟩
  | .local _ .vmem, ⟨21, _⟩ => ⟨S512x2176, .f32⟩
  | .local _ .vmem, ⟨22, _⟩ => ⟨S512x128, .f32⟩
  | .local _ .smem, ⟨0, _⟩ => ⟨S2, .i32⟩
  | _, _ => ⟨S2x1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v431 : Index := Scalar.indexCast arg1
  let c0_154 : Index := 0#32
  let c0_155 : Index := 0#32
  ![v431.toNat, 0, 0]
def k0_off2 (i : grid0.Coords) : Fin 3 → Nat :=
  let arg1 : BitVec 32 := BitVec.ofNat 32 (i 1).val
  let v436 : Index := Scalar.indexCast arg1
  let c2112 : Index := 2112#32
  let c0_157 : Index := 0#32
  ![v436.toNat, 2112, 0]
def k0_off3 (i : grid0.Coords) : Fin 3 → Nat :=
  let arg1 : BitVec 32 := BitVec.ofNat 32 (i 1).val
  let v447 : Index := Scalar.indexCast arg1
  let c0_162 : Index := 0#32
  let c128_163 : Index := 128#32
  ![v447.toNat, 0, 128]
def k0_off4 (i : grid0.Coords) : Fin 3 → Nat :=
  let arg1 : BitVec 32 := BitVec.ofNat 32 (i 1).val
  let v452 : Index := Scalar.indexCast arg1
  let c2112_165 : Index := 2112#32
  let c128_166 : Index := 128#32
  ![v452.toNat, 2112, 128]
def k0_off5 (i : grid0.Coords) : Fin 3 → Nat :=
  let arg1 : BitVec 32 := BitVec.ofNat 32 (i 1).val
  let v463 : Index := Scalar.indexCast arg1
  let c0_171 : Index := 0#32
  let c256_172 : Index := 256#32
  ![v463.toNat, 0, 256]
def k0_off6 (i : grid0.Coords) : Fin 3 → Nat :=
  let arg1 : BitVec 32 := BitVec.ofNat 32 (i 1).val
  let v468 : Index := Scalar.indexCast arg1
  let c2112_174 : Index := 2112#32
  let c256_175 : Index := 256#32
  ![v468.toNat, 2112, 256]
def k0_off7 (i : grid0.Coords) : Fin 3 → Nat :=
  let arg1 : BitVec 32 := BitVec.ofNat 32 (i 1).val
  let v479 : Index := Scalar.indexCast arg1
  let c0_180 : Index := 0#32
  let c384_181 : Index := 384#32
  ![v479.toNat, 0, 384]
def k0_off8 (i : grid0.Coords) : Fin 3 → Nat :=
  let arg1 : BitVec 32 := BitVec.ofNat 32 (i 1).val
  let v484 : Index := Scalar.indexCast arg1
  let c2112_183 : Index := 2112#32
  let c384_184 : Index := 384#32
  ![v484.toNat, 2112, 384]
def k0_off9 (i : grid0.Coords) : Fin 3 → Nat :=
  let arg1 : BitVec 32 := BitVec.ofNat 32 (i 1).val
  let v495 : Index := Scalar.indexCast arg1
  let c0_189 : Index := 0#32
  let c512_190 : Index := 512#32
  ![v495.toNat, 0, 512]
def k0_off10 (i : grid0.Coords) : Fin 3 → Nat :=
  let arg1 : BitVec 32 := BitVec.ofNat 32 (i 1).val
  let v500 : Index := Scalar.indexCast arg1
  let c2112_192 : Index := 2112#32
  let c512_193 : Index := 512#32
  ![v500.toNat, 2112, 512]
def k0_off11 (i : grid0.Coords) : Fin 3 → Nat :=
  let arg1 : BitVec 32 := BitVec.ofNat 32 (i 1).val
  let v511 : Index := Scalar.indexCast arg1
  let c0_198 : Index := 0#32
  let c640_199 : Index := 640#32
  ![v511.toNat, 0, 640]
def k0_off12 (i : grid0.Coords) : Fin 3 → Nat :=
  let arg1 : BitVec 32 := BitVec.ofNat 32 (i 1).val
  let v516 : Index := Scalar.indexCast arg1
  let c2112_201 : Index := 2112#32
  let c640_202 : Index := 640#32
  ![v516.toNat, 2112, 640]
def k0_off13 (i : grid0.Coords) : Fin 3 → Nat :=
  let arg1 : BitVec 32 := BitVec.ofNat 32 (i 1).val
  let v527 : Index := Scalar.indexCast arg1
  let c0_207 : Index := 0#32
  let c768_208 : Index := 768#32
  ![v527.toNat, 0, 768]
def k0_off14 (i : grid0.Coords) : Fin 3 → Nat :=
  let arg1 : BitVec 32 := BitVec.ofNat 32 (i 1).val
  let v532 : Index := Scalar.indexCast arg1
  let c2112_210 : Index := 2112#32
  let c768_211 : Index := 768#32
  ![v532.toNat, 2112, 768]
def k0_off15 (i : grid0.Coords) : Fin 3 → Nat :=
  let arg1 : BitVec 32 := BitVec.ofNat 32 (i 1).val
  let v543 : Index := Scalar.indexCast arg1
  let c0_216 : Index := 0#32
  let c896_217 : Index := 896#32
  ![v543.toNat, 0, 896]
def k0_off16 (i : grid0.Coords) : Fin 3 → Nat :=
  let arg1 : BitVec 32 := BitVec.ofNat 32 (i 1).val
  let v548 : Index := Scalar.indexCast arg1
  let c2112_219 : Index := 2112#32
  let c896_220 : Index := 896#32
  ![v548.toNat, 2112, 896]
def k0_off17 (i : grid0.Coords) : Fin 3 → Nat :=
  let arg1 : BitVec 32 := BitVec.ofNat 32 (i 1).val
  let v413 : Index := Scalar.indexCast arg1
  let c0_142 : Index := 0#32
  let c0_143 : Index := 0#32
  ![v413.toNat, 0, 0]
def k0_cond3 (i : grid0.Coords) : BitVec 1 :=
  let arg1 : BitVec 32 := BitVec.ofNat 32 (i 1).val
  let c7_i32_147 : BitVec 32 := 7#32
  let v421 : BitVec 1 := Scalar.cmpi .eq arg1 c7_i32_147
  let v422 : BitVec 32 := Scalar.extui v421
  let c0_i32_148 : BitVec 32 := 0#32
  let v423 : BitVec 1 := Scalar.cmpi .ne v422 c0_i32_148
  v423

def k0_off18 (i : grid0.Coords) : Fin 1 → Nat :=
  let arg0 : BitVec 32 := BitVec.ofNat 32 (i 0).val
  let c0_i32_171 : BitVec 32 := 0#32
  let v463 : BitVec 1 := Scalar.cmpi .sgt arg0 c0_i32_171
  let v464 : BitVec 32 := Scalar.extui v463
  let c0_i32_172 : BitVec 32 := 0#32
  let v465 : BitVec 1 := Scalar.cmpi .slt arg0 c0_i32_172
  let v466 : BitVec 32 := Scalar.extui v465
  let v467 : BitVec 32 := Scalar.subi v464 v466
  let c3_i32_170 : BitVec 32 := 3#32
  let c0_i32_173 : BitVec 32 := 0#32
  let v468 : BitVec 1 := Scalar.cmpi .sgt c3_i32_170 c0_i32_173
  let v469 : BitVec 32 := Scalar.extui v468
  let c0_i32_174 : BitVec 32 := 0#32
  let v470 : BitVec 1 := Scalar.cmpi .slt c3_i32_170 c0_i32_174
  let v471 : BitVec 32 := Scalar.extui v470
  let v472 : BitVec 32 := Scalar.subi v469 v471
  let v473 : BitVec 1 := Scalar.cmpi .ne v467 v472
  let v474 : BitVec 32 := Scalar.remsi arg0 c3_i32_170
  let c0_i32_175 : BitVec 32 := 0#32
  let v475 : BitVec 1 := Scalar.cmpi .ne v474 c0_i32_175
  let v476 : BitVec 1 := Scalar.andi v473 v475
  let v462 : BitVec 32 := Scalar.divsi arg0 c3_i32_170
  let c1_i32_176 : BitVec 32 := 1#32
  let v477 : BitVec 32 := Scalar.subi v462 c1_i32_176
  let v478 : BitVec 32 := Scalar.select v476 v477 v462
  let v479 : Index := Scalar.indexCast v478
  ![v479.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2112x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2112x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2x1536x8192 : Shape := ⟨3, ![2, 1536, 8192]⟩
abbrev S2112x8192 : Shape := ⟨2, ![2112, 8192]⟩
abbrev S17x64 : Shape := ⟨2, ![17, 64]⟩
abbrev S1536 : Shape := ⟨1, ![1536]⟩
abbrev S512 : Shape := ⟨1, ![512]⟩
abbrev S2 : Shape := ⟨1, ![2]⟩
abbrev S2x1 : Shape := ⟨2, ![2, 1]⟩
abbrev S1x1536 : Shape := ⟨2, ![1, 1536]⟩
abbrev S2x1536 : Shape := ⟨2, ![2, 1536]⟩
abbrev S32 : Shape := ⟨1, ![32]⟩
abbrev S_ : Shape := ⟨0, ![]⟩
abbrev S2x1536x1 : Shape := ⟨3, ![2, 1536, 1]⟩
abbrev S1x1x32 : Shape := ⟨3, ![1, 1, 32]⟩
abbrev S2x1536x32 : Shape := ⟨3, ![2, 1536, 32]⟩
abbrev S2x1536x1536 : Shape := ⟨3, ![2, 1536, 1536]⟩
abbrev S2x1536x512 : Shape := ⟨3, ![2, 1536, 512]⟩
abbrev S2x1536x64 : Shape := ⟨3, ![2, 1536, 64]⟩
abbrev S2x1536x64x128 : Shape := ⟨4, ![2, 1536, 64, 128]⟩
abbrev S2x1536x64x1 : Shape := ⟨4, ![2, 1536, 64, 1]⟩
abbrev S17x1x64 : Shape := ⟨3, ![17, 1, 64]⟩
abbrev S17x128x64 : Shape := ⟨3, ![17, 128, 64]⟩
abbrev S2176x64 : Shape := ⟨2, ![2176, 64]⟩
abbrev S2176x64x1 : Shape := ⟨3, ![2176, 64, 1]⟩
abbrev S2176x64x128 : Shape := ⟨3, ![2176, 64, 128]⟩
abbrev S2176x8192 : Shape := ⟨2, ![2176, 8192]⟩
abbrev S2x1536x2112 : Shape := ⟨3, ![2, 1536, 2112]⟩
abbrev S1x1x1536 : Shape := ⟨3, ![1, 1, 1536]⟩
abbrev S1x1x512 : Shape := ⟨3, ![1, 1, 512]⟩
abbrev S2x1536x32x2 : Shape := ⟨4, ![2, 1536, 32, 2]⟩
abbrev S2x1536x32x1 : Shape := ⟨4, ![2, 1536, 32, 1]⟩

abbrev nBuf : Space → Nat
  | .hbm => 37
  | .vmem => 11
  | .smem => 0
  | _ => 0

abbrev bufTy : (tb : Table) → Fin (tcTables nBuf tb) → BufTy
  | .hbm, ⟨0, _⟩ => ⟨S2x1536x8192, .bf16⟩
  | .hbm, ⟨1, _⟩ => ⟨S2112x8192, .fp8e4m3⟩
  | .hbm, ⟨2, _⟩ => ⟨S17x64, .f32⟩
  | .hbm, ⟨3, _⟩ => ⟨S1536, .bf16⟩
  | .hbm, ⟨4, _⟩ => ⟨S512, .bf16⟩
  | .hbm, ⟨5, _⟩ => ⟨S2, .i32⟩
  | .hbm, ⟨6, _⟩ => ⟨S2, .f32⟩
  | .hbm, ⟨7, _⟩ => ⟨S2x1, .f32⟩
  | .hbm, ⟨8, _⟩ => ⟨S1536, .f32⟩
  | .hbm, ⟨9, _⟩ => ⟨S1x1536, .f32⟩
  | .hbm, ⟨10, _⟩ => ⟨S2x1536, .f32⟩
  | .hbm, ⟨11, _⟩ => ⟨S2x1536, .f32⟩
  | .hbm, ⟨12, _⟩ => ⟨S2x1536, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S2x1536x1, .f32⟩
  | .hbm, ⟨28, _⟩ => ⟨S1x1x32, .f32⟩
  | .hbm, ⟨29, _⟩ => ⟨S2x1536x32, .f32⟩
  | .hbm, ⟨30, _⟩ => ⟨S2x1536x32, .f32⟩
  | .hbm, ⟨31, _⟩ => ⟨S2x1536x32, .f32⟩
  | .hbm, ⟨32, _⟩ => ⟨S2x1536x1536, .bf16⟩
  | .hbm, ⟨33, _⟩ => ⟨S2x1536x512, .bf16⟩
  | .hbm, ⟨34, _⟩ => ⟨S2x1536x64, .bf16⟩
  | .hbm, ⟨35, _⟩ => ⟨S2x1536x8192, .fp8e4m3⟩
  | .hbm, ⟨36, _⟩ => ⟨S2x1536x64, .f32⟩
  | .local _ .vmem, ⟨0, _⟩ => ⟨S2x1536x8192, .bf16⟩
  | .local _ .vmem, ⟨1, _⟩ => ⟨S2112x8192, .fp8e4m3⟩
  | .local _ .vmem, ⟨2, _⟩ => ⟨S17x64, .f32⟩
  | .local _ .vmem, ⟨3, _⟩ => ⟨S1536, .bf16⟩
  | .local _ .vmem, ⟨4, _⟩ => ⟨S512, .bf16⟩
  | .local _ .vmem, ⟨5, _⟩ => ⟨S2x1536x32, .f32⟩
  | .local _ .vmem, ⟨6, _⟩ => ⟨S2x1536x1536, .bf16⟩
  | .local _ .vmem, ⟨7, _⟩ => ⟨S2x1536x512, .bf16⟩
  | .local _ .vmem, ⟨8, _⟩ => ⟨S2x1536x64, .bf16⟩
  | .local _ .vmem, ⟨9, _⟩ => ⟨S2x1536x8192, .fp8e4m3⟩
  | .local _ .vmem, ⟨10, _⟩ => ⟨S2x1536x64, .f32⟩
  | _, _ => ⟨S2x1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1536x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1536x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1536x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1536x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1536x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1536x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Points.lean ====
module

public import proofs.«01_k».proof.Proof.Gen.Kernel.Frame
public import proofs.«01_k».proof.Proof.Gen.Kernel.Skeleton

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body widens the weights: the row block is the first. -/
abbrev cond0_0 (i : grid0.Coords) : Prop := k0_cond1 i = 1#1
/-- It holds at the points below 8. -/
theorem hcond0_0 : ∀ t : Fin cfg0.N, cond0_0 (grid0.coords t) ↔ t.val < 8 :=
  (fun t => by
    have ht : t.val < 48 := Nat.lt_of_lt_of_eq t.isLt N_0
    have e0 : (grid0.coords t 0).val = t.val / 8 % 6 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val < 8)

/-- The body clears the accumulator: the reduction step is the first. -/
abbrev cond0_1 (i : grid0.Coords) : Prop := (Scalar.cmpi .ne (Scalar.extui (Scalar.cmpi .eq (BitVec.ofNat 32 (i 1).val) 0#32)) 0#32) = 1#1
/-- It holds at the points that 8 divides. -/
theorem hcond0_1 : ∀ t : Fin cfg0.N, cond0_1 (grid0.coords t) ↔ t.val % 8 = 0 :=
  (fun t => by
    have ht : t.val < 48 := Nat.lt_of_lt_of_eq t.isLt N_0
    have e0 : (grid0.coords t 0).val = t.val / 8 % 6 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The body writes the four row results: the reduction step is the last. -/
abbrev cond0_2 (i : grid0.Coords) : Prop := k0_cond3 i = 1#1
/-- It holds at the points that leave 7 on division by 8. -/
theorem hcond0_2 : ∀ t : Fin cfg0.N, cond0_2 (grid0.coords t) ↔ t.val % 8 = 7 :=
  (fun t => by
    have ht : t.val < 48 := Nat.lt_of_lt_of_eq t.isLt N_0
    have e0 : (grid0.coords t 0).val = t.val / 8 % 6 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_10 : ∀ t : Fin cfg0.N, cfg0.idle 10 (grid0.coords t) = false := fun _ => rfl
theorem idleAt0_7 : ∀ t : Fin cfg0.N, ¬cond0_2 (grid0.coords t) → cfg0.idle 7 (grid0.coords t) = true := by decide +kernel
theorem noFlush0_7 : ∀ t : Fin cfg0.N, ¬cond0_2 (grid0.coords t) → (cfg0.win 7).flush t = false := by decide +kernel
theorem liveAt0_7 : ∀ t : Fin cfg0.N, cond0_2 (grid0.coords t) → cfg0.idle 7 (grid0.coords t) = false := by decide +kernel
theorem idleAt0_8 : ∀ t : Fin cfg0.N, ¬cond0_2 (grid0.coords t) → cfg0.idle 8 (grid0.coords t) = true := by decide +kernel
theorem noFlush0_8 : ∀ t : Fin cfg0.N, ¬cond0_2 (grid0.coords t) → (cfg0.win 8).flush t = false := by decide +kernel
theorem liveAt0_8 : ∀ t : Fin cfg0.N, cond0_2 (grid0.coords t) → cfg0.idle 8 (grid0.coords t) = false := by decide +kernel
theorem idleAt0_9 : ∀ t : Fin cfg0.N, ¬cond0_2 (grid0.coords t) → cfg0.idle 9 (grid0.coords t) = true := by decide +kernel
theorem noFlush0_9 : ∀ t : Fin cfg0.N, ¬cond0_2 (grid0.coords t) → (cfg0.win 9).flush t = false := by decide +kernel
theorem liveAt0_9 : ∀ t : Fin cfg0.N, cond0_2 (grid0.coords t) → cfg0.idle 9 (grid0.coords t) = false := by decide +kernel
theorem idleAt0_11 : ∀ t : Fin cfg0.N, ¬cond0_2 (grid0.coords t) → cfg0.idle 11 (grid0.coords t) = true := by decide +kernel
theorem noFlush0_11 : ∀ t : Fin cfg0.N, ¬cond0_2 (grid0.coords t) → (cfg0.win 11).flush t = false := by decide +kernel
theorem liveAt0_11 : ∀ t : Fin cfg0.N, cond0_2 (grid0.coords t) → cfg0.idle 11 (grid0.coords t) = false := by decide +kernel

/-! ## The memrefs that the body is called with at a point -/

abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2112x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2112x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1536 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x64 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x64 .f32 := win0_11.stage (cfg0.slots t 11)
abbrev hs0_11 (t : Fin cfg0.N) : (ms0_11 t).IsWhole := hstage0_11 ((cfg0.slots t 11).cast nbuf0_11)
abbrev scM0 : Memref sig .tc .vmem S8x2176x1024 .bf16 := Memref.whole cc0_scratch0
abbrev scM1 : Memref sig .tc .vmem S512x1024 .bf16 := Memref.whole cc0_scratch1
abbrev scM2 : Memref sig .tc .vmem S512x2176 .f32 := Memref.whole cc0_scratch2
abbrev scM3 : Memref sig .tc .vmem S512x128 .f32 := Memref.whole cc0_scratch3

/-- The region's invariant with the four scratch buffers owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.Kernel.Run

end
-- ==== Proof.Kernel.Values.lean ====
module

public import proofs.«01_k».proof.Proof.Gen.Kernel.Frame
public import proofs.«01_k».proof.Proof.Gen.Kernel.Skeleton
public import proofs.«01_k».proof.Proof.Kernel.Points
public import Idealize.ShloMosaic.Lib.VecWindow
public import Idealize.ShloMosaic.Lib.Writes
public import Idealize.ShloMosaic.Lib.Ring
public import Idealize.ShloMosaic.Lib.ValueIdx
public import Idealize.ShloMosaic.Lib.Pipeline.Value

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## What the body computes, as functions of vectors -/

/-- The 128 columns of quantisation group `g` of a block of activations. -/
def tile (x : Vec F S512x1024 .bf16) (g : Fin 8) : Vec F S512x128 .bf16 :=
  fun y => x (ix2 (y 0) ⟨128 * g.val + (y 1).val, by have := (y 1).isLt; have := g.isLt; simp at *; omega⟩)

/-- The scale of each row of one group. -/
def scaleCol (v : Vec F S512x128 .bf16) : FVec F S512x1 .f32 := k0_pay27 v

/-- The codes of one group. -/
def codeTile (v : Vec F S512x128 .bf16) : FVec F S512x128 .fp8e4m3 := k0_pay28 v

/-- The dequantised values of one group. -/
def xdqTile (v : Vec F S512x128 .bf16) : FVec F S512x128 .bf16 := k0_pay29 (k0_pay27 v) (k0_pay28 v)

/-- Eight groups side by side. -/
def glue {α : Type} (P : Fin 8 → S512x128.Idx → α) : S512x1024.Idx → α :=
  fun y => P ⟨(y 1).val / 128, by have := (y 1).isLt; simp at this; omega⟩ (ix2 (y 0) ⟨(y 1).val % 128, Nat.mod_lt _ (by omega)⟩)

/-- The codes of a block. -/
def codesBlk (x : Vec F S512x1024 .bf16) : Vec F S512x1024 .fp8e4m3 := glue fun g => codeTile (tile x g)

/-- The dequantised values of a block. -/
def xdqBlk (x : Vec F S512x1024 .bf16) : Vec F S512x1024 .bf16 := glue fun g => xdqTile (tile x g)

/-- The weights of group `g` of a block, widened and scaled. -/
def wTile (w : Vec F S2112x1024 .fp8e4m3) (s : Vec F S1x2112x8 .f32) (g : Fin 8) : FVec F S1x2112x128 .bf16 :=
  k0_pay3 (fun y => w (ix2 (y 0) ⟨128 * g.val + (y 1).val, by have := (y 1).isLt; have := g.isLt; simp at *; omega⟩))
    (fun y => s (ix3 0 (y 1) g))

/-- The slab of weights that one reduction step uses: 2112 rows in eight groups of 128 columns, then rows of zeros. -/
def slabOf (W : Fin 8 → Vec F S1x2112x128 .bf16) : Vec F S1x2176x1024 .bf16 :=
  fun y => if h : (y 1).val < 2112 then
      W ⟨(y 2).val / 128, by have := (y 2).isLt; simp at this; omega⟩ (ix3 0 ⟨(y 1).val, h⟩ ⟨(y 2).val % 128, Nat.mod_lt _ (by omega)⟩)
    else k0_pay4 (ix3 0 0 0)

/-- The slab of dequantised weights. -/
def wSlab (w : Vec F S2112x1024 .fp8e4m3) (s : Vec F S1x2112x8 .f32) : Vec F S1x2176x1024 .bf16 := slabOf (wTile w s)

/-- Slab `k` of the kept weights. -/
def slab (x : Vec F S8x2176x1024 .bf16) (k : Fin 8) : Vec F S1x2176x1024 .bf16 := fun y => x (ix3 k (y 1) (y 2))

/-- The kept weights with slab `k` replaced. -/
def putSlab (x : Vec F S8x2176x1024 .bf16) (k : Fin 8) (s : Vec F S1x2176x1024 .bf16) : Vec F S8x2176x1024 .bf16 :=
  fun y => if (y 0).val = k.val then s (ix3 0 (y 1) (y 2)) else x y

theorem slab_putSlab (x : Vec F S8x2176x1024 .bf16) (k : Fin 8) (s : Vec F S1x2176x1024 .bf16) : slab (putSlab x k s) k = s := by
  funext y
  show (if k.val = k.val then s (ix3 0 (y 1) (y 2)) else _) = s y
  rw [if_pos rfl]
  refine congrArg s (funext fun b => ?_)
  match b with
  | ⟨0, _⟩ => exact (Subsingleton.elim (α := Fin 1) _ _)
  | ⟨1, _⟩ => rfl
  | ⟨2, _⟩ => rfl

/-- The scale columns kept so far with the eight of reduction step `k` put in. -/
def scMerge (k : Fin 8) (x : Vec F S512x1024 .bf16) (sc : Vec F S512x128 .f32) : Vec F S512x128 .f32 :=
  fun y => if (y 1).val / 8 = k.val then scaleCol (tile x ⟨(y 1).val % 8, Nat.mod_lt _ (by omega)⟩) (ix2 (y 0) 0) else sc y

/-- One reduction step of the product. -/
def accStep (acc : Vec F S512x2176 .f32) (x : Vec F S512x1024 .bf16) (w : Vec F S1x2176x1024 .bf16) : Vec F S512x2176 .f32 :=
  k0_pay1 acc (xdqBlk x) w

/-- `n` columns of the accumulator from column `o`. -/
def colsOf (o n : ℕ) (h : o + n ≤ 2176) (acc : Vec F S512x2176 .f32) : (⟨2, ![512, n]⟩ : Shape).Idx → Elt F .f32 :=
  fun y => acc (ix2 (y 0) ⟨o + (y 1).val, by have := (y 1).isLt; simp at this; omega⟩)

/-- The normalised query rows. -/
def qBlk (acc : Vec F S512x2176 .f32) (g : Vec F S1x1536 .bf16) : Vec F S512x1536 .bf16 := k0_pay18 (colsOf 0 1536 (by omega) acc) g

/-- The normalised key-value rows. -/
def kvBlk (acc : Vec F S512x2176 .f32) (g : Vec F S1x512 .bf16) : Vec F S512x512 .bf16 := k0_pay19 (colsOf 1536 512 (by omega) acc) g

/-- The first position of the sequence that row block `m` lies in. -/
def startOf (m : Fin 6) (st : Vec F S2 .i32) : Elt F .i32 := st (ix1 ⟨m.val / 3, by have := m.isLt; omega⟩)

/-- The rotated rows. -/
def peBlk (m : Fin 6) (acc : Vec F S512x2176 .f32) (st : Vec F S2 .i32) (fr : Vec F S1x128 .f32) : Vec F S512x64 .bf16 :=
  k0_pay2 (iota .tc S512x128 32 [1] iota_S512x128_d1_w32) (k0_pay20 (BitVec.ofNat 32 m.val) (startOf m st) fr)
    (colsOf 2048 128 (by omega) acc)

/-- The first 64 scale columns. -/
def scOut (sc : Vec F S512x128 .f32) : Vec F S512x64 .f32 :=
  fun y => sc (ix2 (y 0) ⟨(y 1).val, by have := (y 1).isLt; simp at this; omega⟩)

/-- The row block of a grid point. -/
abbrev mOf (i : grid0.Coords) : Fin 6 := i 0
/-- The reduction step of a grid point. -/
abbrev kOf (i : grid0.Coords) : Fin 8 := i 1

/-! ## Reading what the body stores -/

section Reads
variable {κ : Kind} {sp : Space}

/-- A load of group `g` of the activations. -/
theorem ld_tile (a : Memref sig κ sp S512x1024 .bf16) (ha : a.IsWhole) (x : Vec F S512x1024 .bf16) (g : Fin 8) (off : Fin 2 → ℕ)
    (hoff : off = ![0, 128 * g.val]) (inb : ∀ b, off b + S512x128.size b ≤ S512x1024.size b) :
    View.readAt (Elt F) a.view (Rect.unit (s := S512x1024) off S512x128.size inb).toLoadRect (ha.unread x) = tile x g := by
  subst hoff
  rw [View.readAt_unit _ _ _ rfl inb, ha.read_unread]
  funext y
  refine congrArg x (funext fun b => ?_)
  match b with
  | ⟨0, _⟩ => exact Fin.ext (by show 0 + 1 * (y 0).val = (y 0).val; omega)
  | ⟨1, _⟩ => exact Fin.ext (by show 128 * g.val + 1 * (y 1).val = 128 * g.val + (y 1).val; omega)

/-- Eight pieces of 128 columns, the last first. -/
abbrev pieces8 {e : EltTy} (P : Fin 8 → Vec F S512x128 e) : List (View.Piece (Elt F) S512x1024 e) :=
  [⟨Rect.unit (s := S512x1024) ![0, 896] S512x128.size inb_S512x1024_S512x128_0_896, P 7⟩, ⟨Rect.unit (s := S512x1024) ![0, 768] S512x128.size inb_S512x1024_S512x128_0_768, P 6⟩, ⟨Rect.unit (s := S512x1024) ![0, 640] S512x128.size inb_S512x1024_S512x128_0_640, P 5⟩, ⟨Rect.unit (s := S512x1024) ![0, 512] S512x128.size inb_S512x1024_S512x128_0_512, P 4⟩, ⟨Rect.unit (s := S512x1024) ![0, 384] S512x128.size inb_S512x1024_S512x128_0_384, P 3⟩, ⟨Rect.unit (s := S512x1024) ![0, 256] S512x128.size inb_S512x1024_S512x128_0_256, P 2⟩, ⟨Rect.unit (s := S512x1024) ![0, 128] S512x128.size inb_S512x1024_S512x128_0_128, P 1⟩, ⟨Rect.unit (s := S512x1024) ![0, 0] S512x128.size inb_S512x1024_S512x128_0_0, P 0⟩]

theorem glue_emb {α : Type} (P : Fin 8 → S512x128.Idx → α) (g : Fin 8) (off : Fin 2 → ℕ) (hoff : off = ![0, 128 * g.val])
    (inb : ∀ b, off b + S512x128.size b ≤ S512x1024.size b) (x : S512x128.Idx) :
    P g x = glue P ((Rect.unit (s := S512x1024) off S512x128.size inb).emb x) := by
  subst hoff
  have h0 : ((Rect.unit (s := S512x1024) ![0, 128 * g.val] S512x128.size inb).emb x 0).val = (x 0).val := by
    show 0 + 1 * (x 0).val = _; omega
  have h1 : ((Rect.unit (s := S512x1024) ![0, 128 * g.val] S512x128.size inb).emb x 1).val = 128 * g.val + (x 1).val := by
    show 128 * g.val + 1 * (x 1).val = _; omega
  have hx : (x 1).val < 128 := (x 1).isLt
  unfold glue
  have e1 : (⟨((Rect.unit (s := S512x1024) ![0, 128 * g.val] S512x128.size inb).emb x 1).val / 128, by rw [h1]; have := g.isLt; omega⟩ : Fin 8) = g :=
    Fin.ext (by show _ / 128 = _; rw [h1]; omega)
  refine (congrFun (congrArg P e1) _).symm.trans (congrArg (P _) (funext fun b => ?_))
  match b with
  | ⟨0, _⟩ => exact Fin.ext h0.symm
  | ⟨1, _⟩ =>
    refine Fin.ext ?_
    show (x 1).val = ((Rect.unit (s := S512x1024) ![0, 128 * g.val] S512x128.size inb).emb x 1).val % 128
    rw [h1]; omega

/-- Eight pieces of 128 columns read back as one block. -/
theorem read_pieces8 {e : EltTy} (v : View sig κ sp S512x1024 e) (f : v.ty.Contents (Elt F)) (P : Fin 8 → Vec F S512x128 e) :
    v.read (Elt F) (v.writes (Elt F) f (pieces8 P)) = glue P := by
  funext y
  refine View.read_writes_apply_of_pieces v f (glue P) (pieces8 P) ?_ y
    (View.cover_of_tiledL (pieces8 P) S512x128.size (by sl_kernel_rfl) y)
  intro p hp
  simp only [List.mem_cons, List.not_mem_nil, or_false] at hp
  rcases hp with rfl | rfl | rfl | rfl | rfl | rfl | rfl | rfl
  · exact glue_emb P 7 ![0, 896] rfl inb_S512x1024_S512x128_0_896
  · exact glue_emb P 6 ![0, 768] rfl inb_S512x1024_S512x128_0_768
  · exact glue_emb P 5 ![0, 640] rfl inb_S512x1024_S512x128_0_640
  · exact glue_emb P 4 ![0, 512] rfl inb_S512x1024_S512x128_0_512
  · exact glue_emb P 3 ![0, 384] rfl inb_S512x1024_S512x128_0_384
  · exact glue_emb P 2 ![0, 256] rfl inb_S512x1024_S512x128_0_256
  · exact glue_emb P 1 ![0, 128] rfl inb_S512x1024_S512x128_0_128
  · exact glue_emb P 0 ![0, 0] rfl inb_S512x1024_S512x128_0_0

/-- The codes' eight pieces, over loads of the eight groups. -/
theorem read_codes (v : View sig κ sp S512x1024 .fp8e4m3) (f : v.ty.Contents (Elt F)) {κ' : Kind} {sp' : Space}
    (a : Memref sig κ' sp' S512x1024 .bf16) (ha : a.IsWhole) (x : Vec F S512x1024 .bf16) :
    v.read (Elt F) (v.writes (Elt F) f
      [⟨Rect.unit (s := S512x1024) ![0, 896] S512x128.size inb_S512x1024_S512x128_0_896, codeTile (View.readAt (Elt F) a.view (Rect.unit (s := S512x1024) ![0, 896] S512x128.size inb_S512x1024_S512x128_0_896).toLoadRect (ha.unread x))⟩, ⟨Rect.unit (s := S512x1024) ![0, 768] S512x128.size inb_S512x1024_S512x128_0_768, codeTile (View.readAt (Elt F) a.view (Rect.unit (s := S512x1024) ![0, 768] S512x128.size inb_S512x1024_S512x128_0_768).toLoadRect (ha.unread x))⟩, ⟨Rect.unit (s := S512x1024) ![0, 640] S512x128.size inb_S512x1024_S512x128_0_640, codeTile (View.readAt (Elt F) a.view (Rect.unit (s := S512x1024) ![0, 640] S512x128.size inb_S512x1024_S512x128_0_640).toLoadRect (ha.unread x))⟩, ⟨Rect.unit (s := S512x1024) ![0, 512] S512x128.size inb_S512x1024_S512x128_0_512, codeTile (View.readAt (Elt F) a.view (Rect.unit (s := S512x1024) ![0, 512] S512x128.size inb_S512x1024_S512x128_0_512).toLoadRect (ha.unread x))⟩, ⟨Rect.unit (s := S512x1024) ![0, 384] S512x128.size inb_S512x1024_S512x128_0_384, codeTile (View.readAt (Elt F) a.view (Rect.unit (s := S512x1024) ![0, 384] S512x128.size inb_S512x1024_S512x128_0_384).toLoadRect (ha.unread x))⟩, ⟨Rect.unit (s := S512x1024) ![0, 256] S512x128.size inb_S512x1024_S512x128_0_256, codeTile (View.readAt (Elt F) a.view (Rect.unit (s := S512x1024) ![0, 256] S512x128.size inb_S512x1024_S512x128_0_256).toLoadRect (ha.unread x))⟩, ⟨Rect.unit (s := S512x1024) ![0, 128] S512x128.size inb_S512x1024_S512x128_0_128, codeTile (View.readAt (Elt F) a.view (Rect.unit (s := S512x1024) ![0, 128] S512x128.size inb_S512x1024_S512x128_0_128).toLoadRect (ha.unread x))⟩, ⟨Rect.unit (s := S512x1024) ![0, 0] S512x128.size inb_S512x1024_S512x128_0_0, codeTile (View.readAt (Elt F) a.view (Rect.unit (s := S512x1024) ![0, 0] S512x128.size inb_S512x1024_S512x128_0_0).toLoadRect (ha.unread x))⟩])
      = codesBlk x := by
  simp only [ld_tile a ha x 0 ![0, 0] rfl, ld_tile a ha x 1 ![0, 128] rfl, ld_tile a ha x 2 ![0, 256] rfl, ld_tile a ha x 3 ![0, 384] rfl, ld_tile a ha x 4 ![0, 512] rfl, ld_tile a ha x 5 ![0, 640] rfl, ld_tile a ha x 6 ![0, 768] rfl, ld_tile a ha x 7 ![0, 896] rfl]
  exact read_pieces8 v f fun g => codeTile (tile x g)

/-- The dequantised values' eight pieces, over loads of the eight groups. -/
theorem read_xdq (v : View sig κ sp S512x1024 .bf16) (f : v.ty.Contents (Elt F)) {κ' : Kind} {sp' : Space}
    (a : Memref sig κ' sp' S512x1024 .bf16) (ha : a.IsWhole) (x : Vec F S512x1024 .bf16) :
    v.read (Elt F) (v.writes (Elt F) f
      [⟨Rect.unit (s := S512x1024) ![0, 896] S512x128.size inb_S512x1024_S512x128_0_896, xdqTile (View.readAt (Elt F) a.view (Rect.unit (s := S512x1024) ![0, 896] S512x128.size inb_S512x1024_S512x128_0_896).toLoadRect (ha.unread x))⟩, ⟨Rect.unit (s := S512x1024) ![0, 768] S512x128.size inb_S512x1024_S512x128_0_768, xdqTile (View.readAt (Elt F) a.view (Rect.unit (s := S512x1024) ![0, 768] S512x128.size inb_S512x1024_S512x128_0_768).toLoadRect (ha.unread x))⟩, ⟨Rect.unit (s := S512x1024) ![0, 640] S512x128.size inb_S512x1024_S512x128_0_640, xdqTile (View.readAt (Elt F) a.view (Rect.unit (s := S512x1024) ![0, 640] S512x128.size inb_S512x1024_S512x128_0_640).toLoadRect (ha.unread x))⟩, ⟨Rect.unit (s := S512x1024) ![0, 512] S512x128.size inb_S512x1024_S512x128_0_512, xdqTile (View.readAt (Elt F) a.view (Rect.unit (s := S512x1024) ![0, 512] S512x128.size inb_S512x1024_S512x128_0_512).toLoadRect (ha.unread x))⟩, ⟨Rect.unit (s := S512x1024) ![0, 384] S512x128.size inb_S512x1024_S512x128_0_384, xdqTile (View.readAt (Elt F) a.view (Rect.unit (s := S512x1024) ![0, 384] S512x128.size inb_S512x1024_S512x128_0_384).toLoadRect (ha.unread x))⟩, ⟨Rect.unit (s := S512x1024) ![0, 256] S512x128.size inb_S512x1024_S512x128_0_256, xdqTile (View.readAt (Elt F) a.view (Rect.unit (s := S512x1024) ![0, 256] S512x128.size inb_S512x1024_S512x128_0_256).toLoadRect (ha.unread x))⟩, ⟨Rect.unit (s := S512x1024) ![0, 128] S512x128.size inb_S512x1024_S512x128_0_128, xdqTile (View.readAt (Elt F) a.view (Rect.unit (s := S512x1024) ![0, 128] S512x128.size inb_S512x1024_S512x128_0_128).toLoadRect (ha.unread x))⟩, ⟨Rect.unit (s := S512x1024) ![0, 0] S512x128.size inb_S512x1024_S512x128_0_0, xdqTile (View.readAt (Elt F) a.view (Rect.unit (s := S512x1024) ![0, 0] S512x128.size inb_S512x1024_S512x128_0_0).toLoadRect (ha.unread x))⟩])
      = xdqBlk x := by
  simp only [ld_tile a ha x 0 ![0, 0] rfl, ld_tile a ha x 1 ![0, 128] rfl, ld_tile a ha x 2 ![0, 256] rfl, ld_tile a ha x 3 ![0, 384] rfl, ld_tile a ha x 4 ![0, 512] rfl, ld_tile a ha x 5 ![0, 640] rfl, ld_tile a ha x 6 ![0, 768] rfl, ld_tile a ha x 7 ![0, 896] rfl]
  exact read_pieces8 v f fun g => xdqTile (tile x g)

/-- One whole-block store reads back as its payload. -/
theorem read_whole {s : Shape} {e : EltTy} (v : View sig κ sp s e) (f : v.ty.Contents (Elt F)) {off : Fin s.rank → ℕ}
    (inb : ∀ b, off b + s.size b ≤ s.size b) (w w' : s.Idx → Elt F e) (L : List (View.Piece (Elt F) s e)) (h : w = w') :
    v.read (Elt F) (v.writes (Elt F) f (⟨Rect.unit off s.size inb, w⟩ :: L)) = w' := by
  subst h; exact View.read_writes_full v f inb w L

/-- A load of a whole buffer held at `x`. -/
theorem ld_whole {s : Shape} {e : EltTy} (a : Memref sig κ sp s e) (ha : a.IsWhole) (x : s.Idx → Elt F e) {off : Fin s.rank → ℕ}
    (inb : ∀ b, off b + s.size b ≤ s.size b) :
    View.readAt (Elt F) a.view (Rect.unit off s.size inb).toLoadRect (ha.unread x) = x := by
  rw [View.readAt_full, ha.read_unread]

/-- One select of the scale chain: the column put at lane `8 k + g`. -/
def selCol (k : BitVec 32) (g : BitVec 32) (sc : FVec F S512x128 .f32) (col : FVec F S512x1 .f32) : FVec F S512x128 .f32 :=
  select (cmpi .eq (iota .tc S512x128 32 [1] iota_S512x128_d1_w32) (broadcast S512x128 (Scalar.addi (Scalar.muli k 8#32) g)))
    (broadcastTo S512x128 (shapeCast S512x1 col shapeCasts_S512x1_S512x1) broadcasts_S512x1_S512x128) sc

theorem selWord : ∀ (k g : Fin 8) (l : Fin 128),
    (IntOp.cmpi .eq (BitVec.ofNat 32 l.val) (Scalar.addi (Scalar.muli (BitVec.ofNat 32 k.val) 8#32) (BitVec.ofNat 32 g.val)) = 1)
      ↔ l.val = 8 * k.val + g.val := by decide +kernel

theorem selCol_apply (k g : Fin 8) (sc : FVec F S512x128 .f32) (col : FVec F S512x1 .f32) (y : S512x128.Idx) :
    selCol (BitVec.ofNat 32 k.val) (BitVec.ofNat 32 g.val) sc col y
      = if (y 1).val = 8 * k.val + g.val then col (ix2 (y 0) 0) else sc y := by
  have h := selWord k g (y 1)
  have hb : broadcastTo S512x128 (shapeCast S512x1 col shapeCasts_S512x1_S512x1) broadcasts_S512x1_S512x128 y = col (ix2 (y 0) 0) := by
    rw [shapeCast_self]
    refine congrArg col (funext fun b => ?_)
    match b with
    | ⟨0, _⟩ => rfl
    | ⟨1, _⟩ => rfl
  show Scalar.select (IntOp.cmpi .eq (iota .tc S512x128 32 [1] iota_S512x128_d1_w32 y) _) (broadcastTo _ _ _ y) (sc y) = _
  rw [hb, show iota .tc S512x128 32 [1] iota_S512x128_d1_w32 y = BitVec.ofNat 32 (y 1).val from iota_single_apply _ _ _ _ _ _]
  unfold Scalar.select
  exact if_congr h rfl rfl

/-- The eight selects of one step put the step's eight scale columns in. -/
theorem selChain (k : Fin 8) (x : Vec F S512x1024 .bf16) (sc : Vec F S512x128 .f32) :
    selCol (BitVec.ofNat 32 k.val) 7#32 (selCol (BitVec.ofNat 32 k.val) 6#32 (selCol (BitVec.ofNat 32 k.val) 5#32 (selCol (BitVec.ofNat 32 k.val) 4#32 (selCol (BitVec.ofNat 32 k.val) 3#32 (selCol (BitVec.ofNat 32 k.val) 2#32 (selCol (BitVec.ofNat 32 k.val) 1#32 (selCol (BitVec.ofNat 32 k.val) 0#32 (sc) (scaleCol (tile x 0))) (scaleCol (tile x 1))) (scaleCol (tile x 2))) (scaleCol (tile x 3))) (scaleCol (tile x 4))) (scaleCol (tile x 5))) (scaleCol (tile x 6))) (scaleCol (tile x 7))
      = scMerge k x sc := by
  funext y
  have s0 : ∀ (sc : FVec F S512x128 .f32) (col : FVec F S512x1 .f32), selCol (BitVec.ofNat 32 k.val) 0#32 sc col y
      = if (y 1).val = 8 * k.val + 0 then col (ix2 (y 0) 0) else sc y := fun sc col => selCol_apply k 0 sc col y
  have s1 : ∀ (sc : FVec F S512x128 .f32) (col : FVec F S512x1 .f32), selCol (BitVec.ofNat 32 k.val) 1#32 sc col y
      = if (y 1).val = 8 * k.val + 1 then col (ix2 (y 0) 0) else sc y := fun sc col => selCol_apply k 1 sc col y
  have s2 : ∀ (sc : FVec F S512x128 .f32) (col : FVec F S512x1 .f32), selCol (BitVec.ofNat 32 k.val) 2#32 sc col y
      = if (y 1).val = 8 * k.val + 2 then col (ix2 (y 0) 0) else sc y := fun sc col => selCol_apply k 2 sc col y
  have s3 : ∀ (sc : FVec F S512x128 .f32) (col : FVec F S512x1 .f32), selCol (BitVec.ofNat 32 k.val) 3#32 sc col y
      = if (y 1).val = 8 * k.val + 3 then col (ix2 (y 0) 0) else sc y := fun sc col => selCol_apply k 3 sc col y
  have s4 : ∀ (sc : FVec F S512x128 .f32) (col : FVec F S512x1 .f32), selCol (BitVec.ofNat 32 k.val) 4#32 sc col y
      = if (y 1).val = 8 * k.val + 4 then col (ix2 (y 0) 0) else sc y := fun sc col => selCol_apply k 4 sc col y
  have s5 : ∀ (sc : FVec F S512x128 .f32) (col : FVec F S512x1 .f32), selCol (BitVec.ofNat 32 k.val) 5#32 sc col y
      = if (y 1).val = 8 * k.val + 5 then col (ix2 (y 0) 0) else sc y := fun sc col => selCol_apply k 5 sc col y
  have s6 : ∀ (sc : FVec F S512x128 .f32) (col : FVec F S512x1 .f32), selCol (BitVec.ofNat 32 k.val) 6#32 sc col y
      = if (y 1).val = 8 * k.val + 6 then col (ix2 (y 0) 0) else sc y := fun sc col => selCol_apply k 6 sc col y
  have s7 : ∀ (sc : FVec F S512x128 .f32) (col : FVec F S512x1 .f32), selCol (BitVec.ofNat 32 k.val) 7#32 sc col y
      = if (y 1).val = 8 * k.val + 7 then col (ix2 (y 0) 0) else sc y := fun sc col => selCol_apply k 7 sc col y
  rw [s7, s6, s5, s4, s3, s2, s1, s0]
  unfold scMerge
  have hk := k.isLt
  by_cases h : (y 1).val / 8 = k.val
  · rw [if_pos h]
    have key : ∀ (g : ℕ) (hg : g < 8), (y 1).val = 8 * k.val + g → (⟨(y 1).val % 8, Nat.mod_lt _ (by omega)⟩ : Fin 8) = ⟨g, hg⟩ :=
      fun g hg h => Fin.ext (by show (y 1).val % 8 = g; omega)
    by_cases h7 : (y 1).val = 8 * k.val + 7
    · rw [if_pos h7, key 7 (by omega) h7]; rfl
    rw [if_neg h7]
    by_cases h6 : (y 1).val = 8 * k.val + 6
    · rw [if_pos h6, key 6 (by omega) h6]; rfl
    rw [if_neg h6]
    by_cases h5 : (y 1).val = 8 * k.val + 5
    · rw [if_pos h5, key 5 (by omega) h5]; rfl
    rw [if_neg h5]
    by_cases h4 : (y 1).val = 8 * k.val + 4
    · rw [if_pos h4, key 4 (by omega) h4]; rfl
    rw [if_neg h4]
    by_cases h3 : (y 1).val = 8 * k.val + 3
    · rw [if_pos h3, key 3 (by omega) h3]; rfl
    rw [if_neg h3]
    by_cases h2 : (y 1).val = 8 * k.val + 2
    · rw [if_pos h2, key 2 (by omega) h2]; rfl
    rw [if_neg h2]
    by_cases h1 : (y 1).val = 8 * k.val + 1
    · rw [if_pos h1, key 1 (by omega) h1]; rfl
    rw [if_neg h1]
    by_cases h0 : (y 1).val = 8 * k.val + 0
    · rw [if_pos h0, key 0 (by omega) h0]; rfl
    rw [if_neg h0]
    exfalso; omega
  · rw [if_neg h]
    rw [if_neg (c := (y 1).val = 8 * k.val + 7) (by omega), if_neg (c := (y 1).val = 8 * k.val + 6) (by omega), if_neg (c := (y 1).val = 8 * k.val + 5) (by omega), if_neg (c := (y 1).val = 8 * k.val + 4) (by omega), if_neg (c := (y 1).val = 8 * k.val + 3) (by omega), if_neg (c := (y 1).val = 8 * k.val + 2) (by omega), if_neg (c := (y 1).val = 8 * k.val + 1) (by omega), if_neg (c := (y 1).val = 8 * k.val + 0) (by omega)]

/-- The scale buffer after a step, over loads of the eight groups. -/
theorem sc_chain (i : grid0.Coords) (a : Memref sig κ sp S512x1024 .bf16) (ha : a.IsWhole) (x : Vec F S512x1024 .bf16) (sc sc' : Vec F S512x128 .f32)
    (hsc : sc = sc') :
    shapeCast S512x128 (
    selCol (BitVec.ofNat 32 (i 1).val) 7#32 (selCol (BitVec.ofNat 32 (i 1).val) 6#32 (selCol (BitVec.ofNat 32 (i 1).val) 5#32 (selCol (BitVec.ofNat 32 (i 1).val) 4#32 (selCol (BitVec.ofNat 32 (i 1).val) 3#32 (selCol (BitVec.ofNat 32 (i 1).val) 2#32 (selCol (BitVec.ofNat 32 (i 1).val) 1#32 (selCol (BitVec.ofNat 32 (i 1).val) 0#32 (sc) (scaleCol (View.readAt (Elt F) a.view (Rect.unit (s := S512x1024) ![0, 0] S512x128.size inb_S512x1024_S512x128_0_0).toLoadRect (ha.unread x)))) (scaleCol (View.readAt (Elt F) a.view (Rect.unit (s := S512x1024) ![0, 128] S512x128.size inb_S512x1024_S512x128_0_128).toLoadRect (ha.unread x)))) (scaleCol (View.readAt (Elt F) a.view (Rect.unit (s := S512x1024) ![0, 256] S512x128.size inb_S512x1024_S512x128_0_256).toLoadRect (ha.unread x)))) (scaleCol (View.readAt (Elt F) a.view (Rect.unit (s := S512x1024) ![0, 384] S512x128.size inb_S512x1024_S512x128_0_384).toLoadRect (ha.unread x)))) (scaleCol (View.readAt (Elt F) a.view (Rect.unit (s := S512x1024) ![0, 512] S512x128.size inb_S512x1024_S512x128_0_512).toLoadRect (ha.unread x)))) (scaleCol (View.readAt (Elt F) a.view (Rect.unit (s := S512x1024) ![0, 640] S512x128.size inb_S512x1024_S512x128_0_640).toLoadRect (ha.unread x)))) (scaleCol (View.readAt (Elt F) a.view (Rect.unit (s := S512x1024) ![0, 768] S512x128.size inb_S512x1024_S512x128_0_768).toLoadRect (ha.unread x)))) (scaleCol (View.readAt (Elt F) a.view (Rect.unit (s := S512x1024) ![0, 896] S512x128.size inb_S512x1024_S512x128_0_896).toLoadRect (ha.unread x)))) shapeCasts_S512x128_S512x128
      = scMerge (kOf i) x sc' := by
  subst hsc
  rw [shapeCast_self]
  simp only [ld_tile a ha x 0 ![0, 0] rfl, ld_tile a ha x 1 ![0, 128] rfl, ld_tile a ha x 2 ![0, 256] rfl, ld_tile a ha x 3 ![0, 384] rfl, ld_tile a ha x 4 ![0, 512] rfl, ld_tile a ha x 5 ![0, 640] rfl, ld_tile a ha x 6 ![0, 768] rfl, ld_tile a ha x 7 ![0, 896] rfl]
  exact selChain (kOf i) x sc

theorem wordOf_lt : ∀ k : Fin 8, (Scalar.indexCast (BitVec.ofNat 32 k.val)).toNat = k.val := by decide +kernel

/-- An offset vector whose first component is the reduction step's word. -/
theorem offAt_eq (p q : ℕ) {off : Fin 3 → ℕ} {k : Fin 8} (h : off = ![(Scalar.indexCast (BitVec.ofNat 32 k.val)).toNat, p, q]) :
    off = ![k.val, p, q] := by rw [h, wordOf_lt]

/-- The sixteen stores that fill slab `k`, the last first. -/
abbrev wPieces (i : grid0.Coords) (hc : cond0_0 i) (W : Fin 8 → Vec F S1x2112x128 .bf16) : List (View.Piece (Elt F) S8x2176x1024 .bf16) :=
  [⟨Rect.unit (s := S8x2176x1024) (k0_off16 i) S1x64x128.size (k0_off16_inb i hc), k0_pay4⟩,
   ⟨Rect.unit (s := S8x2176x1024) (k0_off15 i) S1x2112x128.size (k0_off15_inb i hc), W 7⟩,
   ⟨Rect.unit (s := S8x2176x1024) (k0_off14 i) S1x64x128.size (k0_off14_inb i hc), k0_pay4⟩,
   ⟨Rect.unit (s := S8x2176x1024) (k0_off13 i) S1x2112x128.size (k0_off13_inb i hc), W 6⟩,
   ⟨Rect.unit (s := S8x2176x1024) (k0_off12 i) S1x64x128.size (k0_off12_inb i hc), k0_pay4⟩,
   ⟨Rect.unit (s := S8x2176x1024) (k0_off11 i) S1x2112x128.size (k0_off11_inb i hc), W 5⟩,
   ⟨Rect.unit (s := S8x2176x1024) (k0_off10 i) S1x64x128.size (k0_off10_inb i hc), k0_pay4⟩,
   ⟨Rect.unit (s := S8x2176x1024) (k0_off9 i) S1x2112x128.size (k0_off9_inb i hc), W 4⟩,
   ⟨Rect.unit (s := S8x2176x1024) (k0_off8 i) S1x64x128.size (k0_off8_inb i hc), k0_pay4⟩,
   ⟨Rect.unit (s := S8x2176x1024) (k0_off7 i) S1x2112x128.size (k0_off7_inb i hc), W 3⟩,
   ⟨Rect.unit (s := S8x2176x1024) (k0_off6 i) S1x64x128.size (k0_off6_inb i hc), k0_pay4⟩,
   ⟨Rect.unit (s := S8x2176x1024) (k0_off5 i) S1x2112x128.size (k0_off5_inb i hc), W 2⟩,
   ⟨Rect.unit (s := S8x2176x1024) (k0_off4 i) S1x64x128.size (k0_off4_inb i hc), k0_pay4⟩,
   ⟨Rect.unit (s := S8x2176x1024) (k0_off3 i) S1x2112x128.size (k0_off3_inb i hc), W 1⟩,
   ⟨Rect.unit (s := S8x2176x1024) (k0_off2 i) S1x64x128.size (k0_off2_inb i hc), k0_pay4⟩,
   ⟨Rect.unit (s := S8x2176x1024) (k0_off1 i) S1x2112x128.size (k0_off1_inb i hc), W 0⟩]

theorem wpiece_emb (X : Vec F S8x2176x1024 .bf16) (k : Fin 8) (W : Fin 8 → Vec F S1x2112x128 .bf16) (g : Fin 8) (off : Fin 3 → ℕ)
    (hoff : off = ![k.val, 0, 128 * g.val]) (inb : ∀ b, off b + S1x2112x128.size b ≤ S8x2176x1024.size b) (x : S1x2112x128.Idx) :
    W g x = putSlab X k (slabOf W) ((Rect.unit (s := S8x2176x1024) off S1x2112x128.size inb).emb x) := by
  subst hoff
  generalize hz : (Rect.unit (s := S8x2176x1024) ![k.val, 0, 128 * g.val] S1x2112x128.size inb).emb x = z
  have b0 : (x 0).val < 1 := (x 0).isLt
  have b1 : (x 1).val < 2112 := (x 1).isLt
  have b2 : (x 2).val < 128 := (x 2).isLt
  have h0 : (z 0).val = k.val := by
    rw [← hz]; show k.val + 1 * (x 0).val = _; omega
  have h1 : (z 1).val = (x 1).val := by
    rw [← hz]; show 0 + 1 * (x 1).val = _; omega
  have h2 : (z 2).val = 128 * g.val + (x 2).val := by
    rw [← hz]; show 128 * g.val + 1 * (x 2).val = _; omega
  unfold putSlab
  rw [if_pos h0]
  unfold slabOf
  have hlt : (z 1).val < 2112 := by omega
  refine Eq.trans ?_ (dif_pos hlt).symm
  have eg : (⟨(z 2).val / 128, by rw [h2]; have := g.isLt; omega⟩ : Fin 8) = g := Fin.ext (by show _ / 128 = _; rw [h2]; omega)
  refine (congrFun (congrArg W eg) _).symm.trans (congrArg (W _) (funext fun b => ?_))
  match b with
  | ⟨0, _⟩ => exact Fin.ext (by show (x 0).val = 0; omega)
  | ⟨1, _⟩ => exact Fin.ext h1.symm
  | ⟨2, _⟩ => exact Fin.ext (by show (x 2).val = (z 2).val % 128; rw [h2]; omega)

theorem zpiece_emb (X : Vec F S8x2176x1024 .bf16) (k : Fin 8) (W : Fin 8 → Vec F S1x2112x128 .bf16) (q : ℕ) (off : Fin 3 → ℕ)
    (hoff : off = ![k.val, 2112, q]) (inb : ∀ b, off b + S1x64x128.size b ≤ S8x2176x1024.size b) (x : S1x64x128.Idx) :
    (k0_pay4 : FVec F S1x64x128 .bf16) x = putSlab X k (slabOf W) ((Rect.unit (s := S8x2176x1024) off S1x64x128.size inb).emb x) := by
  subst hoff
  generalize hz : (Rect.unit (s := S8x2176x1024) ![k.val, 2112, q] S1x64x128.size inb).emb x = z
  have b0 : (x 0).val < 1 := (x 0).isLt
  have h0 : (z 0).val = k.val := by
    rw [← hz]; show k.val + 1 * (x 0).val = _; omega
  have h1 : (z 1).val = 2112 + (x 1).val := by
    rw [← hz]; show 2112 + 1 * (x 1).val = _; omega
  unfold putSlab
  rw [if_pos h0]
  unfold slabOf
  have hlt : ¬ (z 1).val < 2112 := by omega
  refine Eq.trans ?_ (dif_neg hlt).symm
  rfl

theorem off1_eq (i : grid0.Coords) : k0_off1 i = ![(kOf i).val, 0, 128 * (0 : Fin 8).val] := offAt_eq (k := i 1) _ _ rfl
theorem off2_eq (i : grid0.Coords) : k0_off2 i = ![(kOf i).val, 2112, 128 * (0 : Fin 8).val] := offAt_eq (k := i 1) _ _ rfl
theorem off3_eq (i : grid0.Coords) : k0_off3 i = ![(kOf i).val, 0, 128 * (1 : Fin 8).val] := offAt_eq (k := i 1) _ _ rfl
theorem off4_eq (i : grid0.Coords) : k0_off4 i = ![(kOf i).val, 2112, 128 * (1 : Fin 8).val] := offAt_eq (k := i 1) _ _ rfl
theorem off5_eq (i : grid0.Coords) : k0_off5 i = ![(kOf i).val, 0, 128 * (2 : Fin 8).val] := offAt_eq (k := i 1) _ _ rfl
theorem off6_eq (i : grid0.Coords) : k0_off6 i = ![(kOf i).val, 2112, 128 * (2 : Fin 8).val] := offAt_eq (k := i 1) _ _ rfl
theorem off7_eq (i : grid0.Coords) : k0_off7 i = ![(kOf i).val, 0, 128 * (3 : Fin 8).val] := offAt_eq (k := i 1) _ _ rfl
theorem off8_eq (i : grid0.Coords) : k0_off8 i = ![(kOf i).val, 2112, 128 * (3 : Fin 8).val] := offAt_eq (k := i 1) _ _ rfl
theorem off9_eq (i : grid0.Coords) : k0_off9 i = ![(kOf i).val, 0, 128 * (4 : Fin 8).val] := offAt_eq (k := i 1) _ _ rfl
theorem off10_eq (i : grid0.Coords) : k0_off10 i = ![(kOf i).val, 2112, 128 * (4 : Fin 8).val] := offAt_eq (k := i 1) _ _ rfl
theorem off11_eq (i : grid0.Coords) : k0_off11 i = ![(kOf i).val, 0, 128 * (5 : Fin 8).val] := offAt_eq (k := i 1) _ _ rfl
theorem off12_eq (i : grid0.Coords) : k0_off12 i = ![(kOf i).val, 2112, 128 * (5 : Fin 8).val] := offAt_eq (k := i 1) _ _ rfl
theorem off13_eq (i : grid0.Coords) : k0_off13 i = ![(kOf i).val, 0, 128 * (6 : Fin 8).val] := offAt_eq (k := i 1) _ _ rfl
theorem off14_eq (i : grid0.Coords) : k0_off14 i = ![(kOf i).val, 2112, 128 * (6 : Fin 8).val] := offAt_eq (k := i 1) _ _ rfl
theorem off15_eq (i : grid0.Coords) : k0_off15 i = ![(kOf i).val, 0, 128 * (7 : Fin 8).val] := offAt_eq (k := i 1) _ _ rfl
theorem off16_eq (i : grid0.Coords) : k0_off16 i = ![(kOf i).val, 2112, 128 * (7 : Fin 8).val] := offAt_eq (k := i 1) _ _ rfl

theorem mem_unit3 (off size : Fin 3 → ℕ) (inb : ∀ b, off b + size b ≤ S8x2176x1024.size b) (y : S8x2176x1024.Idx) (a b c : ℕ)
    (hoff : off = ![a, b, c]) (h0 : a ≤ (y 0).val ∧ (y 0).val < a + size 0) (h1 : b ≤ (y 1).val ∧ (y 1).val < b + size 1)
    (h2 : c ≤ (y 2).val ∧ (y 2).val < c + size 2) : y ∈ (Rect.unit (s := S8x2176x1024) off size inb).set := by
  subst hoff
  refine Rect.mem_set_unit.mpr fun d => ?_
  match d with
  | ⟨0, _⟩ => exact h0
  | ⟨1, _⟩ => exact h1
  | ⟨2, _⟩ => exact h2

/-- A place of the stored slab lies in one of the sixteen pieces. -/
theorem cover_wPieces (i : grid0.Coords) (hc : cond0_0 i) (W : Fin 8 → Vec F S1x2112x128 .bf16) (y : S8x2176x1024.Idx)
    (hy : (y 0).val = (kOf i).val) : ∃ p ∈ wPieces i hc W, y ∈ p.1.set := by
  have b1 : (y 1).val < 2176 := (y 1).isLt
  have b2 : (y 2).val < 1024 := (y 2).isLt
  have h0 : (kOf i).val ≤ (y 0).val ∧ (y 0).val < (kOf i).val + 1 := by omega
  by_cases h : (y 1).val < 2112
  · have h1 : 0 ≤ (y 1).val ∧ (y 1).val < 0 + 2112 := by omega
    have hg : (y 2).val / 128 = 0 ∨ (y 2).val / 128 = 1 ∨ (y 2).val / 128 = 2 ∨ (y 2).val / 128 = 3 ∨ (y 2).val / 128 = 4 ∨ (y 2).val / 128 = 5
      ∨ (y 2).val / 128 = 6 ∨ (y 2).val / 128 = 7 := by omega
    rcases hg with hg | hg | hg | hg | hg | hg | hg | hg
    · exact ⟨⟨Rect.unit (s := S8x2176x1024) (k0_off1 i) S1x2112x128.size (k0_off1_inb i hc), W 0⟩, by simp only [List.mem_cons, _root_.true_or, _root_.or_true], mem_unit3 _ S1x2112x128.size (k0_off1_inb i hc) y _ _ 0 (off1_eq i) h0 h1 (by show 0 ≤ _ ∧ _ < 0 + 128; omega)⟩
    · exact ⟨⟨Rect.unit (s := S8x2176x1024) (k0_off3 i) S1x2112x128.size (k0_off3_inb i hc), W 1⟩, by simp only [List.mem_cons, _root_.true_or, _root_.or_true], mem_unit3 _ S1x2112x128.size (k0_off3_inb i hc) y _ _ 128 (off3_eq i) h0 h1 (by show 128 ≤ _ ∧ _ < 128 + 128; omega)⟩
    · exact ⟨⟨Rect.unit (s := S8x2176x1024) (k0_off5 i) S1x2112x128.size (k0_off5_inb i hc), W 2⟩, by simp only [List.mem_cons, _root_.true_or, _root_.or_true], mem_unit3 _ S1x2112x128.size (k0_off5_inb i hc) y _ _ 256 (off5_eq i) h0 h1 (by show 256 ≤ _ ∧ _ < 256 + 128; omega)⟩
    · exact ⟨⟨Rect.unit (s := S8x2176x1024) (k0_off7 i) S1x2112x128.size (k0_off7_inb i hc), W 3⟩, by simp only [List.mem_cons, _root_.true_or, _root_.or_true], mem_unit3 _ S1x2112x128.size (k0_off7_inb i hc) y _ _ 384 (off7_eq i) h0 h1 (by show 384 ≤ _ ∧ _ < 384 + 128; omega)⟩
    · exact ⟨⟨Rect.unit (s := S8x2176x1024) (k0_off9 i) S1x2112x128.size (k0_off9_inb i hc), W 4⟩, by simp only [List.mem_cons, _root_.true_or, _root_.or_true], mem_unit3 _ S1x2112x128.size (k0_off9_inb i hc) y _ _ 512 (off9_eq i) h0 h1 (by show 512 ≤ _ ∧ _ < 512 + 128; omega)⟩
    · exact ⟨⟨Rect.unit (s := S8x2176x1024) (k0_off11 i) S1x2112x128.size (k0_off11_inb i hc), W 5⟩, by simp only [List.mem_cons, _root_.true_or, _root_.or_true], mem_unit3 _ S1x2112x128.size (k0_off11_inb i hc) y _ _ 640 (off11_eq i) h0 h1 (by show 640 ≤ _ ∧ _ < 640 + 128; omega)⟩
    · exact ⟨⟨Rect.unit (s := S8x2176x1024) (k0_off13 i) S1x2112x128.size (k0_off13_inb i hc), W 6⟩, by simp only [List.mem_cons, _root_.true_or, _root_.or_true], mem_unit3 _ S1x2112x128.size (k0_off13_inb i hc) y _ _ 768 (off13_eq i) h0 h1 (by show 768 ≤ _ ∧ _ < 768 + 128; omega)⟩
    · exact ⟨⟨Rect.unit (s := S8x2176x1024) (k0_off15 i) S1x2112x128.size (k0_off15_inb i hc), W 7⟩, by simp only [List.mem_cons, _root_.true_or, _root_.or_true], mem_unit3 _ S1x2112x128.size (k0_off15_inb i hc) y _ _ 896 (off15_eq i) h0 h1 (by show 896 ≤ _ ∧ _ < 896 + 128; omega)⟩
  · have h1 : 2112 ≤ (y 1).val ∧ (y 1).val < 2112 + 64 := by omega
    have hg : (y 2).val / 128 = 0 ∨ (y 2).val / 128 = 1 ∨ (y 2).val / 128 = 2 ∨ (y 2).val / 128 = 3 ∨ (y 2).val / 128 = 4 ∨ (y 2).val / 128 = 5
      ∨ (y 2).val / 128 = 6 ∨ (y 2).val / 128 = 7 := by omega
    rcases hg with hg | hg | hg | hg | hg | hg | hg | hg
    · exact ⟨⟨Rect.unit (s := S8x2176x1024) (k0_off2 i) S1x64x128.size (k0_off2_inb i hc), k0_pay4⟩, by simp only [List.mem_cons, _root_.true_or, _root_.or_true], mem_unit3 _ S1x64x128.size (k0_off2_inb i hc) y _ _ 0 (off2_eq i) h0 h1 (by show 0 ≤ _ ∧ _ < 0 + 128; omega)⟩
    · exact ⟨⟨Rect.unit (s := S8x2176x1024) (k0_off4 i) S1x64x128.size (k0_off4_inb i hc), k0_pay4⟩, by simp only [List.mem_cons, _root_.true_or, _root_.or_true], mem_unit3 _ S1x64x128.size (k0_off4_inb i hc) y _ _ 128 (off4_eq i) h0 h1 (by show 128 ≤ _ ∧ _ < 128 + 128; omega)⟩
    · exact ⟨⟨Rect.unit (s := S8x2176x1024) (k0_off6 i) S1x64x128.size (k0_off6_inb i hc), k0_pay4⟩, by simp only [List.mem_cons, _root_.true_or, _root_.or_true], mem_unit3 _ S1x64x128.size (k0_off6_inb i hc) y _ _ 256 (off6_eq i) h0 h1 (by show 256 ≤ _ ∧ _ < 256 + 128; omega)⟩
    · exact ⟨⟨Rect.unit (s := S8x2176x1024) (k0_off8 i) S1x64x128.size (k0_off8_inb i hc), k0_pay4⟩, by simp only [List.mem_cons, _root_.true_or, _root_.or_true], mem_unit3 _ S1x64x128.size (k0_off8_inb i hc) y _ _ 384 (off8_eq i) h0 h1 (by show 384 ≤ _ ∧ _ < 384 + 128; omega)⟩
    · exact ⟨⟨Rect.unit (s := S8x2176x1024) (k0_off10 i) S1x64x128.size (k0_off10_inb i hc), k0_pay4⟩, by simp only [List.mem_cons, _root_.true_or, _root_.or_true], mem_unit3 _ S1x64x128.size (k0_off10_inb i hc) y _ _ 512 (off10_eq i) h0 h1 (by show 512 ≤ _ ∧ _ < 512 + 128; omega)⟩
    · exact ⟨⟨Rect.unit (s := S8x2176x1024) (k0_off12 i) S1x64x128.size (k0_off12_inb i hc), k0_pay4⟩, by simp only [List.mem_cons, _root_.true_or, _root_.or_true], mem_unit3 _ S1x64x128.size (k0_off12_inb i hc) y _ _ 640 (off12_eq i) h0 h1 (by show 640 ≤ _ ∧ _ < 640 + 128; omega)⟩
    · exact ⟨⟨Rect.unit (s := S8x2176x1024) (k0_off14 i) S1x64x128.size (k0_off14_inb i hc), k0_pay4⟩, by simp only [List.mem_cons, _root_.true_or, _root_.or_true], mem_unit3 _ S1x64x128.size (k0_off14_inb i hc) y _ _ 768 (off14_eq i) h0 h1 (by show 768 ≤ _ ∧ _ < 768 + 128; omega)⟩
    · exact ⟨⟨Rect.unit (s := S8x2176x1024) (k0_off16 i) S1x64x128.size (k0_off16_inb i hc), k0_pay4⟩, by simp only [List.mem_cons, _root_.true_or, _root_.or_true], mem_unit3 _ S1x64x128.size (k0_off16_inb i hc) y _ _ 896 (off16_eq i) h0 h1 (by show 896 ≤ _ ∧ _ < 896 + 128; omega)⟩

/-- Every piece of the slab agrees with the slab. -/
theorem wPieces_agree (X : Vec F S8x2176x1024 .bf16) (i : grid0.Coords) (hc : cond0_0 i) (W : Fin 8 → Vec F S1x2112x128 .bf16) :
    ∀ p ∈ wPieces i hc W, ∀ x : p.1.shape.Idx, p.2 x = putSlab X (kOf i) (slabOf W) (p.1.emb x) := by
  intro p hp
  simp only [List.mem_cons, List.not_mem_nil, or_false] at hp
  rcases hp with rfl | rfl | rfl | rfl | rfl | rfl | rfl | rfl | rfl | rfl | rfl | rfl | rfl | rfl | rfl | rfl
  · exact zpiece_emb X (kOf i) W _ _ (off16_eq i) (k0_off16_inb i hc)
  · exact wpiece_emb X (kOf i) W 7 _ (off15_eq i) (k0_off15_inb i hc)
  · exact zpiece_emb X (kOf i) W _ _ (off14_eq i) (k0_off14_inb i hc)
  · exact wpiece_emb X (kOf i) W 6 _ (off13_eq i) (k0_off13_inb i hc)
  · exact zpiece_emb X (kOf i) W _ _ (off12_eq i) (k0_off12_inb i hc)
  · exact wpiece_emb X (kOf i) W 5 _ (off11_eq i) (k0_off11_inb i hc)
  · exact zpiece_emb X (kOf i) W _ _ (off10_eq i) (k0_off10_inb i hc)
  · exact wpiece_emb X (kOf i) W 4 _ (off9_eq i) (k0_off9_inb i hc)
  · exact zpiece_emb X (kOf i) W _ _ (off8_eq i) (k0_off8_inb i hc)
  · exact wpiece_emb X (kOf i) W 3 _ (off7_eq i) (k0_off7_inb i hc)
  · exact zpiece_emb X (kOf i) W _ _ (off6_eq i) (k0_off6_inb i hc)
  · exact wpiece_emb X (kOf i) W 2 _ (off5_eq i) (k0_off5_inb i hc)
  · exact zpiece_emb X (kOf i) W _ _ (off4_eq i) (k0_off4_inb i hc)
  · exact wpiece_emb X (kOf i) W 1 _ (off3_eq i) (k0_off3_inb i hc)
  · exact zpiece_emb X (kOf i) W _ _ (off2_eq i) (k0_off2_inb i hc)
  · exact wpiece_emb X (kOf i) W 0 _ (off1_eq i) (k0_off1_inb i hc)

/-- The sixteen stores leave the slab in its place and the other slabs as they were. -/
theorem read_wPieces (v : View sig κ sp S8x2176x1024 .bf16) (f : v.ty.Contents (Elt F)) (i : grid0.Coords) (hc : cond0_0 i) (W : Fin 8 → Vec F S1x2112x128 .bf16) :
    v.read (Elt F) (v.writes (Elt F) f (wPieces i hc W)) = putSlab (v.read (Elt F) f) (kOf i) (slabOf W) := by
  funext y
  by_cases hy : (y 0).val = (kOf i).val
  · exact View.read_writes_apply_of_pieces v f _ _ (wPieces_agree _ i hc W) y (cover_wPieces i hc W y hy)
  · rw [View.read_writes_apply_of_forall_not_mem]
    · exact (if_neg hy).symm
    · intro p hp
      simp only [List.mem_cons, List.not_mem_nil, or_false] at hp
      rcases hp with rfl | rfl | rfl | rfl | rfl | rfl | rfl | rfl | rfl | rfl | rfl | rfl | rfl | rfl | rfl | rfl
      · exact Rect.not_mem_set_of_axis _ y 0 (kOf i).val 1 (congrFun (off16_eq i) 0) rfl rfl (by omega)
      · exact Rect.not_mem_set_of_axis _ y 0 (kOf i).val 1 (congrFun (off15_eq i) 0) rfl rfl (by omega)
      · exact Rect.not_mem_set_of_axis _ y 0 (kOf i).val 1 (congrFun (off14_eq i) 0) rfl rfl (by omega)
      · exact Rect.not_mem_set_of_axis _ y 0 (kOf i).val 1 (congrFun (off13_eq i) 0) rfl rfl (by omega)
      · exact Rect.not_mem_set_of_axis _ y 0 (kOf i).val 1 (congrFun (off12_eq i) 0) rfl rfl (by omega)
      · exact Rect.not_mem_set_of_axis _ y 0 (kOf i).val 1 (congrFun (off11_eq i) 0) rfl rfl (by omega)
      · exact Rect.not_mem_set_of_axis _ y 0 (kOf i).val 1 (congrFun (off10_eq i) 0) rfl rfl (by omega)
      · exact Rect.not_mem_set_of_axis _ y 0 (kOf i).val 1 (congrFun (off9_eq i) 0) rfl rfl (by omega)
      · exact Rect.not_mem_set_of_axis _ y 0 (kOf i).val 1 (congrFun (off8_eq i) 0) rfl rfl (by omega)
      · exact Rect.not_mem_set_of_axis _ y 0 (kOf i).val 1 (congrFun (off7_eq i) 0) rfl rfl (by omega)
      · exact Rect.not_mem_set_of_axis _ y 0 (kOf i).val 1 (congrFun (off6_eq i) 0) rfl rfl (by omega)
      · exact Rect.not_mem_set_of_axis _ y 0 (kOf i).val 1 (congrFun (off5_eq i) 0) rfl rfl (by omega)
      · exact Rect.not_mem_set_of_axis _ y 0 (kOf i).val 1 (congrFun (off4_eq i) 0) rfl rfl (by omega)
      · exact Rect.not_mem_set_of_axis _ y 0 (kOf i).val 1 (congrFun (off3_eq i) 0) rfl rfl (by omega)
      · exact Rect.not_mem_set_of_axis _ y 0 (kOf i).val 1 (congrFun (off2_eq i) 0) rfl rfl (by omega)
      · exact Rect.not_mem_set_of_axis _ y 0 (kOf i).val 1 (congrFun (off1_eq i) 0) rfl rfl (by omega)

/-- A load of group `g` of the weights. -/
theorem ld_w (a : Memref sig κ sp S2112x1024 .fp8e4m3) (ha : a.IsWhole) (x : Vec F S2112x1024 .fp8e4m3) (g : Fin 8) (off : Fin 2 → ℕ)
    (hoff : off = ![0, 128 * g.val]) (inb : ∀ b, off b + S2112x128.size b ≤ S2112x1024.size b) :
    View.readAt (Elt F) a.view (Rect.unit (s := S2112x1024) off S2112x128.size inb).toLoadRect (ha.unread x)
      = fun y => x (ix2 (y 0) ⟨128 * g.val + (y 1).val, by have := (y 1).isLt; have := g.isLt; simp at *; omega⟩) := by
  subst hoff
  rw [View.readAt_unit _ _ _ rfl inb, ha.read_unread]
  funext y
  refine congrArg x (funext fun b => ?_)
  match b with
  | ⟨0, _⟩ => exact Fin.ext (by show 0 + 1 * (y 0).val = (y 0).val; omega)
  | ⟨1, _⟩ => exact Fin.ext (by show 128 * g.val + 1 * (y 1).val = 128 * g.val + (y 1).val; omega)

/-- A load of the scale column of group `g` of the weights. -/
theorem ld_ws (a : Memref sig κ sp S1x2112x8 .f32) (ha : a.IsWhole) (x : Vec F S1x2112x8 .f32) (g : Fin 8) (off : Fin 3 → ℕ)
    (hoff : off = ![0, 0, g.val]) (inb : ∀ b, off b + S1x2112x1.size b ≤ S1x2112x8.size b) :
    View.readAt (Elt F) a.view (Rect.unit (s := S1x2112x8) off S1x2112x1.size inb).toLoadRect (ha.unread x) = fun y => x (ix3 0 (y 1) g) := by
  subst hoff
  rw [View.readAt_unit _ _ _ rfl inb, ha.read_unread]
  funext y
  refine congrArg x (funext fun b => ?_)
  match b with
  | ⟨0, _⟩ => exact (Subsingleton.elim (α := Fin 1) _ _)
  | ⟨1, _⟩ => exact Fin.ext (by show 0 + 1 * (y 1).val = (y 1).val; omega)
  | ⟨2, _⟩ => exact Fin.ext (by have : (y 2).val < 1 := (y 2).isLt; show g.val + 1 * (y 2).val = g.val; omega)

/-- The weights' sixteen stores, over loads of the eight groups. -/
theorem read_w (v : View sig κ sp S8x2176x1024 .bf16) (f : v.ty.Contents (Elt F)) (i : grid0.Coords) (hc : cond0_0 i) {κ' κ'' : Kind} {sp' sp'' : Space}
    (a : Memref sig κ' sp' S2112x1024 .fp8e4m3) (ha : a.IsWhole) (w : Vec F S2112x1024 .fp8e4m3)
    (b : Memref sig κ'' sp'' S1x2112x8 .f32) (hb : b.IsWhole) (s : Vec F S1x2112x8 .f32) :
    v.read (Elt F) (v.writes (Elt F) f
      [⟨Rect.unit (s := S8x2176x1024) (k0_off16 i) S1x64x128.size (k0_off16_inb i hc), k0_pay4⟩,
       ⟨Rect.unit (s := S8x2176x1024) (k0_off15 i) S1x2112x128.size (k0_off15_inb i hc), k0_pay3 (View.readAt (Elt F) a.view (Rect.unit (s := S2112x1024) ![0, 896] S2112x128.size inb_S2112x1024_S2112x128_0_896).toLoadRect (ha.unread w)) (View.readAt (Elt F) b.view (Rect.unit (s := S1x2112x8) ![0, 0, 7] S1x2112x1.size inb_S1x2112x8_S1x2112x1_0_0_7).toLoadRect (hb.unread s))⟩,
       ⟨Rect.unit (s := S8x2176x1024) (k0_off14 i) S1x64x128.size (k0_off14_inb i hc), k0_pay4⟩,
       ⟨Rect.unit (s := S8x2176x1024) (k0_off13 i) S1x2112x128.size (k0_off13_inb i hc), k0_pay3 (View.readAt (Elt F) a.view (Rect.unit (s := S2112x1024) ![0, 768] S2112x128.size inb_S2112x1024_S2112x128_0_768).toLoadRect (ha.unread w)) (View.readAt (Elt F) b.view (Rect.unit (s := S1x2112x8) ![0, 0, 6] S1x2112x1.size inb_S1x2112x8_S1x2112x1_0_0_6).toLoadRect (hb.unread s))⟩,
       ⟨Rect.unit (s := S8x2176x1024) (k0_off12 i) S1x64x128.size (k0_off12_inb i hc), k0_pay4⟩,
       ⟨Rect.unit (s := S8x2176x1024) (k0_off11 i) S1x2112x128.size (k0_off11_inb i hc), k0_pay3 (View.readAt (Elt F) a.view (Rect.unit (s := S2112x1024) ![0, 640] S2112x128.size inb_S2112x1024_S2112x128_0_640).toLoadRect (ha.unread w)) (View.readAt (Elt F) b.view (Rect.unit (s := S1x2112x8) ![0, 0, 5] S1x2112x1.size inb_S1x2112x8_S1x2112x1_0_0_5).toLoadRect (hb.unread s))⟩,
       ⟨Rect.unit (s := S8x2176x1024) (k0_off10 i) S1x64x128.size (k0_off10_inb i hc), k0_pay4⟩,
       ⟨Rect.unit (s := S8x2176x1024) (k0_off9 i) S1x2112x128.size (k0_off9_inb i hc), k0_pay3 (View.readAt (Elt F) a.view (Rect.unit (s := S2112x1024) ![0, 512] S2112x128.size inb_S2112x1024_S2112x128_0_512).toLoadRect (ha.unread w)) (View.readAt (Elt F) b.view (Rect.unit (s := S1x2112x8) ![0, 0, 4] S1x2112x1.size inb_S1x2112x8_S1x2112x1_0_0_4).toLoadRect (hb.unread s))⟩,
       ⟨Rect.unit (s := S8x2176x1024) (k0_off8 i) S1x64x128.size (k0_off8_inb i hc), k0_pay4⟩,
       ⟨Rect.unit (s := S8x2176x1024) (k0_off7 i) S1x2112x128.size (k0_off7_inb i hc), k0_pay3 (View.readAt (Elt F) a.view (Rect.unit (s := S2112x1024) ![0, 384] S2112x128.size inb_S2112x1024_S2112x128_0_384).toLoadRect (ha.unread w)) (View.readAt (Elt F) b.view (Rect.unit (s := S1x2112x8) ![0, 0, 3] S1x2112x1.size inb_S1x2112x8_S1x2112x1_0_0_3).toLoadRect (hb.unread s))⟩,
       ⟨Rect.unit (s := S8x2176x1024) (k0_off6 i) S1x64x128.size (k0_off6_inb i hc), k0_pay4⟩,
       ⟨Rect.unit (s := S8x2176x1024) (k0_off5 i) S1x2112x128.size (k0_off5_inb i hc), k0_pay3 (View.readAt (Elt F) a.view (Rect.unit (s := S2112x1024) ![0, 256] S2112x128.size inb_S2112x1024_S2112x128_0_256).toLoadRect (ha.unread w)) (View.readAt (Elt F) b.view (Rect.unit (s := S1x2112x8) ![0, 0, 2] S1x2112x1.size inb_S1x2112x8_S1x2112x1_0_0_2).toLoadRect (hb.unread s))⟩,
       ⟨Rect.unit (s := S8x2176x1024) (k0_off4 i) S1x64x128.size (k0_off4_inb i hc), k0_pay4⟩,
       ⟨Rect.unit (s := S8x2176x1024) (k0_off3 i) S1x2112x128.size (k0_off3_inb i hc), k0_pay3 (View.readAt (Elt F) a.view (Rect.unit (s := S2112x1024) ![0, 128] S2112x128.size inb_S2112x1024_S2112x128_0_128).toLoadRect (ha.unread w)) (View.readAt (Elt F) b.view (Rect.unit (s := S1x2112x8) ![0, 0, 1] S1x2112x1.size inb_S1x2112x8_S1x2112x1_0_0_1).toLoadRect (hb.unread s))⟩,
       ⟨Rect.unit (s := S8x2176x1024) (k0_off2 i) S1x64x128.size (k0_off2_inb i hc), k0_pay4⟩,
       ⟨Rect.unit (s := S8x2176x1024) (k0_off1 i) S1x2112x128.size (k0_off1_inb i hc), k0_pay3 (View.readAt (Elt F) a.view (Rect.unit (s := S2112x1024) ![0, 0] S2112x128.size inb_S2112x1024_S2112x128_0_0).toLoadRect (ha.unread w)) (View.readAt (Elt F) b.view (Rect.unit (s := S1x2112x8) ![0, 0, 0] S1x2112x1.size inb_S1x2112x8_S1x2112x1_0_0_0).toLoadRect (hb.unread s))⟩])
      = putSlab (v.read (Elt F) f) (kOf i) (wSlab w s) := by
  simp only [ld_w a ha w 0 ![0, 0] rfl, ld_ws b hb s 0 ![0, 0, 0] rfl, ld_w a ha w 1 ![0, 128] rfl, ld_ws b hb s 1 ![0, 0, 1] rfl, ld_w a ha w 2 ![0, 256] rfl, ld_ws b hb s 2 ![0, 0, 2] rfl, ld_w a ha w 3 ![0, 384] rfl, ld_ws b hb s 3 ![0, 0, 3] rfl, ld_w a ha w 4 ![0, 512] rfl, ld_ws b hb s 4 ![0, 0, 4] rfl, ld_w a ha w 5 ![0, 640] rfl, ld_ws b hb s 5 ![0, 0, 5] rfl, ld_w a ha w 6 ![0, 768] rfl, ld_ws b hb s 6 ![0, 0, 6] rfl, ld_w a ha w 7 ![0, 896] rfl, ld_ws b hb s 7 ![0, 0, 7] rfl]
  exact read_wPieces v f i hc (wTile w s)

/-- The load of the slab in use, of any contents. -/
theorem ld_slab (v : View sig κ sp S8x2176x1024 .bf16) (f : v.ty.Contents (Elt F)) (i : grid0.Coords)
    (inb : ∀ b, k0_off17 i b + S1x2176x1024.size b ≤ S8x2176x1024.size b) (X : Vec F S8x2176x1024 .bf16) (hX : v.read (Elt F) f = X) :
    View.readAt (Elt F) v (Rect.unit (s := S8x2176x1024) (k0_off17 i) S1x2176x1024.size inb).toLoadRect f = slab X (kOf i) := by
  subst hX
  have hoff : k0_off17 i = ![(kOf i).val, 0, 0] := offAt_eq (k := i 1) _ _ rfl
  have inb' : ∀ b, (![(kOf i).val, 0, 0] : Fin 3 → ℕ) b + S1x2176x1024.size b ≤ S8x2176x1024.size b := hoff ▸ inb
  rw [View.readAt_unit v f inb hoff inb']
  funext y
  refine congrArg (v.read (Elt F) f) (funext fun b => ?_)
  match b with
  | ⟨0, _⟩ => exact Fin.ext (by have : (y 0).val < 1 := (y 0).isLt; show (kOf i).val + 1 * (y 0).val = (kOf i).val; omega)
  | ⟨1, _⟩ => exact Fin.ext (by show 0 + 1 * (y 1).val = (y 1).val; omega)
  | ⟨2, _⟩ => exact Fin.ext (by show 0 + 1 * (y 2).val = (y 2).val; omega)

/-- A load of columns of the accumulator. -/
theorem ld_cols (v : View sig κ sp S512x2176 .f32) (f : v.ty.Contents (Elt F)) (o n : ℕ) (h : o + n ≤ 2176) (off size : Fin 2 → ℕ)
    (hoff : off = ![0, o]) (hsize : size = ![512, n])
    (inb : ∀ b, off b + size b ≤ S512x2176.size b) (X : Vec F S512x2176 .f32) (hX : v.read (Elt F) f = X) (y : (⟨2, size⟩ : Shape).Idx)
    (y' : (⟨2, ![512, n]⟩ : Shape).Idx) (hy : ∀ a, (y a).val = (y' a).val) :
    View.readAt (Elt F) v (Rect.unit (s := S512x2176) off size inb).toLoadRect f y = colsOf o n h X y' := by
  subst hX; subst hoff
  rw [View.readAt_unit v f inb rfl inb]
  refine congrArg (v.read (Elt F) f) (funext fun b => ?_)
  match b with
  | ⟨0, _⟩ => exact Fin.ext (by show 0 + 1 * (y 0).val = (y' 0).val; rw [hy 0]; omega)
  | ⟨1, _⟩ => exact Fin.ext (by show o + 1 * (y 1).val = o + (y' 1).val; rw [hy 1]; omega)

/-- The first 64 columns of the scale buffer. -/
theorem ld_scOut (v : View sig κ sp S512x128 .f32) (f : v.ty.Contents (Elt F))
    (inb : ∀ b, (![0, 0] : Fin 2 → ℕ) b + S512x64.size b ≤ S512x128.size b) (X : Vec F S512x128 .f32) (hX : v.read (Elt F) f = X) :
    View.readAt (Elt F) v (Rect.unit (s := S512x128) ![0, 0] S512x64.size inb).toLoadRect f = scOut X := by
  subst hX
  rw [View.readAt_unit v f inb rfl inb]
  funext y
  refine congrArg (v.read (Elt F) f) (funext fun b => ?_)
  match b with
  | ⟨0, _⟩ => exact Fin.ext (by show 0 + 1 * (y 0).val = (y 0).val; omega)
  | ⟨1, _⟩ => exact Fin.ext (by show 0 + 1 * (y 1).val = (y 1).val; omega)

theorem startWord : ∀ i : grid0.Coords, k0_off18 i = ![(mOf i).val / 3] := by decide +kernel

/-- The load of the sequence's first position. -/
theorem ld_start (a : Memref sig κ sp S2 .i32) (ha : a.IsWhole) (x : Vec F S2 .i32) (i : grid0.Coords)
    (inb : ∀ b, k0_off18 i b + S1.size b ≤ S2.size b) (j : S1.Idx) :
    View.readAt (Elt F) a.view (Rect.unit (s := S2) (k0_off18 i) S1.size inb).toLoadRect (ha.unread x) j = startOf (mOf i) x := by
  have inb' : ∀ b, (![(mOf i).val / 3] : Fin 1 → ℕ) b + S1.size b ≤ S2.size b := startWord i ▸ inb
  rw [View.readAt_unit _ _ inb (startWord i) inb', ha.read_unread]
  refine congrArg x (funext fun b => ?_)
  match b with
  | ⟨0, _⟩ => exact Fin.ext (by have : (j 0).val < 1 := (j 0).isLt; show (mOf i).val / 3 + 1 * (j 0).val = (mOf i).val / 3; omega)

/-- A load of a whole buffer, of any contents. -/
theorem ld_all {s : Shape} {e : EltTy} (v : View sig κ sp s e) (f : v.ty.Contents (Elt F)) {off : Fin s.rank → ℕ}
    (inb : ∀ b, off b + s.size b ≤ s.size b) (X : s.Idx → Elt F e) (hX : v.read (Elt F) f = X) :
    View.readAt (Elt F) v (Rect.unit off s.size inb).toLoadRect f = X := (View.readAt_full v f inb).trans hX

theorem acc_step {A x16 : Vec F S512x2176 .f32} {B : Vec F S512x1024 .bf16} {x : Vec F S512x1024 .bf16} {C w : Vec F S1x2176x1024 .bf16}
    (hA : A = x16) (hB : B = xdqBlk x) (hC : C = w) : k0_pay1 A B C = accStep x16 x w := by subst hA hB hC; rfl

theorem q_step {A : Vec F S512x1536 .f32} {acc : Vec F S512x2176 .f32} {B g : Vec F S1x1536 .bf16} (hA : A = colsOf 0 1536 (by omega) acc) (hB : B = g) :
    k0_pay18 A B = qBlk acc g := by subst hA hB; rfl
theorem kv_step {A : Vec F S512x512 .f32} {acc : Vec F S512x2176 .f32} {B g : Vec F S1x512 .bf16} (hA : A = colsOf 1536 512 (by omega) acc) (hB : B = g) :
    k0_pay19 A B = kvBlk acc g := by subst hA hB; rfl

theorem pe_step (i : grid0.Coords) {s : Elt F .i32} {B fr : Vec F S1x128 .f32} {A : Vec F S512x128 .f32} {acc : Vec F S512x2176 .f32} {st : Vec F S2 .i32}
    (hs : s = startOf (mOf i) st) (hB : B = fr) (hA : A = colsOf 2048 128 (by omega) acc) :
    k0_pay2 (iota .tc S512x128 32 [1] iota_S512x128_d1_w32) (k0_pay20 (BitVec.ofNat 32 (i 0).val) s B) A = peBlk (mOf i) acc st fr := by
  subst hs hB hA; rfl

end Reads

end Cert.Kernel.Run

end
-- ==== Proof.Kernel.RunA.lean ====
module

public import proofs.«01_k».proof.Proof.Gen.Kernel.Frame
public import proofs.«01_k».proof.Proof.Gen.Kernel.Skeleton
public import proofs.«01_k».proof.Proof.Kernel.Points

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is the first and the
    reduction step is the first, with the proof that the body, started with its inputs and its scratch buffers
    at the contents given, ends with exactly these pieces written. -/
noncomputable def runA (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L14 : List (View.Piece (Elt F) S8x2176x1024 .bf16)), Σ' (L15 : List (View.Piece (Elt F) S512x1024 .bf16)), Σ' (L16 : List (View.Piece (Elt F) S512x2176 .f32)), { L17 : List (View.Piece (Elt F) S512x128 .f32) //
      ∀ (d9 : Vec F S512x1536 .bf16) (d10 : Vec F S512x512 .bf16) (d11 : Vec F S512x64 .bf16) (d13 : Vec F S512x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ f, arg12.view.loc (c : Thread nD τ) ↦[arg12.view.set]{fullShare} arg12.view.writes (Elt F) f L12) ∗ owns (c : Thread nD τ) arg13 fullShare d13 ∗ (arg14.view.loc (c : Thread nD τ) ↦[arg14.view.set]{fullShare} arg14.view.writes (Elt F) (harg14.unread x14) L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun d9 d10 d11 d13 E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, H10, H11, ⟨%d12, %f12, -, H12⟩, H13, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    isplitl [H12]; · iexists _; iexact H12
    isplitl [H13]; · iexact H13
    isplitl [H14]; · iexact H14
    isplitl [H15]; · iexists _; iexact H15
    isplitl [H16]; · iexists _; iexact H16
    iexists _; iexact H17

end Cert.Kernel.Run

end
-- ==== Proof.Kernel.StepA.lean ====
module

public import proofs.«01_k».proof.Proof.Gen.Kernel.Frame
public import proofs.«01_k».proof.Proof.Gen.Kernel.Skeleton
public import proofs.«01_k».proof.Proof.Kernel.Values
public import proofs.«01_k».proof.Proof.Kernel.RunA

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is the first and the reduction step is
    the first, as values of its inputs and of what its scratch buffers held. -/
theorem stepA (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
    (d9 : Vec F S512x1536 .bf16) (d10 : Vec F S512x512 .bf16) (d11 : Vec F S512x64 .bf16) (d13 : Vec F S512x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare (codesBlk x3) ∗ owns (c : Thread nD τ) arg13 fullShare d13 ∗ owns (c : Thread nD τ) arg14 fullShare (putSlab x14 (kOf i) (wSlab x4 x5)) ∗ owns (c : Thread nD τ) arg15 fullShare (xdqBlk x3) ∗ owns (c : Thread nD τ) arg16 fullShare (accStep k0_pay84 x3 (wSlab x4 x5)) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2.2 d9 d10 d11 d13 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, H13, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; exact read_codes _ _ arg3 harg3 x3
  isplitl [H13]; · iexact H13
  isplitl [H14]
  · unfold owns; iexists _; isplitr; swap; · iexact H14
    ipureintro; exact (read_w _ _ i hc0 arg4 harg4 x4 arg5 harg5 x5).trans (congrArg (fun z => putSlab z (kOf i) (wSlab x4 x5)) (harg14.read_unread x14))
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_all _ _ _ _ (read_whole _ _ _ _ _ _ rfl)) (ld_all _ _ _ _ (read_xdq _ _ arg3 harg3 x3)) ((ld_slab _ _ i _ _ (read_w _ _ i hc0 arg4 harg4 x4 arg5 harg5 x5)).trans (slab_putSlab _ _ _))))
  unfold owns; iexists _; isplitr; swap; · iexact H17
  ipureintro; exact (read_whole _ _ _ _ _ _ (sc_chain i arg3 harg3 x3 _ _ (ld_whole arg17 harg17 x17 _)))

end Cert.Kernel.Run

end
-- ==== Proof.Kernel.RunB.lean ====
module

public import proofs.«01_k».proof.Proof.Gen.Kernel.Frame
public import proofs.«01_k».proof.Proof.Gen.Kernel.Skeleton
public import proofs.«01_k».proof.Proof.Kernel.Points

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is the first and the
    reduction step is neither the first nor the last, with the proof that the body, started with its inputs and its scratch buffers
    at the contents given, ends with exactly these pieces written. -/
noncomputable def runB (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : ¬cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L14 : List (View.Piece (Elt F) S8x2176x1024 .bf16)), Σ' (L15 : List (View.Piece (Elt F) S512x1024 .bf16)), Σ' (L16 : List (View.Piece (Elt F) S512x2176 .f32)), { L17 : List (View.Piece (Elt F) S512x128 .f32) //
      ∀ (d9 : Vec F S512x1536 .bf16) (d10 : Vec F S512x512 .bf16) (d11 : Vec F S512x64 .bf16) (d13 : Vec F S512x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ f, arg12.view.loc (c : Thread nD τ) ↦[arg12.view.set]{fullShare} arg12.view.writes (Elt F) f L12) ∗ owns (c : Thread nD τ) arg13 fullShare d13 ∗ (arg14.view.loc (c : Thread nD τ) ↦[arg14.view.set]{fullShare} arg14.view.writes (Elt F) (harg14.unread x14) L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun d9 d10 d11 d13 E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, H10, H11, ⟨%d12, %f12, -, H12⟩, H13, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    isplitl [H12]; · iexists _; iexact H12
    isplitl [H13]; · iexact H13
    isplitl [H14]; · iexact H14
    isplitl [H15]; · iexists _; iexact H15
    isplitl [H16]; · iexists _; iexact H16
    iexists _; iexact H17

end Cert.Kernel.Run

end
-- ==== Proof.Kernel.StepB.lean ====
module

public import proofs.«01_k».proof.Proof.Gen.Kernel.Frame
public import proofs.«01_k».proof.Proof.Gen.Kernel.Skeleton
public import proofs.«01_k».proof.Proof.Kernel.Values
public import proofs.«01_k».proof.Proof.Kernel.RunB

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is the first and the reduction step is
    neither the first nor the last, as values of its inputs and of what its scratch buffers held. -/
theorem stepB (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : ¬cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
    (d9 : Vec F S512x1536 .bf16) (d10 : Vec F S512x512 .bf16) (d11 : Vec F S512x64 .bf16) (d13 : Vec F S512x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare (codesBlk x3) ∗ owns (c : Thread nD τ) arg13 fullShare d13 ∗ owns (c : Thread nD τ) arg14 fullShare (putSlab x14 (kOf i) (wSlab x4 x5)) ∗ owns (c : Thread nD τ) arg15 fullShare (xdqBlk x3) ∗ owns (c : Thread nD τ) arg16 fullShare (accStep x16 x3 (wSlab x4 x5)) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2.2 d9 d10 d11 d13 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, H13, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; exact read_codes _ _ arg3 harg3 x3
  isplitl [H13]; · iexact H13
  isplitl [H14]
  · unfold owns; iexists _; isplitr; swap; · iexact H14
    ipureintro; exact (read_w _ _ i hc0 arg4 harg4 x4 arg5 harg5 x5).trans (congrArg (fun z => putSlab z (kOf i) (wSlab x4 x5)) (harg14.read_unread x14))
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_whole arg16 harg16 x16 _) (ld_all _ _ _ _ (read_xdq _ _ arg3 harg3 x3)) ((ld_slab _ _ i _ _ (read_w _ _ i hc0 arg4 harg4 x4 arg5 harg5 x5)).trans (slab_putSlab _ _ _))))
  unfold owns; iexists _; isplitr; swap; · iexact H17
  ipureintro; exact (read_whole _ _ _ _ _ _ (sc_chain i arg3 harg3 x3 _ _ (ld_whole arg17 harg17 x17 _)))

end Cert.Kernel.Run

end
-- ==== Proof.Kernel.RunC.lean ====
module

public import proofs.«01_k».proof.Proof.Gen.Kernel.Frame
public import proofs.«01_k».proof.Proof.Gen.Kernel.Skeleton
public import proofs.«01_k».proof.Proof.Kernel.Points

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is the first and the
    reduction step is the last, with the proof that the body, started with its inputs and its scratch buffers
    at the contents given, ends with exactly these pieces written. -/
noncomputable def runC (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : ¬cond0_1 i) (hc2 : cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L9 : List (View.Piece (Elt F) S512x1536 .bf16)), Σ' (L10 : List (View.Piece (Elt F) S512x512 .bf16)), Σ' (L11 : List (View.Piece (Elt F) S512x64 .bf16)), Σ' (L13 : List (View.Piece (Elt F) S512x64 .f32)), Σ' (L14 : List (View.Piece (Elt F) S8x2176x1024 .bf16)), Σ' (L15 : List (View.Piece (Elt F) S512x1024 .bf16)), Σ' (L16 : List (View.Piece (Elt F) S512x2176 .f32)), { L17 : List (View.Piece (Elt F) S512x128 .f32) //
      ∀  (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} arg14.view.writes (Elt F) (harg14.unread x14) L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    isplitl [H15]; · iexists _; iexact H15
    isplitl [H16]; · iexists _; iexact H16
    iexists _; iexact H17

end Cert.Kernel.Run

end
-- ==== Proof.Kernel.StepC.lean ====
module

public import proofs.«01_k».proof.Proof.Gen.Kernel.Frame
public import proofs.«01_k».proof.Proof.Gen.Kernel.Skeleton
public import proofs.«01_k».proof.Proof.Kernel.Values
public import proofs.«01_k».proof.Proof.Kernel.RunC

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is the first and the reduction step is
    the last, as values of its inputs and of what its scratch buffers held. -/
theorem stepC (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : ¬cond0_1 i) (hc2 : cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
     (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (qBlk (accStep x16 x3 (wSlab x4 x5)) x6) ∗ owns (c : Thread nD τ) arg10 fullShare (kvBlk (accStep x16 x3 (wSlab x4 x5)) x7) ∗ owns (c : Thread nD τ) arg11 fullShare (peBlk (mOf i) (accStep x16 x3 (wSlab x4 x5)) x2 x8) ∗ owns (c : Thread nD τ) arg12 fullShare (codesBlk x3) ∗ owns (c : Thread nD τ) arg13 fullShare (scOut (scMerge (kOf i) x3 x17)) ∗ owns (c : Thread nD τ) arg14 fullShare (putSlab x14 (kOf i) (wSlab x4 x5)) ∗ owns (c : Thread nD τ) arg15 fullShare (xdqBlk x3) ∗ owns (c : Thread nD τ) arg16 fullShare (accStep x16 x3 (wSlab x4 x5)) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2.2.2.2.2.2  E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, ⟨%f9, H9⟩, ⟨%f10, H10⟩, ⟨%f11, H11⟩, ⟨%f12, H12⟩, ⟨%f13, H13⟩, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact read_whole _ _ _ _ _ _ (q_step (funext fun y => ld_cols _ _ 0 1536 (by omega) _ _ rfl rfl _ _ (read_whole _ _ _ _ _ _ (acc_step (ld_whole arg16 harg16 x16 _) (ld_all _ _ _ _ (read_xdq _ _ arg3 harg3 x3)) ((ld_slab _ _ i _ _ (read_w _ _ i hc0 arg4 harg4 x4 arg5 harg5 x5)).trans (slab_putSlab _ _ _)))) y y (fun _ => rfl)) (ld_whole arg6 harg6 x6 _))
  isplitl [H10]
  · unfold owns; iexists _; isplitr; swap; · iexact H10
    ipureintro; exact read_whole _ _ _ _ _ _ (kv_step (funext fun y => ld_cols _ _ 1536 512 (by omega) _ _ rfl rfl _ _ (read_whole _ _ _ _ _ _ (acc_step (ld_whole arg16 harg16 x16 _) (ld_all _ _ _ _ (read_xdq _ _ arg3 harg3 x3)) ((ld_slab _ _ i _ _ (read_w _ _ i hc0 arg4 harg4 x4 arg5 harg5 x5)).trans (slab_putSlab _ _ _)))) y y (fun _ => rfl)) (ld_whole arg7 harg7 x7 _))
  isplitl [H11]
  · unfold owns; iexists _; isplitr; swap; · iexact H11
    ipureintro; exact read_whole _ _ _ _ _ _ (pe_step i (ld_start arg2 harg2 x2 i _ _) (ld_whole arg8 harg8 x8 _) (funext fun y => ld_cols _ _ 2048 128 (by omega) _ _ rfl rfl _ _ (read_whole _ _ _ _ _ _ (acc_step (ld_whole arg16 harg16 x16 _) (ld_all _ _ _ _ (read_xdq _ _ arg3 harg3 x3)) ((ld_slab _ _ i _ _ (read_w _ _ i hc0 arg4 harg4 x4 arg5 harg5 x5)).trans (slab_putSlab _ _ _)))) y y (fun _ => rfl)))
  isplitl [H12]
  · unfold owns; iexists _; isplitr; swap; · iexact H12
    ipureintro; exact read_codes _ _ arg3 harg3 x3
  isplitl [H13]
  · unfold owns; iexists _; isplitr; swap; · iexact H13
    ipureintro; exact read_whole _ _ _ _ _ _ (ld_scOut _ _ _ _ (read_whole _ _ _ _ _ _ (sc_chain i arg3 harg3 x3 _ _ (ld_whole arg17 harg17 x17 _))))
  isplitl [H14]
  · unfold owns; iexists _; isplitr; swap; · iexact H14
    ipureintro; exact (read_w _ _ i hc0 arg4 harg4 x4 arg5 harg5 x5).trans (congrArg (fun z => putSlab z (kOf i) (wSlab x4 x5)) (harg14.read_unread x14))
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_whole arg16 harg16 x16 _) (ld_all _ _ _ _ (read_xdq _ _ arg3 harg3 x3)) ((ld_slab _ _ i _ _ (read_w _ _ i hc0 arg4 harg4 x4 arg5 harg5 x5)).trans (slab_putSlab _ _ _))))
  unfold owns; iexists _; isplitr; swap; · iexact H17
  ipureintro; exact (read_whole _ _ _ _ _ _ (sc_chain i arg3 harg3 x3 _ _ (ld_whole arg17 harg17 x17 _)))

end Cert.Kernel.Run

end
-- ==== Proof.Kernel.RunD.lean ====
module

public import proofs.«01_k».proof.Proof.Gen.Kernel.Frame
public import proofs.«01_k».proof.Proof.Gen.Kernel.Skeleton
public import proofs.«01_k».proof.Proof.Kernel.Points

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is not the first and the
    reduction step is the first, with the proof that the body, started with its inputs and its scratch buffers
    at the contents given, ends with exactly these pieces written. -/
noncomputable def runD (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L15 : List (View.Piece (Elt F) S512x1024 .bf16)), Σ' (L16 : List (View.Piece (Elt F) S512x2176 .f32)), { L17 : List (View.Piece (Elt F) S512x128 .f32) //
      ∀ (d9 : Vec F S512x1536 .bf16) (d10 : Vec F S512x512 .bf16) (d11 : Vec F S512x64 .bf16) (d13 : Vec F S512x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ f, arg12.view.loc (c : Thread nD τ) ↦[arg12.view.set]{fullShare} arg12.view.writes (Elt F) f L12) ∗ owns (c : Thread nD τ) arg13 fullShare d13 ∗ owns (c : Thread nD τ) arg14 fullShare x14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun d9 d10 d11 d13 E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, H10, H11, ⟨%d12, %f12, -, H12⟩, H13, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    isplitl [H12]; · iexists _; iexact H12
    isplitl [H13]; · iexact H13
    isplitl [H14]
    · iexists _; isplitr; · ipureintro; exact harg14.read_unread _
      iexact H14
    isplitl [H15]; · iexists _; iexact H15
    isplitl [H16]; · iexists _; iexact H16
    iexists _; iexact H17

end Cert.Kernel.Run

end
-- ==== Proof.Kernel.StepD.lean ====
module

public import proofs.«01_k».proof.Proof.Gen.Kernel.Frame
public import proofs.«01_k».proof.Proof.Gen.Kernel.Skeleton
public import proofs.«01_k».proof.Proof.Kernel.Values
public import proofs.«01_k».proof.Proof.Kernel.RunD

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is not the first and the reduction step is
    the first, as values of its inputs and of what its scratch buffers held. -/
theorem stepD (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
    (d9 : Vec F S512x1536 .bf16) (d10 : Vec F S512x512 .bf16) (d11 : Vec F S512x64 .bf16) (d13 : Vec F S512x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare (codesBlk x3) ∗ owns (c : Thread nD τ) arg13 fullShare d13 ∗ owns (c : Thread nD τ) arg14 fullShare x14 ∗ owns (c : Thread nD τ) arg15 fullShare (xdqBlk x3) ∗ owns (c : Thread nD τ) arg16 fullShare (accStep k0_pay84 x3 (slab x14 (kOf i))) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2 d9 d10 d11 d13 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, H13, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; exact read_codes _ _ arg3 harg3 x3
  isplitl [H13]; · iexact H13
  isplitl [H14]; · iexact H14
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_all _ _ _ _ (read_whole _ _ _ _ _ _ rfl)) (ld_all _ _ _ _ (read_xdq _ _ arg3 harg3 x3)) (ld_slab _ _ i _ _ (harg14.read_unread x14))))
  unfold owns; iexists _; isplitr; swap; · iexact H17
  ipureintro; exact (read_whole _ _ _ _ _ _ (sc_chain i arg3 harg3 x3 _ _ (ld_whole arg17 harg17 x17 _)))

end Cert.Kernel.Run

end
-- ==== Proof.Kernel.RunE.lean ====
module

public import proofs.«01_k».proof.Proof.Gen.Kernel.Frame
public import proofs.«01_k».proof.Proof.Gen.Kernel.Skeleton
public import proofs.«01_k».proof.Proof.Kernel.Points

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is not the first and the
    reduction step is neither the first nor the last, with the proof that the body, started with its inputs and its scratch buffers
    at the contents given, ends with exactly these pieces written. -/
noncomputable def runE (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : ¬cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L15 : List (View.Piece (Elt F) S512x1024 .bf16)), Σ' (L16 : List (View.Piece (Elt F) S512x2176 .f32)), { L17 : List (View.Piece (Elt F) S512x128 .f32) //
      ∀ (d9 : Vec F S512x1536 .bf16) (d10 : Vec F S512x512 .bf16) (d11 : Vec F S512x64 .bf16) (d13 : Vec F S512x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ f, arg12.view.loc (c : Thread nD τ) ↦[arg12.view.set]{fullShare} arg12.view.writes (Elt F) f L12) ∗ owns (c : Thread nD τ) arg13 fullShare d13 ∗ owns (c : Thread nD τ) arg14 fullShare x14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun d9 d10 d11 d13 E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, H10, H11, ⟨%d12, %f12, -, H12⟩, H13, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    isplitl [H12]; · iexists _; iexact H12
    isplitl [H13]; · iexact H13
    isplitl [H14]
    · iexists _; isplitr; · ipureintro; exact harg14.read_unread _
      iexact H14
    isplitl [H15]; · iexists _; iexact H15
    isplitl [H16]; · iexists _; iexact H16
    iexists _; iexact H17

end Cert.Kernel.Run

end
-- ==== Proof.Kernel.StepE.lean ====
module

public import proofs.«01_k».proof.Proof.Gen.Kernel.Frame
public import proofs.«01_k».proof.Proof.Gen.Kernel.Skeleton
public import proofs.«01_k».proof.Proof.Kernel.Values
public import proofs.«01_k».proof.Proof.Kernel.RunE

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is not the first and the reduction step is
    neither the first nor the last, as values of its inputs and of what its scratch buffers held. -/
theorem stepE (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : ¬cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
    (d9 : Vec F S512x1536 .bf16) (d10 : Vec F S512x512 .bf16) (d11 : Vec F S512x64 .bf16) (d13 : Vec F S512x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare (codesBlk x3) ∗ owns (c : Thread nD τ) arg13 fullShare d13 ∗ owns (c : Thread nD τ) arg14 fullShare x14 ∗ owns (c : Thread nD τ) arg15 fullShare (xdqBlk x3) ∗ owns (c : Thread nD τ) arg16 fullShare (accStep x16 x3 (slab x14 (kOf i))) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2 d9 d10 d11 d13 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, H13, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; exact read_codes _ _ arg3 harg3 x3
  isplitl [H13]; · iexact H13
  isplitl [H14]; · iexact H14
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_whole arg16 harg16 x16 _) (ld_all _ _ _ _ (read_xdq _ _ arg3 harg3 x3)) (ld_slab _ _ i _ _ (harg14.read_unread x14))))
  unfold owns; iexists _; isplitr; swap; · iexact H17
  ipureintro; exact (read_whole _ _ _ _ _ _ (sc_chain i arg3 harg3 x3 _ _ (ld_whole arg17 harg17 x17 _)))

end Cert.Kernel.Run

end
-- ==== Proof.Kernel.RunF.lean ====
module

public import proofs.«01_k».proof.Proof.Gen.Kernel.Frame
public import proofs.«01_k».proof.Proof.Gen.Kernel.Skeleton
public import proofs.«01_k».proof.Proof.Kernel.Points

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is not the first and the
    reduction step is the last, with the proof that the body, started with its inputs and its scratch buffers
    at the contents given, ends with exactly these pieces written. -/
noncomputable def runF (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : ¬cond0_1 i) (hc2 : cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L9 : List (View.Piece (Elt F) S512x1536 .bf16)), Σ' (L10 : List (View.Piece (Elt F) S512x512 .bf16)), Σ' (L11 : List (View.Piece (Elt F) S512x64 .bf16)), Σ' (L13 : List (View.Piece (Elt F) S512x64 .f32)), Σ' (L15 : List (View.Piece (Elt F) S512x1024 .bf16)), Σ' (L16 : List (View.Piece (Elt F) S512x2176 .f32)), { L17 : List (View.Piece (Elt F) S512x128 .f32) //
      ∀  (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg14 fullShare x14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact harg14.read_unread _
      iexact H14
    isplitl [H15]; · iexists _; iexact H15
    isplitl [H16]; · iexists _; iexact H16
    iexists _; iexact H17

end Cert.Kernel.Run

end
-- ==== Proof.Kernel.StepF.lean ====
module

public import proofs.«01_k».proof.Proof.Gen.Kernel.Frame
public import proofs.«01_k».proof.Proof.Gen.Kernel.Skeleton
public import proofs.«01_k».proof.Proof.Kernel.Values
public import proofs.«01_k».proof.Proof.Kernel.RunF

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is not the first and the reduction step is
    the last, as values of its inputs and of what its scratch buffers held. -/
theorem stepF (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : ¬cond0_1 i) (hc2 : cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
     (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (qBlk (accStep x16 x3 (slab x14 (kOf i))) x6) ∗ owns (c : Thread nD τ) arg10 fullShare (kvBlk (accStep x16 x3 (slab x14 (kOf i))) x7) ∗ owns (c : Thread nD τ) arg11 fullShare (peBlk (mOf i) (accStep x16 x3 (slab x14 (kOf i))) x2 x8) ∗ owns (c : Thread nD τ) arg12 fullShare (codesBlk x3) ∗ owns (c : Thread nD τ) arg13 fullShare (scOut (scMerge (kOf i) x3 x17)) ∗ owns (c : Thread nD τ) arg14 fullShare x14 ∗ owns (c : Thread nD τ) arg15 fullShare (xdqBlk x3) ∗ owns (c : Thread nD τ) arg16 fullShare (accStep x16 x3 (slab x14 (kOf i))) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2.2.2.2.2  E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, ⟨%f9, H9⟩, ⟨%f10, H10⟩, ⟨%f11, H11⟩, ⟨%f12, H12⟩, ⟨%f13, H13⟩, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact read_whole _ _ _ _ _ _ (q_step (funext fun y => ld_cols _ _ 0 1536 (by omega) _ _ rfl rfl _ _ (read_whole _ _ _ _ _ _ (acc_step (ld_whole arg16 harg16 x16 _) (ld_all _ _ _ _ (read_xdq _ _ arg3 harg3 x3)) (ld_slab _ _ i _ _ (harg14.read_unread x14)))) y y (fun _ => rfl)) (ld_whole arg6 harg6 x6 _))
  isplitl [H10]
  · unfold owns; iexists _; isplitr; swap; · iexact H10
    ipureintro; exact read_whole _ _ _ _ _ _ (kv_step (funext fun y => ld_cols _ _ 1536 512 (by omega) _ _ rfl rfl _ _ (read_whole _ _ _ _ _ _ (acc_step (ld_whole arg16 harg16 x16 _) (ld_all _ _ _ _ (read_xdq _ _ arg3 harg3 x3)) (ld_slab _ _ i _ _ (harg14.read_unread x14)))) y y (fun _ => rfl)) (ld_whole arg7 harg7 x7 _))
  isplitl [H11]
  · unfold owns; iexists _; isplitr; swap; · iexact H11
    ipureintro; exact read_whole _ _ _ _ _ _ (pe_step i (ld_start arg2 harg2 x2 i _ _) (ld_whole arg8 harg8 x8 _) (funext fun y => ld_cols _ _ 2048 128 (by omega) _ _ rfl rfl _ _ (read_whole _ _ _ _ _ _ (acc_step (ld_whole arg16 harg16 x16 _) (ld_all _ _ _ _ (read_xdq _ _ arg3 harg3 x3)) (ld_slab _ _ i _ _ (harg14.read_unread x14)))) y y (fun _ => rfl)))
  isplitl [H12]
  · unfold owns; iexists _; isplitr; swap; · iexact H12
    ipureintro; exact read_codes _ _ arg3 harg3 x3
  isplitl [H13]
  · unfold owns; iexists _; isplitr; swap; · iexact H13
    ipureintro; exact read_whole _ _ _ _ _ _ (ld_scOut _ _ _ _ (read_whole _ _ _ _ _ _ (sc_chain i arg3 harg3 x3 _ _ (ld_whole arg17 harg17 x17 _))))
  isplitl [H14]; · iexact H14
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_whole arg16 harg16 x16 _) (ld_all _ _ _ _ (read_xdq _ _ arg3 harg3 x3)) (ld_slab _ _ i _ _ (harg14.read_unread x14))))
  unfold owns; iexists _; isplitr; swap; · iexact H17
  ipureintro; exact (read_whole _ _ _ _ _ _ (sc_chain i arg3 harg3 x3 _ _ (ld_whole arg17 harg17 x17 _)))

end Cert.Kernel.Run

end
-- ==== Proof.Kernel.Body.lean ====
module

public import proofs.«01_k».proof.Proof.Gen.Kernel.Frame
public import proofs.«01_k».proof.Proof.Gen.Kernel.Skeleton
public import Idealize.ShloMosaic.Lib.Claim
public import proofs.«01_k».proof.Proof.Kernel.StepA
public import proofs.«01_k».proof.Proof.Kernel.StepB
public import proofs.«01_k».proof.Proof.Kernel.StepC
public import proofs.«01_k».proof.Proof.Kernel.StepD
public import proofs.«01_k».proof.Proof.Kernel.StepE
public import proofs.«01_k».proof.Proof.Kernel.StepF

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## One grid point, the six cases together -/

/-- The kept weights after point `t`. -/
def new14 (t : Fin cfg0.N) (x14 : Vec F S8x2176x1024 .bf16) (x4 : Vec F S2112x1024 .fp8e4m3) (x5 : Vec F S1x2112x8 .f32) : Vec F S8x2176x1024 .bf16 :=
  if t.val < 8 then putSlab x14 (kOf (grid0.coords t)) (wSlab x4 x5) else x14

/-- The accumulator after point `t`. -/
def new16 (t : Fin cfg0.N) (x14 : Vec F S8x2176x1024 .bf16) (x16 : Vec F S512x2176 .f32) (x3 : Vec F S512x1024 .bf16) (x4 : Vec F S2112x1024 .fp8e4m3)
    (x5 : Vec F S1x2112x8 .f32) : Vec F S512x2176 .f32 :=
  accStep (if t.val % 8 = 0 then k0_pay84 else x16) x3 (slab (new14 t x14 x4 x5) (kOf (grid0.coords t)))

/-- A point whose reduction step is not the last: four outputs are left alone. -/
theorem step_mid (c : Dev nD) (t : Fin cfg0.N) (hk : ¬t.val % 8 = 7) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
    (d9 : Vec F S512x1536 .bf16) (d10 : Vec F S512x512 .bf16) (d11 : Vec F S512x64 .bf16) (d13 : Vec F S512x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare (codesBlk x3) ∗ owns (c : Thread nD τ) arg13 fullShare d13 ∗ owns (c : Thread nD τ) arg14 fullShare (new14 t x14 x4 x5) ∗ owns (c : Thread nD τ) arg15 fullShare (xdqBlk x3) ∗ owns (c : Thread nD τ) arg16 fullShare (new16 t x14 x16 x3 x4 x5) ∗ owns (c : Thread nD τ) arg17 fullShare (scMerge (kOf (grid0.coords t)) x3 x17)) -∗ K ⟨⟩))
      ⊢ wp frame (wpE (defs₀ (F := F)) Variants.none c none) E (cc0_mla_proj (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold new16 new14
  by_cases h0 : t.val < 8
  · by_cases h1 : t.val % 8 = 0
    · simp only [if_pos h0, if_pos h1, slab_putSlab]
      exact stepA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ((hcond0_0 t).mpr h0) ((hcond0_1 t).mpr h1) (fun h => hk ((hcond0_2 t).mp h)) x2 x3 x4 x5 x6 x7 x8 x14 x15 x16 x17 d9 d10 d11 d13 E K
    · simp only [if_pos h0, if_neg h1, slab_putSlab]
      exact stepB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ((hcond0_0 t).mpr h0) (fun h => h1 ((hcond0_1 t).mp h)) (fun h => hk ((hcond0_2 t).mp h)) x2 x3 x4 x5 x6 x7 x8 x14 x15 x16 x17 d9 d10 d11 d13 E K
  · by_cases h1 : t.val % 8 = 0
    · simp only [if_neg h0, if_pos h1]
      exact stepD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fun h => h0 ((hcond0_0 t).mp h)) ((hcond0_1 t).mpr h1) (fun h => hk ((hcond0_2 t).mp h)) x2 x3 x4 x5 x6 x7 x8 x14 x15 x16 x17 d9 d10 d11 d13 E K
    · simp only [if_neg h0, if_neg h1]
      exact stepE c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fun h => h0 ((hcond0_0 t).mp h)) (fun h => h1 ((hcond0_1 t).mp h)) (fun h => hk ((hcond0_2 t).mp h)) x2 x3 x4 x5 x6 x7 x8 x14 x15 x16 x17 d9 d10 d11 d13 E K

/-- A point whose reduction step is the last: every output is stored. -/
theorem step_last (c : Dev nD) (t : Fin cfg0.N) (hk : t.val % 8 = 7) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
     (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (qBlk (new16 t x14 x16 x3 x4 x5) x6) ∗ owns (c : Thread nD τ) arg10 fullShare (kvBlk (new16 t x14 x16 x3 x4 x5) x7) ∗ owns (c : Thread nD τ) arg11 fullShare (peBlk (mOf (grid0.coords t)) (new16 t x14 x16 x3 x4 x5) x2 x8) ∗ owns (c : Thread nD τ) arg12 fullShare (codesBlk x3) ∗ owns (c : Thread nD τ) arg13 fullShare (scOut (scMerge (kOf (grid0.coords t)) x3 x17)) ∗ owns (c : Thread nD τ) arg14 fullShare (new14 t x14 x4 x5) ∗ owns (c : Thread nD τ) arg15 fullShare (xdqBlk x3) ∗ owns (c : Thread nD τ) arg16 fullShare (new16 t x14 x16 x3 x4 x5) ∗ owns (c : Thread nD τ) arg17 fullShare (scMerge (kOf (grid0.coords t)) x3 x17)) -∗ K ⟨⟩))
      ⊢ wp frame (wpE (defs₀ (F := F)) Variants.none c none) E (cc0_mla_proj (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold new16 new14
  by_cases h0 : t.val < 8
  · have h1 : ¬t.val % 8 = 0 := by omega
    simp only [if_pos h0, if_neg h1, slab_putSlab]
    exact stepC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ((hcond0_0 t).mpr h0) (fun h => h1 ((hcond0_1 t).mp h)) ((hcond0_2 t).mpr hk) x2 x3 x4 x5 x6 x7 x8 x14 x15 x16 x17  E K
  · have h1 : ¬t.val % 8 = 0 := by omega
    simp only [if_neg h0, if_neg h1]
    exact stepF c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fun h => h0 ((hcond0_0 t).mp h)) (fun h => h1 ((hcond0_1 t).mp h)) ((hcond0_2 t).mpr hk) x2 x3 x4 x5 x6 x7 x8 x14 x15 x16 x17  E K

theorem kOf_val : ∀ t : Fin cfg0.N, (kOf (grid0.coords t)).val = t.val % 8 := by decide +kernel

/-! ## What the buffers hold, point by point -/

/-- Grid point `n`. -/
def pt (n : ℕ) (h : n < 48) : Fin cfg0.N := ⟨n, Nat.lt_of_lt_of_eq h (show cfg0.N = 48 from N_0).symm⟩

variable (m : (ℓ : Loc nD τ sig) → Buf (Elt F) ℓ) (ρ : Dev nD → PrngReg)

/-- The block of the input at point `n`. -/
def xB (c : Dev nD) (n : ℕ) (h : n < 48) : Vec F S512x1024 .bf16 := iblk m c 1 (pt n h)

/-- The dequantised weights of reduction step `k`. -/
def wS (c : Dev nD) (k : Fin 8) : Vec F S1x2176x1024 .bf16 :=
  wSlab (iblk m c 2 (pt k.val (by have := k.isLt; omega))) (iblk m c 3 (pt k.val (by have := k.isLt; omega)))

/-- The accumulator after point `n`. -/
def accAt (c : Dev nD) : (n : ℕ) → n < 48 → Vec F S512x2176 .f32
  | 0, h => accStep k0_pay84 (xB m c 0 h) (wS m c 0)
  | n + 1, h => accStep (if (n + 1) % 8 = 0 then k0_pay84 else accAt c n (by omega)) (xB m c (n + 1) h) (wS m c ⟨(n + 1) % 8, Nat.mod_lt _ (by omega)⟩)

/-- The scales of the row block of point `n`. -/
def scAt (c : Dev nD) (n : ℕ) (h : n < 48) : Vec F S512x64 .f32 :=
  fun y => scaleCol (tile (xB m c (8 * (n / 8) + (y 1).val / 8) (by have : (y 1).val < 64 := (y 1).isLt; omega)) ⟨(y 1).val % 8, Nat.mod_lt _ (by omega)⟩) (ix2 (y 0) 0)

/-- What the carried scratch buffers hold before point `n`: the slabs stored so far, the running sum of the row block, and the
    scale columns stored so far. -/
structure Inv (c : Dev nD) (n : ℕ) (x14 : Vec F S8x2176x1024 .bf16) (x16 : Vec F S512x2176 .f32) (x17 : Vec F S512x128 .f32) : Prop where
  slabs : ∀ k : Fin 8, k.val < n → slab x14 k = wS m c k
  acc : n % 8 ≠ 0 → ∀ h : n - 1 < 48, x16 = accAt m c (n - 1) h
  sc : ∀ y : S512x128.Idx, (y 1).val < 8 * (n % 8) → ∀ h : 8 * (n / 8) + (y 1).val / 8 < 48,
    x17 y = scaleCol (tile (xB m c (8 * (n / 8) + (y 1).val / 8) h) ⟨(y 1).val % 8, Nat.mod_lt _ (by omega)⟩) (ix2 (y 0) 0)

theorem inv_zero (c : Dev nD) (x14 : Vec F S8x2176x1024 .bf16) (x16 : Vec F S512x2176 .f32) (x17 : Vec F S512x128 .f32) : Inv m c 0 x14 x16 x17 :=
  ⟨fun _ h => absurd h (Nat.not_lt_zero _), fun h => absurd rfl h, fun y h => absurd h (Nat.not_lt_zero _)⟩

theorem slab_putSlab_ne (x : Vec F S8x2176x1024 .bf16) (k k' : Fin 8) (h : k'.val ≠ k.val) (s : Vec F S1x2176x1024 .bf16) :
    slab (putSlab x k s) k' = slab x k' := by
  funext y
  show (if k'.val = k.val then s (ix3 0 (y 1) (y 2)) else _) = _
  rw [if_neg h]; rfl

section Step
variable {m} {c : Dev nD} {t : Fin cfg0.N} {x14 : Vec F S8x2176x1024 .bf16} {x16 : Vec F S512x2176 .f32} {x17 : Vec F S512x128 .f32}

theorem lt48 (t : Fin cfg0.N) : t.val < 48 := Nat.lt_of_lt_of_eq t.isLt (show cfg0.N = 48 from N_0)

/-- The slabs after point `t`. -/
theorem slabs_step (hI : Inv m c t.val x14 x16 x17) (k : Fin 8) (hk : k.val < t.val + 1) :
    slab (new14 t x14 (iblk m c 2 t) (iblk m c 3 t)) k = wS m c k := by
  have hK := kOf_val t
  unfold new14
  by_cases h0 : t.val < 8
  · rw [if_pos h0]
    by_cases h : k.val = t.val
    · have e : kOf (grid0.coords t) = k := Fin.ext (by omega)
      rw [e, slab_putSlab]
      have et : pt k.val (by omega) = t := Fin.ext h
      unfold wS; rw [et]
    · rw [slab_putSlab_ne _ _ _ (by omega)]
      exact hI.slabs k (by omega)
  · rw [if_neg h0]; exact hI.slabs k (by have := k.isLt; omega)

/-- The accumulator after point `t`. -/
theorem acc_step_eq (hI : Inv m c t.val x14 x16 x17) :
    new16 t x14 x16 (iblk m c 1 t) (iblk m c 2 t) (iblk m c 3 t) = accAt m c t.val (lt48 t) := by
  have hK := kOf_val t
  unfold new16
  rw [slabs_step hI _ (by rw [hK]; exact Nat.lt_succ_of_le (Nat.mod_le _ _))]
  have hx : (iblk m c 1 t : Vec F S512x1024 .bf16) = xB m c t.val (lt48 t) := rfl
  rw [hx]
  have hacc := hI.acc
  obtain ⟨n, hn⟩ := t
  have eK : kOf (grid0.coords (⟨n, hn⟩ : Fin cfg0.N)) = ⟨n % 8, Nat.mod_lt _ (by omega)⟩ := Fin.ext hK
  rw [eK]
  cases n with
  | zero => rfl
  | succ n =>
    show accStep (if (n + 1) % 8 = 0 then k0_pay84 else x16) _ _ = accStep (if (n + 1) % 8 = 0 then k0_pay84 else accAt m c n _) _ _
    by_cases h : (n + 1) % 8 = 0
    · rw [if_pos h, if_pos h]
    · rw [if_neg h, if_neg h, hacc h (by have := lt48 ⟨n + 1, hn⟩; simp at this ⊢; omega)]; rfl

/-- The scale columns after point `t`. -/
theorem sc_step_eq (hI : Inv m c t.val x14 x16 x17) (y : S512x128.Idx) (hy : (y 1).val < 8 * (t.val % 8 + 1))
    (h : 8 * (t.val / 8) + (y 1).val / 8 < 48) :
    scMerge (kOf (grid0.coords t)) (iblk m c 1 t) x17 y
      = scaleCol (tile (xB m c (8 * (t.val / 8) + (y 1).val / 8) h) ⟨(y 1).val % 8, Nat.mod_lt _ (by omega)⟩) (ix2 (y 0) 0) := by
  have hK := kOf_val t
  unfold scMerge
  by_cases hk : (y 1).val / 8 = (kOf (grid0.coords t)).val
  · rw [if_pos hk]
    have et : pt (8 * (t.val / 8) + (y 1).val / 8) h = t := Fin.ext (by show 8 * (t.val / 8) + (y 1).val / 8 = t.val; omega)
    unfold xB; rw [et]
  · rw [if_neg hk]
    exact hI.sc y (by omega) h

/-- The invariant goes from point to point. -/
theorem inv_step (hI : Inv m c t.val x14 x16 x17) :
    Inv m c (t.val + 1) (new14 t x14 (iblk m c 2 t) (iblk m c 3 t)) (new16 t x14 x16 (iblk m c 1 t) (iblk m c 2 t) (iblk m c 3 t))
      (scMerge (kOf (grid0.coords t)) (iblk m c 1 t) x17) where
  slabs := fun k hk => slabs_step hI k hk
  acc := fun _ _ => acc_step_eq hI
  sc := fun y hy h => by
    have h1 : (t.val + 1) % 8 ≠ 0 := fun h0 => by rw [h0] at hy; exact absurd hy (Nat.not_lt_zero _)
    have h2 : (t.val + 1) / 8 = t.val / 8 := by omega
    have := sc_step_eq hI y (by omega) (by rw [← h2]; exact h)
    rw [this]
    congr 3
    simp only [h2]

/-- The scales that the last reduction step of a row block stores. -/
theorem sc_last_eq (hI : Inv m c t.val x14 x16 x17) (hk : t.val % 8 = 7) :
    scOut (scMerge (kOf (grid0.coords t)) (iblk m c 1 t) x17) = scAt m c t.val (lt48 t) := by
  funext y
  have b : (y 1).val < 64 := (y 1).isLt
  exact sc_step_eq hI (ix2 (y 0) ⟨(y 1).val, by omega⟩) (by show (y 1).val < _; omega) _

end Step

/-! ## The proof data -/

/-- The region's invariant before point `n`: the scratch buffers at contents that satisfy `Inv`, and the generator's register. -/
def PhiS (c : Dev nD) (n : ℕ) (_ : n ≤ cfg0.N) : sProp 𝕄 :=
  iprop(∃ x14, ∃ x15, ∃ x16, ∃ x17, ⌜Inv m c n x14 x16 x17⌝ ∗ (owns (c : Thread nD τ) scM0 fullShare x14 ∗ owns (c : Thread nD τ) scM1 fullShare x15 ∗ owns (c : Thread nD τ) scM2 fullShare x16 ∗ owns (c : Thread nD τ) scM3 fullShare x17) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => qBlk (accAt m c t.val (lt48 t)) (iblk m c 4 t)
    | ⟨8, _⟩ => kvBlk (accAt m c t.val (lt48 t)) (iblk m c 5 t)
    | ⟨9, _⟩ => peBlk (mOf (grid0.coords t)) (accAt m c t.val (lt48 t)) (iblk m c 0 t) (iblk m c 6 t)
    | ⟨10, _⟩ => codesBlk (iblk m c 1 t)
    | ⟨11, _⟩ => scAt m c t.val (lt48 t)
  Φ t := PhiS m c t.val (Nat.le_of_lt_succ t.isLt)
  q _ := fullShare
  owed _ := 0

/-- The arrays as the region finds them. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = qBlk (accAt m c t.val (lt48 t)) (iblk m c 4 t) := by dsimp only [dats]
theorem after0_8 (c : Dev nD) (t : Fin cfg0.N) : (dats m 0 c).after 8 t = kvBlk (accAt m c t.val (lt48 t)) (iblk m c 5 t) := by dsimp only [dats]
theorem after0_9 (c : Dev nD) (t : Fin cfg0.N) : (dats m 0 c).after 9 t = peBlk (mOf (grid0.coords t)) (accAt m c t.val (lt48 t)) (iblk m c 0 t) (iblk m c 6 t) := by dsimp only [dats]
theorem after0_10 (c : Dev nD) (t : Fin cfg0.N) : (dats m 0 c).after 10 t = codesBlk (iblk m c 1 t) := by dsimp only [dats]
theorem after0_11 (c : Dev nD) (t : Fin cfg0.N) : (dats m 0 c).after 11 t = scAt m c t.val (lt48 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the pipeline hands the body at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

-- twelve windows and four scratch buffers are threaded
set_option maxHeartbeats 4800000 in
/-- The body at any point keeps the invariant and leaves each buffer as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_castSucc m c t]
  unfold PhiS
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 10 t = owns (c : Thread nD τ) (ms0_10 t) fullShare ((dats m 0 c).after 10 t) from by
      unfold Dat.leavesExact; rw [liveAt0_10 t], after0_10]
  by_cases hk : t.val % 8 = 7
  · rw [show (dats m 0 c).leavesExact 7 t = owns (c : Thread nD τ) (ms0_7 t) fullShare ((dats m 0 c).after 7 t) from by
      unfold Dat.leavesExact; rw [liveAt0_7 t ((hcond0_2 t).mpr hk)], after0_7]
    rw [show (dats m 0 c).leavesExact 8 t = owns (c : Thread nD τ) (ms0_8 t) fullShare ((dats m 0 c).after 8 t) from by
      unfold Dat.leavesExact; rw [liveAt0_8 t ((hcond0_2 t).mpr hk)], after0_8]
    rw [show (dats m 0 c).leavesExact 9 t = owns (c : Thread nD τ) (ms0_9 t) fullShare ((dats m 0 c).after 9 t) from by
      unfold Dat.leavesExact; rw [liveAt0_9 t ((hcond0_2 t).mpr hk)], after0_9]
    rw [show (dats m 0 c).leavesExact 11 t = owns (c : Thread nD τ) (ms0_11 t) fullShare ((dats m 0 c).after 11 t) from by
      unfold Dat.leavesExact; rw [liveAt0_11 t ((hcond0_2 t).mpr hk)], after0_11]
    iintro ⟨⟨%x14, %x15, %x16, %x17, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    rw [← acc_step_eq hI, ← sc_last_eq hI hk]
    iapply (step_last c t hk (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) (iblk m c 5 t) (iblk m c 6 t) x14 x15 x16 x17  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · iexists _; iexists _; iexists _; iexists _
      isplitr; · ipureintro; exact inv_step hI
      isplitr [Hg]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [Dat.leavesExact_idle (dats m 0 c) 7 t (idleAt0_7 t (fun h => hk ((hcond0_2 t).mp h))) (noFlush0_7 t (fun h => hk ((hcond0_2 t).mp h)))]
    rw [Dat.leavesExact_idle (dats m 0 c) 8 t (idleAt0_8 t (fun h => hk ((hcond0_2 t).mp h))) (noFlush0_8 t (fun h => hk ((hcond0_2 t).mp h)))]
    rw [Dat.leavesExact_idle (dats m 0 c) 9 t (idleAt0_9 t (fun h => hk ((hcond0_2 t).mp h))) (noFlush0_9 t (fun h => hk ((hcond0_2 t).mp h)))]
    rw [Dat.leavesExact_idle (dats m 0 c) 11 t (idleAt0_11 t (fun h => hk ((hcond0_2 t).mp h))) (noFlush0_11 t (fun h => hk ((hcond0_2 t).mp h)))]
    iintro ⟨⟨%x14, %x15, %x16, %x17, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (step_mid c t hk (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) (iblk m c 5 t) (iblk m c 6 t) x14 x15 x16 x17 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · iexists _; iexists _; iexists _; iexists _
      isplitr; · ipureintro; exact inv_step hI
      isplitr [Hg]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    iexists _; iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%a, HS0⟩, ⟨%b, HS1⟩, ⟨%d, HS2⟩, ⟨%e, HS3⟩⟩, Hg⟩
  iexists a; iexists b; iexists d; iexists e
  isplitr; · ipureintro; exact inv_zero m c _ _ _
  isplitr [Hg]
  · isplitl [HS0]; · iexact HS0
    isplitl [HS1]; · iexact HS1
    isplitl [HS2]; · iexact HS2
    iexact HS3
  iexact Hg

/-- After the last point the scratch buffers' contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  unfold PhiS
  iintro ⟨%a, %b, %d, %e, -, ⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

/-! ## The run and the frame -/

-- the launch theorem's implicit arguments are found by unifying its conclusion with this one
set_option backward.isDefEq.respectTransparency.types false in
set_option maxHeartbeats 800000 in
/-- Every weakly fair execution terminates, with every array of the pipeline at what the proof data say, every other buffer as
    the lines after the region leave it, and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.KernelIdeal.Points.lean ====
module

public import proofs.«01_k».proof.Proof.Gen.KernelIdeal.Frame
public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body widens the weights: the row block is the first. -/
abbrev cond0_0 (i : grid0.Coords) : Prop := k0_cond1 i = 1#1
/-- It holds at the points below 8. -/
theorem hcond0_0 : ∀ t : Fin cfg0.N, cond0_0 (grid0.coords t) ↔ t.val < 8 :=
  (fun t => by
    have ht : t.val < 48 := Nat.lt_of_lt_of_eq t.isLt N_0
    have e0 : (grid0.coords t 0).val = t.val / 8 % 6 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val < 8)

/-- The body clears the accumulator: the reduction step is the first. -/
abbrev cond0_1 (i : grid0.Coords) : Prop := (Scalar.cmpi .ne (Scalar.extui (Scalar.cmpi .eq (BitVec.ofNat 32 (i 1).val) 0#32)) 0#32) = 1#1
/-- It holds at the points that 8 divides. -/
theorem hcond0_1 : ∀ t : Fin cfg0.N, cond0_1 (grid0.coords t) ↔ t.val % 8 = 0 :=
  (fun t => by
    have ht : t.val < 48 := Nat.lt_of_lt_of_eq t.isLt N_0
    have e0 : (grid0.coords t 0).val = t.val / 8 % 6 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The body writes the four row results: the reduction step is the last. -/
abbrev cond0_2 (i : grid0.Coords) : Prop := k0_cond3 i = 1#1
/-- It holds at the points that leave 7 on division by 8. -/
theorem hcond0_2 : ∀ t : Fin cfg0.N, cond0_2 (grid0.coords t) ↔ t.val % 8 = 7 :=
  (fun t => by
    have ht : t.val < 48 := Nat.lt_of_lt_of_eq t.isLt N_0
    have e0 : (grid0.coords t 0).val = t.val / 8 % 6 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_10 : ∀ t : Fin cfg0.N, cfg0.idle 10 (grid0.coords t) = false := fun _ => rfl
theorem idleAt0_7 : ∀ t : Fin cfg0.N, ¬cond0_2 (grid0.coords t) → cfg0.idle 7 (grid0.coords t) = true := by decide +kernel
theorem noFlush0_7 : ∀ t : Fin cfg0.N, ¬cond0_2 (grid0.coords t) → (cfg0.win 7).flush t = false := by decide +kernel
theorem liveAt0_7 : ∀ t : Fin cfg0.N, cond0_2 (grid0.coords t) → cfg0.idle 7 (grid0.coords t) = false := by decide +kernel
theorem idleAt0_8 : ∀ t : Fin cfg0.N, ¬cond0_2 (grid0.coords t) → cfg0.idle 8 (grid0.coords t) = true := by decide +kernel
theorem noFlush0_8 : ∀ t : Fin cfg0.N, ¬cond0_2 (grid0.coords t) → (cfg0.win 8).flush t = false := by decide +kernel
theorem liveAt0_8 : ∀ t : Fin cfg0.N, cond0_2 (grid0.coords t) → cfg0.idle 8 (grid0.coords t) = false := by decide +kernel
theorem idleAt0_9 : ∀ t : Fin cfg0.N, ¬cond0_2 (grid0.coords t) → cfg0.idle 9 (grid0.coords t) = true := by decide +kernel
theorem noFlush0_9 : ∀ t : Fin cfg0.N, ¬cond0_2 (grid0.coords t) → (cfg0.win 9).flush t = false := by decide +kernel
theorem liveAt0_9 : ∀ t : Fin cfg0.N, cond0_2 (grid0.coords t) → cfg0.idle 9 (grid0.coords t) = false := by decide +kernel
theorem idleAt0_11 : ∀ t : Fin cfg0.N, ¬cond0_2 (grid0.coords t) → cfg0.idle 11 (grid0.coords t) = true := by decide +kernel
theorem noFlush0_11 : ∀ t : Fin cfg0.N, ¬cond0_2 (grid0.coords t) → (cfg0.win 11).flush t = false := by decide +kernel
theorem liveAt0_11 : ∀ t : Fin cfg0.N, cond0_2 (grid0.coords t) → cfg0.idle 11 (grid0.coords t) = false := by decide +kernel

/-! ## The memrefs that the body is called with at a point -/

abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2112x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2112x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1536 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x64 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x64 .f32 := win0_11.stage (cfg0.slots t 11)
abbrev hs0_11 (t : Fin cfg0.N) : (ms0_11 t).IsWhole := hstage0_11 ((cfg0.slots t 11).cast nbuf0_11)
abbrev scM0 : Memref sig .tc .vmem S8x2176x1024 .bf16 := Memref.whole cc0_scratch0
abbrev scM1 : Memref sig .tc .vmem S512x1024 .bf16 := Memref.whole cc0_scratch1
abbrev scM2 : Memref sig .tc .vmem S512x2176 .f32 := Memref.whole cc0_scratch2
abbrev scM3 : Memref sig .tc .vmem S512x128 .f32 := Memref.whole cc0_scratch3

/-- The region's invariant with the four scratch buffers owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.KernelIdeal.Run

end
-- ==== Proof.KernelIdeal.Values.lean ====
module

public import proofs.«01_k».proof.Proof.Gen.KernelIdeal.Frame
public import proofs.«01_k».proof.Proof.Gen.KernelIdeal.Skeleton
public import proofs.«01_k».proof.Proof.KernelIdeal.Points
public import Idealize.ShloMosaic.Lib.VecWindow
public import Idealize.ShloMosaic.Lib.Writes
public import Idealize.ShloMosaic.Lib.Ring
public import Idealize.ShloMosaic.Lib.ValueIdx
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## What the body computes, as functions of vectors -/

/-- The 128 columns of quantisation group `g` of a block of activations. -/
def tile (x : Vec F S512x1024 .bf16) (g : Fin 8) : Vec F S512x128 .bf16 :=
  fun y => x (ix2 (y 0) ⟨128 * g.val + (y 1).val, by have := (y 1).isLt; have := g.isLt; simp at *; omega⟩)

/-- The scale of each row of one group. -/
def scaleCol (v : Vec F S512x128 .bf16) : FVec F S512x1 .f32 := k0_pay27 v

/-- The codes of one group. -/
def codeTile (v : Vec F S512x128 .bf16) : FVec F S512x128 .fp8e4m3 := k0_pay28 v

/-- The dequantised values of one group. -/
def xdqTile (v : Vec F S512x128 .bf16) : FVec F S512x128 .bf16 := k0_pay29 (k0_pay27 v) (k0_pay28 v)

/-- Eight groups side by side. -/
def glue {α : Type} (P : Fin 8 → S512x128.Idx → α) : S512x1024.Idx → α :=
  fun y => P ⟨(y 1).val / 128, by have := (y 1).isLt; simp at this; omega⟩ (ix2 (y 0) ⟨(y 1).val % 128, Nat.mod_lt _ (by omega)⟩)

/-- The codes of a block. -/
def codesBlk (x : Vec F S512x1024 .bf16) : Vec F S512x1024 .fp8e4m3 := glue fun g => codeTile (tile x g)

/-- The dequantised values of a block. -/
def xdqBlk (x : Vec F S512x1024 .bf16) : Vec F S512x1024 .bf16 := glue fun g => xdqTile (tile x g)

/-- The weights of group `g` of a block, widened and scaled. -/
def wTile (w : Vec F S2112x1024 .fp8e4m3) (s : Vec F S1x2112x8 .f32) (g : Fin 8) : FVec F S1x2112x128 .bf16 :=
  k0_pay3 (fun y => w (ix2 (y 0) ⟨128 * g.val + (y 1).val, by have := (y 1).isLt; have := g.isLt; simp at *; omega⟩))
    (fun y => s (ix3 0 (y 1) g))

/-- The slab of weights that one reduction step uses: 2112 rows in eight groups of 128 columns, then rows of zeros. -/
def slabOf (W : Fin 8 → Vec F S1x2112x128 .bf16) : Vec F S1x2176x1024 .bf16 :=
  fun y => if h : (y 1).val < 2112 then
      W ⟨(y 2).val / 128, by have := (y 2).isLt; simp at this; omega⟩ (ix3 0 ⟨(y 1).val, h⟩ ⟨(y 2).val % 128, Nat.mod_lt _ (by omega)⟩)
    else k0_pay4 (ix3 0 0 0)

/-- The slab of dequantised weights. -/
def wSlab (w : Vec F S2112x1024 .fp8e4m3) (s : Vec F S1x2112x8 .f32) : Vec F S1x2176x1024 .bf16 := slabOf (wTile w s)

/-- Slab `k` of the kept weights. -/
def slab (x : Vec F S8x2176x1024 .bf16) (k : Fin 8) : Vec F S1x2176x1024 .bf16 := fun y => x (ix3 k (y 1) (y 2))

/-- The kept weights with slab `k` replaced. -/
def putSlab (x : Vec F S8x2176x1024 .bf16) (k : Fin 8) (s : Vec F S1x2176x1024 .bf16) : Vec F S8x2176x1024 .bf16 :=
  fun y => if (y 0).val = k.val then s (ix3 0 (y 1) (y 2)) else x y

theorem slab_putSlab (x : Vec F S8x2176x1024 .bf16) (k : Fin 8) (s : Vec F S1x2176x1024 .bf16) : slab (putSlab x k s) k = s := by
  funext y
  show (if k.val = k.val then s (ix3 0 (y 1) (y 2)) else _) = s y
  rw [if_pos rfl]
  refine congrArg s (funext fun b => ?_)
  match b with
  | ⟨0, _⟩ => exact (Subsingleton.elim (α := Fin 1) _ _)
  | ⟨1, _⟩ => rfl
  | ⟨2, _⟩ => rfl

/-- The scale columns kept so far with the eight of reduction step `k` put in. -/
def scMerge (k : Fin 8) (x : Vec F S512x1024 .bf16) (sc : Vec F S512x128 .f32) : Vec F S512x128 .f32 :=
  fun y => if (y 1).val / 8 = k.val then scaleCol (tile x ⟨(y 1).val % 8, Nat.mod_lt _ (by omega)⟩) (ix2 (y 0) 0) else sc y

/-- One reduction step of the product. -/
def accStep (acc : Vec F S512x2176 .f32) (x : Vec F S512x1024 .bf16) (w : Vec F S1x2176x1024 .bf16) : Vec F S512x2176 .f32 :=
  k0_pay1 acc (xdqBlk x) w

/-- `n` columns of the accumulator from column `o`. -/
def colsOf (o n : ℕ) (h : o + n ≤ 2176) (acc : Vec F S512x2176 .f32) : (⟨2, ![512, n]⟩ : Shape).Idx → Elt F .f32 :=
  fun y => acc (ix2 (y 0) ⟨o + (y 1).val, by have := (y 1).isLt; simp at this; omega⟩)

/-- The normalised query rows. -/
def qBlk (acc : Vec F S512x2176 .f32) (g : Vec F S1x1536 .bf16) : Vec F S512x1536 .bf16 := k0_pay18 (colsOf 0 1536 (by omega) acc) g

/-- The normalised key-value rows. -/
def kvBlk (acc : Vec F S512x2176 .f32) (g : Vec F S1x512 .bf16) : Vec F S512x512 .bf16 := k0_pay19 (colsOf 1536 512 (by omega) acc) g

/-- The first position of the sequence that row block `m` lies in. -/
def startOf (m : Fin 6) (st : Vec F S2 .i32) : Elt F .i32 := st (ix1 ⟨m.val / 3, by have := m.isLt; omega⟩)

/-- The rotated rows. -/
def peBlk (m : Fin 6) (acc : Vec F S512x2176 .f32) (st : Vec F S2 .i32) (fr : Vec F S1x128 .f32) : Vec F S512x64 .bf16 :=
  k0_pay2 (iota .tc S512x128 32 [1] iota_S512x128_d1_w32) (k0_pay20 (BitVec.ofNat 32 m.val) (startOf m st) fr)
    (colsOf 2048 128 (by omega) acc)

/-- The first 64 scale columns. -/
def scOut (sc : Vec F S512x128 .f32) : Vec F S512x64 .f32 :=
  fun y => sc (ix2 (y 0) ⟨(y 1).val, by have := (y 1).isLt; simp at this; omega⟩)

/-- The row block of a grid point. -/
abbrev mOf (i : grid0.Coords) : Fin 6 := i 0
/-- The reduction step of a grid point. -/
abbrev kOf (i : grid0.Coords) : Fin 8 := i 1

/-! ## Reading what the body stores -/

section Reads
variable {κ : Kind} {sp : Space}

/-- A load of group `g` of the activations. -/
theorem ld_tile (a : Memref sig κ sp S512x1024 .bf16) (ha : a.IsWhole) (x : Vec F S512x1024 .bf16) (g : Fin 8) (off : Fin 2 → ℕ)
    (hoff : off = ![0, 128 * g.val]) (inb : ∀ b, off b + S512x128.size b ≤ S512x1024.size b) :
    View.readAt (Elt F) a.view (Rect.unit (s := S512x1024) off S512x128.size inb).toLoadRect (ha.unread x) = tile x g := by
  subst hoff
  rw [View.readAt_unit _ _ _ rfl inb, ha.read_unread]
  funext y
  refine congrArg x (funext fun b => ?_)
  match b with
  | ⟨0, _⟩ => exact Fin.ext (by show 0 + 1 * (y 0).val = (y 0).val; omega)
  | ⟨1, _⟩ => exact Fin.ext (by show 128 * g.val + 1 * (y 1).val = 128 * g.val + (y 1).val; omega)

/-- Eight pieces of 128 columns, the last first. -/
abbrev pieces8 {e : EltTy} (P : Fin 8 → Vec F S512x128 e) : List (View.Piece (Elt F) S512x1024 e) :=
  [⟨Rect.unit (s := S512x1024) ![0, 896] S512x128.size inb_S512x1024_S512x128_0_896, P 7⟩, ⟨Rect.unit (s := S512x1024) ![0, 768] S512x128.size inb_S512x1024_S512x128_0_768, P 6⟩, ⟨Rect.unit (s := S512x1024) ![0, 640] S512x128.size inb_S512x1024_S512x128_0_640, P 5⟩, ⟨Rect.unit (s := S512x1024) ![0, 512] S512x128.size inb_S512x1024_S512x128_0_512, P 4⟩, ⟨Rect.unit (s := S512x1024) ![0, 384] S512x128.size inb_S512x1024_S512x128_0_384, P 3⟩, ⟨Rect.unit (s := S512x1024) ![0, 256] S512x128.size inb_S512x1024_S512x128_0_256, P 2⟩, ⟨Rect.unit (s := S512x1024) ![0, 128] S512x128.size inb_S512x1024_S512x128_0_128, P 1⟩, ⟨Rect.unit (s := S512x1024) ![0, 0] S512x128.size inb_S512x1024_S512x128_0_0, P 0⟩]

theorem glue_emb {α : Type} (P : Fin 8 → S512x128.Idx → α) (g : Fin 8) (off : Fin 2 → ℕ) (hoff : off = ![0, 128 * g.val])
    (inb : ∀ b, off b + S512x128.size b ≤ S512x1024.size b) (x : S512x128.Idx) :
    P g x = glue P ((Rect.unit (s := S512x1024) off S512x128.size inb).emb x) := by
  subst hoff
  have h0 : ((Rect.unit (s := S512x1024) ![0, 128 * g.val] S512x128.size inb).emb x 0).val = (x 0).val := by
    show 0 + 1 * (x 0).val = _; omega
  have h1 : ((Rect.unit (s := S512x1024) ![0, 128 * g.val] S512x128.size inb).emb x 1).val = 128 * g.val + (x 1).val := by
    show 128 * g.val + 1 * (x 1).val = _; omega
  have hx : (x 1).val < 128 := (x 1).isLt
  unfold glue
  have e1 : (⟨((Rect.unit (s := S512x1024) ![0, 128 * g.val] S512x128.size inb).emb x 1).val / 128, by rw [h1]; have := g.isLt; omega⟩ : Fin 8) = g :=
    Fin.ext (by show _ / 128 = _; rw [h1]; omega)
  refine (congrFun (congrArg P e1) _).symm.trans (congrArg (P _) (funext fun b => ?_))
  match b with
  | ⟨0, _⟩ => exact Fin.ext h0.symm
  | ⟨1, _⟩ =>
    refine Fin.ext ?_
    show (x 1).val = ((Rect.unit (s := S512x1024) ![0, 128 * g.val] S512x128.size inb).emb x 1).val % 128
    rw [h1]; omega

/-- Eight pieces of 128 columns read back as one block. -/
theorem read_pieces8 {e : EltTy} (v : View sig κ sp S512x1024 e) (f : v.ty.Contents (Elt F)) (P : Fin 8 → Vec F S512x128 e) :
    v.read (Elt F) (v.writes (Elt F) f (pieces8 P)) = glue P := by
  funext y
  refine View.read_writes_apply_of_pieces v f (glue P) (pieces8 P) ?_ y
    (View.cover_of_tiledL (pieces8 P) S512x128.size (by sl_kernel_rfl) y)
  intro p hp
  simp only [List.mem_cons, List.not_mem_nil, or_false] at hp
  rcases hp with rfl | rfl | rfl | rfl | rfl | rfl | rfl | rfl
  · exact glue_emb P 7 ![0, 896] rfl inb_S512x1024_S512x128_0_896
  · exact glue_emb P 6 ![0, 768] rfl inb_S512x1024_S512x128_0_768
  · exact glue_emb P 5 ![0, 640] rfl inb_S512x1024_S512x128_0_640
  · exact glue_emb P 4 ![0, 512] rfl inb_S512x1024_S512x128_0_512
  · exact glue_emb P 3 ![0, 384] rfl inb_S512x1024_S512x128_0_384
  · exact glue_emb P 2 ![0, 256] rfl inb_S512x1024_S512x128_0_256
  · exact glue_emb P 1 ![0, 128] rfl inb_S512x1024_S512x128_0_128
  · exact glue_emb P 0 ![0, 0] rfl inb_S512x1024_S512x128_0_0

/-- The codes' eight pieces, over loads of the eight groups. -/
theorem read_codes (v : View sig κ sp S512x1024 .fp8e4m3) (f : v.ty.Contents (Elt F)) {κ' : Kind} {sp' : Space}
    (a : Memref sig κ' sp' S512x1024 .bf16) (ha : a.IsWhole) (x : Vec F S512x1024 .bf16) :
    v.read (Elt F) (v.writes (Elt F) f
      [⟨Rect.unit (s := S512x1024) ![0, 896] S512x128.size inb_S512x1024_S512x128_0_896, codeTile (View.readAt (Elt F) a.view (Rect.unit (s := S512x1024) ![0, 896] S512x128.size inb_S512x1024_S512x128_0_896).toLoadRect (ha.unread x))⟩, ⟨Rect.unit (s := S512x1024) ![0, 768] S512x128.size inb_S512x1024_S512x128_0_768, codeTile (View.readAt (Elt F) a.view (Rect.unit (s := S512x1024) ![0, 768] S512x128.size inb_S512x1024_S512x128_0_768).toLoadRect (ha.unread x))⟩, ⟨Rect.unit (s := S512x1024) ![0, 640] S512x128.size inb_S512x1024_S512x128_0_640, codeTile (View.readAt (Elt F) a.view (Rect.unit (s := S512x1024) ![0, 640] S512x128.size inb_S512x1024_S512x128_0_640).toLoadRect (ha.unread x))⟩, ⟨Rect.unit (s := S512x1024) ![0, 512] S512x128.size inb_S512x1024_S512x128_0_512, codeTile (View.readAt (Elt F) a.view (Rect.unit (s := S512x1024) ![0, 512] S512x128.size inb_S512x1024_S512x128_0_512).toLoadRect (ha.unread x))⟩, ⟨Rect.unit (s := S512x1024) ![0, 384] S512x128.size inb_S512x1024_S512x128_0_384, codeTile (View.readAt (Elt F) a.view (Rect.unit (s := S512x1024) ![0, 384] S512x128.size inb_S512x1024_S512x128_0_384).toLoadRect (ha.unread x))⟩, ⟨Rect.unit (s := S512x1024) ![0, 256] S512x128.size inb_S512x1024_S512x128_0_256, codeTile (View.readAt (Elt F) a.view (Rect.unit (s := S512x1024) ![0, 256] S512x128.size inb_S512x1024_S512x128_0_256).toLoadRect (ha.unread x))⟩, ⟨Rect.unit (s := S512x1024) ![0, 128] S512x128.size inb_S512x1024_S512x128_0_128, codeTile (View.readAt (Elt F) a.view (Rect.unit (s := S512x1024) ![0, 128] S512x128.size inb_S512x1024_S512x128_0_128).toLoadRect (ha.unread x))⟩, ⟨Rect.unit (s := S512x1024) ![0, 0] S512x128.size inb_S512x1024_S512x128_0_0, codeTile (View.readAt (Elt F) a.view (Rect.unit (s := S512x1024) ![0, 0] S512x128.size inb_S512x1024_S512x128_0_0).toLoadRect (ha.unread x))⟩])
      = codesBlk x := by
  simp only [ld_tile a ha x 0 ![0, 0] rfl, ld_tile a ha x 1 ![0, 128] rfl, ld_tile a ha x 2 ![0, 256] rfl, ld_tile a ha x 3 ![0, 384] rfl, ld_tile a ha x 4 ![0, 512] rfl, ld_tile a ha x 5 ![0, 640] rfl, ld_tile a ha x 6 ![0, 768] rfl, ld_tile a ha x 7 ![0, 896] rfl]
  exact read_pieces8 v f fun g => codeTile (tile x g)

/-- The dequantised values' eight pieces, over loads of the eight groups. -/
theorem read_xdq (v : View sig κ sp S512x1024 .bf16) (f : v.ty.Contents (Elt F)) {κ' : Kind} {sp' : Space}
    (a : Memref sig κ' sp' S512x1024 .bf16) (ha : a.IsWhole) (x : Vec F S512x1024 .bf16) :
    v.read (Elt F) (v.writes (Elt F) f
      [⟨Rect.unit (s := S512x1024) ![0, 896] S512x128.size inb_S512x1024_S512x128_0_896, xdqTile (View.readAt (Elt F) a.view (Rect.unit (s := S512x1024) ![0, 896] S512x128.size inb_S512x1024_S512x128_0_896).toLoadRect (ha.unread x))⟩, ⟨Rect.unit (s := S512x1024) ![0, 768] S512x128.size inb_S512x1024_S512x128_0_768, xdqTile (View.readAt (Elt F) a.view (Rect.unit (s := S512x1024) ![0, 768] S512x128.size inb_S512x1024_S512x128_0_768).toLoadRect (ha.unread x))⟩, ⟨Rect.unit (s := S512x1024) ![0, 640] S512x128.size inb_S512x1024_S512x128_0_640, xdqTile (View.readAt (Elt F) a.view (Rect.unit (s := S512x1024) ![0, 640] S512x128.size inb_S512x1024_S512x128_0_640).toLoadRect (ha.unread x))⟩, ⟨Rect.unit (s := S512x1024) ![0, 512] S512x128.size inb_S512x1024_S512x128_0_512, xdqTile (View.readAt (Elt F) a.view (Rect.unit (s := S512x1024) ![0, 512] S512x128.size inb_S512x1024_S512x128_0_512).toLoadRect (ha.unread x))⟩, ⟨Rect.unit (s := S512x1024) ![0, 384] S512x128.size inb_S512x1024_S512x128_0_384, xdqTile (View.readAt (Elt F) a.view (Rect.unit (s := S512x1024) ![0, 384] S512x128.size inb_S512x1024_S512x128_0_384).toLoadRect (ha.unread x))⟩, ⟨Rect.unit (s := S512x1024) ![0, 256] S512x128.size inb_S512x1024_S512x128_0_256, xdqTile (View.readAt (Elt F) a.view (Rect.unit (s := S512x1024) ![0, 256] S512x128.size inb_S512x1024_S512x128_0_256).toLoadRect (ha.unread x))⟩, ⟨Rect.unit (s := S512x1024) ![0, 128] S512x128.size inb_S512x1024_S512x128_0_128, xdqTile (View.readAt (Elt F) a.view (Rect.unit (s := S512x1024) ![0, 128] S512x128.size inb_S512x1024_S512x128_0_128).toLoadRect (ha.unread x))⟩, ⟨Rect.unit (s := S512x1024) ![0, 0] S512x128.size inb_S512x1024_S512x128_0_0, xdqTile (View.readAt (Elt F) a.view (Rect.unit (s := S512x1024) ![0, 0] S512x128.size inb_S512x1024_S512x128_0_0).toLoadRect (ha.unread x))⟩])
      = xdqBlk x := by
  simp only [ld_tile a ha x 0 ![0, 0] rfl, ld_tile a ha x 1 ![0, 128] rfl, ld_tile a ha x 2 ![0, 256] rfl, ld_tile a ha x 3 ![0, 384] rfl, ld_tile a ha x 4 ![0, 512] rfl, ld_tile a ha x 5 ![0, 640] rfl, ld_tile a ha x 6 ![0, 768] rfl, ld_tile a ha x 7 ![0, 896] rfl]
  exact read_pieces8 v f fun g => xdqTile (tile x g)

/-- One whole-block store reads back as its payload. -/
theorem read_whole {s : Shape} {e : EltTy} (v : View sig κ sp s e) (f : v.ty.Contents (Elt F)) {off : Fin s.rank → ℕ}
    (inb : ∀ b, off b + s.size b ≤ s.size b) (w w' : s.Idx → Elt F e) (L : List (View.Piece (Elt F) s e)) (h : w = w') :
    v.read (Elt F) (v.writes (Elt F) f (⟨Rect.unit off s.size inb, w⟩ :: L)) = w' := by
  subst h; exact View.read_writes_full v f inb w L

/-- A load of a whole buffer held at `x`. -/
theorem ld_whole {s : Shape} {e : EltTy} (a : Memref sig κ sp s e) (ha : a.IsWhole) (x : s.Idx → Elt F e) {off : Fin s.rank → ℕ}
    (inb : ∀ b, off b + s.size b ≤ s.size b) :
    View.readAt (Elt F) a.view (Rect.unit off s.size inb).toLoadRect (ha.unread x) = x := by
  rw [View.readAt_full, ha.read_unread]

/-- One select of the scale chain: the column put at lane `8 k + g`. -/
def selCol (k : BitVec 32) (g : BitVec 32) (sc : FVec F S512x128 .f32) (col : FVec F S512x1 .f32) : FVec F S512x128 .f32 :=
  select (cmpi .eq (iota .tc S512x128 32 [1] iota_S512x128_d1_w32) (broadcast S512x128 (Scalar.addi (Scalar.muli k 8#32) g)))
    (broadcastTo S512x128 (shapeCast S512x1 col shapeCasts_S512x1_S512x1) broadcasts_S512x1_S512x128) sc

theorem selWord : ∀ (k g : Fin 8) (l : Fin 128),
    (IntOp.cmpi .eq (BitVec.ofNat 32 l.val) (Scalar.addi (Scalar.muli (BitVec.ofNat 32 k.val) 8#32) (BitVec.ofNat 32 g.val)) = 1)
      ↔ l.val = 8 * k.val + g.val := by decide +kernel

theorem selCol_apply (k g : Fin 8) (sc : FVec F S512x128 .f32) (col : FVec F S512x1 .f32) (y : S512x128.Idx) :
    selCol (BitVec.ofNat 32 k.val) (BitVec.ofNat 32 g.val) sc col y
      = if (y 1).val = 8 * k.val + g.val then col (ix2 (y 0) 0) else sc y := by
  have h := selWord k g (y 1)
  have hb : broadcastTo S512x128 (shapeCast S512x1 col shapeCasts_S512x1_S512x1) broadcasts_S512x1_S512x128 y = col (ix2 (y 0) 0) := by
    rw [shapeCast_self]
    refine congrArg col (funext fun b => ?_)
    match b with
    | ⟨0, _⟩ => rfl
    | ⟨1, _⟩ => rfl
  show Scalar.select (IntOp.cmpi .eq (iota .tc S512x128 32 [1] iota_S512x128_d1_w32 y) _) (broadcastTo _ _ _ y) (sc y) = _
  rw [hb, show iota .tc S512x128 32 [1] iota_S512x128_d1_w32 y = BitVec.ofNat 32 (y 1).val from iota_single_apply _ _ _ _ _ _]
  unfold Scalar.select
  exact if_congr h rfl rfl

/-- The eight selects of one step put the step's eight scale columns in. -/
theorem selChain (k : Fin 8) (x : Vec F S512x1024 .bf16) (sc : Vec F S512x128 .f32) :
    selCol (BitVec.ofNat 32 k.val) 7#32 (selCol (BitVec.ofNat 32 k.val) 6#32 (selCol (BitVec.ofNat 32 k.val) 5#32 (selCol (BitVec.ofNat 32 k.val) 4#32 (selCol (BitVec.ofNat 32 k.val) 3#32 (selCol (BitVec.ofNat 32 k.val) 2#32 (selCol (BitVec.ofNat 32 k.val) 1#32 (selCol (BitVec.ofNat 32 k.val) 0#32 (sc) (scaleCol (tile x 0))) (scaleCol (tile x 1))) (scaleCol (tile x 2))) (scaleCol (tile x 3))) (scaleCol (tile x 4))) (scaleCol (tile x 5))) (scaleCol (tile x 6))) (scaleCol (tile x 7))
      = scMerge k x sc := by
  funext y
  have s0 : ∀ (sc : FVec F S512x128 .f32) (col : FVec F S512x1 .f32), selCol (BitVec.ofNat 32 k.val) 0#32 sc col y
      = if (y 1).val = 8 * k.val + 0 then col (ix2 (y 0) 0) else sc y := fun sc col => selCol_apply k 0 sc col y
  have s1 : ∀ (sc : FVec F S512x128 .f32) (col : FVec F S512x1 .f32), selCol (BitVec.ofNat 32 k.val) 1#32 sc col y
      = if (y 1).val = 8 * k.val + 1 then col (ix2 (y 0) 0) else sc y := fun sc col => selCol_apply k 1 sc col y
  have s2 : ∀ (sc : FVec F S512x128 .f32) (col : FVec F S512x1 .f32), selCol (BitVec.ofNat 32 k.val) 2#32 sc col y
      = if (y 1).val = 8 * k.val + 2 then col (ix2 (y 0) 0) else sc y := fun sc col => selCol_apply k 2 sc col y
  have s3 : ∀ (sc : FVec F S512x128 .f32) (col : FVec F S512x1 .f32), selCol (BitVec.ofNat 32 k.val) 3#32 sc col y
      = if (y 1).val = 8 * k.val + 3 then col (ix2 (y 0) 0) else sc y := fun sc col => selCol_apply k 3 sc col y
  have s4 : ∀ (sc : FVec F S512x128 .f32) (col : FVec F S512x1 .f32), selCol (BitVec.ofNat 32 k.val) 4#32 sc col y
      = if (y 1).val = 8 * k.val + 4 then col (ix2 (y 0) 0) else sc y := fun sc col => selCol_apply k 4 sc col y
  have s5 : ∀ (sc : FVec F S512x128 .f32) (col : FVec F S512x1 .f32), selCol (BitVec.ofNat 32 k.val) 5#32 sc col y
      = if (y 1).val = 8 * k.val + 5 then col (ix2 (y 0) 0) else sc y := fun sc col => selCol_apply k 5 sc col y
  have s6 : ∀ (sc : FVec F S512x128 .f32) (col : FVec F S512x1 .f32), selCol (BitVec.ofNat 32 k.val) 6#32 sc col y
      = if (y 1).val = 8 * k.val + 6 then col (ix2 (y 0) 0) else sc y := fun sc col => selCol_apply k 6 sc col y
  have s7 : ∀ (sc : FVec F S512x128 .f32) (col : FVec F S512x1 .f32), selCol (BitVec.ofNat 32 k.val) 7#32 sc col y
      = if (y 1).val = 8 * k.val + 7 then col (ix2 (y 0) 0) else sc y := fun sc col => selCol_apply k 7 sc col y
  rw [s7, s6, s5, s4, s3, s2, s1, s0]
  unfold scMerge
  have hk := k.isLt
  by_cases h : (y 1).val / 8 = k.val
  · rw [if_pos h]
    have key : ∀ (g : ℕ) (hg : g < 8), (y 1).val = 8 * k.val + g → (⟨(y 1).val % 8, Nat.mod_lt _ (by omega)⟩ : Fin 8) = ⟨g, hg⟩ :=
      fun g hg h => Fin.ext (by show (y 1).val % 8 = g; omega)
    by_cases h7 : (y 1).val = 8 * k.val + 7
    · rw [if_pos h7, key 7 (by omega) h7]; rfl
    rw [if_neg h7]
    by_cases h6 : (y 1).val = 8 * k.val + 6
    · rw [if_pos h6, key 6 (by omega) h6]; rfl
    rw [if_neg h6]
    by_cases h5 : (y 1).val = 8 * k.val + 5
    · rw [if_pos h5, key 5 (by omega) h5]; rfl
    rw [if_neg h5]
    by_cases h4 : (y 1).val = 8 * k.val + 4
    · rw [if_pos h4, key 4 (by omega) h4]; rfl
    rw [if_neg h4]
    by_cases h3 : (y 1).val = 8 * k.val + 3
    · rw [if_pos h3, key 3 (by omega) h3]; rfl
    rw [if_neg h3]
    by_cases h2 : (y 1).val = 8 * k.val + 2
    · rw [if_pos h2, key 2 (by omega) h2]; rfl
    rw [if_neg h2]
    by_cases h1 : (y 1).val = 8 * k.val + 1
    · rw [if_pos h1, key 1 (by omega) h1]; rfl
    rw [if_neg h1]
    by_cases h0 : (y 1).val = 8 * k.val + 0
    · rw [if_pos h0, key 0 (by omega) h0]; rfl
    rw [if_neg h0]
    exfalso; omega
  · rw [if_neg h]
    rw [if_neg (c := (y 1).val = 8 * k.val + 7) (by omega), if_neg (c := (y 1).val = 8 * k.val + 6) (by omega), if_neg (c := (y 1).val = 8 * k.val + 5) (by omega), if_neg (c := (y 1).val = 8 * k.val + 4) (by omega), if_neg (c := (y 1).val = 8 * k.val + 3) (by omega), if_neg (c := (y 1).val = 8 * k.val + 2) (by omega), if_neg (c := (y 1).val = 8 * k.val + 1) (by omega), if_neg (c := (y 1).val = 8 * k.val + 0) (by omega)]

/-- The scale buffer after a step, over loads of the eight groups. -/
theorem sc_chain (i : grid0.Coords) (a : Memref sig κ sp S512x1024 .bf16) (ha : a.IsWhole) (x : Vec F S512x1024 .bf16) (sc sc' : Vec F S512x128 .f32)
    (hsc : sc = sc') :
    shapeCast S512x128 (
    selCol (BitVec.ofNat 32 (i 1).val) 7#32 (selCol (BitVec.ofNat 32 (i 1).val) 6#32 (selCol (BitVec.ofNat 32 (i 1).val) 5#32 (selCol (BitVec.ofNat 32 (i 1).val) 4#32 (selCol (BitVec.ofNat 32 (i 1).val) 3#32 (selCol (BitVec.ofNat 32 (i 1).val) 2#32 (selCol (BitVec.ofNat 32 (i 1).val) 1#32 (selCol (BitVec.ofNat 32 (i 1).val) 0#32 (sc) (scaleCol (View.readAt (Elt F) a.view (Rect.unit (s := S512x1024) ![0, 0] S512x128.size inb_S512x1024_S512x128_0_0).toLoadRect (ha.unread x)))) (scaleCol (View.readAt (Elt F) a.view (Rect.unit (s := S512x1024) ![0, 128] S512x128.size inb_S512x1024_S512x128_0_128).toLoadRect (ha.unread x)))) (scaleCol (View.readAt (Elt F) a.view (Rect.unit (s := S512x1024) ![0, 256] S512x128.size inb_S512x1024_S512x128_0_256).toLoadRect (ha.unread x)))) (scaleCol (View.readAt (Elt F) a.view (Rect.unit (s := S512x1024) ![0, 384] S512x128.size inb_S512x1024_S512x128_0_384).toLoadRect (ha.unread x)))) (scaleCol (View.readAt (Elt F) a.view (Rect.unit (s := S512x1024) ![0, 512] S512x128.size inb_S512x1024_S512x128_0_512).toLoadRect (ha.unread x)))) (scaleCol (View.readAt (Elt F) a.view (Rect.unit (s := S512x1024) ![0, 640] S512x128.size inb_S512x1024_S512x128_0_640).toLoadRect (ha.unread x)))) (scaleCol (View.readAt (Elt F) a.view (Rect.unit (s := S512x1024) ![0, 768] S512x128.size inb_S512x1024_S512x128_0_768).toLoadRect (ha.unread x)))) (scaleCol (View.readAt (Elt F) a.view (Rect.unit (s := S512x1024) ![0, 896] S512x128.size inb_S512x1024_S512x128_0_896).toLoadRect (ha.unread x)))) shapeCasts_S512x128_S512x128
      = scMerge (kOf i) x sc' := by
  subst hsc
  rw [shapeCast_self]
  simp only [ld_tile a ha x 0 ![0, 0] rfl, ld_tile a ha x 1 ![0, 128] rfl, ld_tile a ha x 2 ![0, 256] rfl, ld_tile a ha x 3 ![0, 384] rfl, ld_tile a ha x 4 ![0, 512] rfl, ld_tile a ha x 5 ![0, 640] rfl, ld_tile a ha x 6 ![0, 768] rfl, ld_tile a ha x 7 ![0, 896] rfl]
  exact selChain (kOf i) x sc

theorem wordOf_lt : ∀ k : Fin 8, (Scalar.indexCast (BitVec.ofNat 32 k.val)).toNat = k.val := by decide +kernel

/-- An offset vector whose first component is the reduction step's word. -/
theorem offAt_eq (p q : ℕ) {off : Fin 3 → ℕ} {k : Fin 8} (h : off = ![(Scalar.indexCast (BitVec.ofNat 32 k.val)).toNat, p, q]) :
    off = ![k.val, p, q] := by rw [h, wordOf_lt]

/-- The sixteen stores that fill slab `k`, the last first. -/
abbrev wPieces (i : grid0.Coords) (hc : cond0_0 i) (W : Fin 8 → Vec F S1x2112x128 .bf16) : List (View.Piece (Elt F) S8x2176x1024 .bf16) :=
  [⟨Rect.unit (s := S8x2176x1024) (k0_off16 i) S1x64x128.size (k0_off16_inb i hc), k0_pay4⟩,
   ⟨Rect.unit (s := S8x2176x1024) (k0_off15 i) S1x2112x128.size (k0_off15_inb i hc), W 7⟩,
   ⟨Rect.unit (s := S8x2176x1024) (k0_off14 i) S1x64x128.size (k0_off14_inb i hc), k0_pay4⟩,
   ⟨Rect.unit (s := S8x2176x1024) (k0_off13 i) S1x2112x128.size (k0_off13_inb i hc), W 6⟩,
   ⟨Rect.unit (s := S8x2176x1024) (k0_off12 i) S1x64x128.size (k0_off12_inb i hc), k0_pay4⟩,
   ⟨Rect.unit (s := S8x2176x1024) (k0_off11 i) S1x2112x128.size (k0_off11_inb i hc), W 5⟩,
   ⟨Rect.unit (s := S8x2176x1024) (k0_off10 i) S1x64x128.size (k0_off10_inb i hc), k0_pay4⟩,
   ⟨Rect.unit (s := S8x2176x1024) (k0_off9 i) S1x2112x128.size (k0_off9_inb i hc), W 4⟩,
   ⟨Rect.unit (s := S8x2176x1024) (k0_off8 i) S1x64x128.size (k0_off8_inb i hc), k0_pay4⟩,
   ⟨Rect.unit (s := S8x2176x1024) (k0_off7 i) S1x2112x128.size (k0_off7_inb i hc), W 3⟩,
   ⟨Rect.unit (s := S8x2176x1024) (k0_off6 i) S1x64x128.size (k0_off6_inb i hc), k0_pay4⟩,
   ⟨Rect.unit (s := S8x2176x1024) (k0_off5 i) S1x2112x128.size (k0_off5_inb i hc), W 2⟩,
   ⟨Rect.unit (s := S8x2176x1024) (k0_off4 i) S1x64x128.size (k0_off4_inb i hc), k0_pay4⟩,
   ⟨Rect.unit (s := S8x2176x1024) (k0_off3 i) S1x2112x128.size (k0_off3_inb i hc), W 1⟩,
   ⟨Rect.unit (s := S8x2176x1024) (k0_off2 i) S1x64x128.size (k0_off2_inb i hc), k0_pay4⟩,
   ⟨Rect.unit (s := S8x2176x1024) (k0_off1 i) S1x2112x128.size (k0_off1_inb i hc), W 0⟩]

theorem wpiece_emb (X : Vec F S8x2176x1024 .bf16) (k : Fin 8) (W : Fin 8 → Vec F S1x2112x128 .bf16) (g : Fin 8) (off : Fin 3 → ℕ)
    (hoff : off = ![k.val, 0, 128 * g.val]) (inb : ∀ b, off b + S1x2112x128.size b ≤ S8x2176x1024.size b) (x : S1x2112x128.Idx) :
    W g x = putSlab X k (slabOf W) ((Rect.unit (s := S8x2176x1024) off S1x2112x128.size inb).emb x) := by
  subst hoff
  generalize hz : (Rect.unit (s := S8x2176x1024) ![k.val, 0, 128 * g.val] S1x2112x128.size inb).emb x = z
  have b0 : (x 0).val < 1 := (x 0).isLt
  have b1 : (x 1).val < 2112 := (x 1).isLt
  have b2 : (x 2).val < 128 := (x 2).isLt
  have h0 : (z 0).val = k.val := by
    rw [← hz]; show k.val + 1 * (x 0).val = _; omega
  have h1 : (z 1).val = (x 1).val := by
    rw [← hz]; show 0 + 1 * (x 1).val = _; omega
  have h2 : (z 2).val = 128 * g.val + (x 2).val := by
    rw [← hz]; show 128 * g.val + 1 * (x 2).val = _; omega
  unfold putSlab
  rw [if_pos h0]
  unfold slabOf
  have hlt : (z 1).val < 2112 := by omega
  refine Eq.trans ?_ (dif_pos hlt).symm
  have eg : (⟨(z 2).val / 128, by rw [h2]; have := g.isLt; omega⟩ : Fin 8) = g := Fin.ext (by show _ / 128 = _; rw [h2]; omega)
  refine (congrFun (congrArg W eg) _).symm.trans (congrArg (W _) (funext fun b => ?_))
  match b with
  | ⟨0, _⟩ => exact Fin.ext (by show (x 0).val = 0; omega)
  | ⟨1, _⟩ => exact Fin.ext h1.symm
  | ⟨2, _⟩ => exact Fin.ext (by show (x 2).val = (z 2).val % 128; rw [h2]; omega)

theorem zpiece_emb (X : Vec F S8x2176x1024 .bf16) (k : Fin 8) (W : Fin 8 → Vec F S1x2112x128 .bf16) (q : ℕ) (off : Fin 3 → ℕ)
    (hoff : off = ![k.val, 2112, q]) (inb : ∀ b, off b + S1x64x128.size b ≤ S8x2176x1024.size b) (x : S1x64x128.Idx) :
    (k0_pay4 : FVec F S1x64x128 .bf16) x = putSlab X k (slabOf W) ((Rect.unit (s := S8x2176x1024) off S1x64x128.size inb).emb x) := by
  subst hoff
  generalize hz : (Rect.unit (s := S8x2176x1024) ![k.val, 2112, q] S1x64x128.size inb).emb x = z
  have b0 : (x 0).val < 1 := (x 0).isLt
  have h0 : (z 0).val = k.val := by
    rw [← hz]; show k.val + 1 * (x 0).val = _; omega
  have h1 : (z 1).val = 2112 + (x 1).val := by
    rw [← hz]; show 2112 + 1 * (x 1).val = _; omega
  unfold putSlab
  rw [if_pos h0]
  unfold slabOf
  have hlt : ¬ (z 1).val < 2112 := by omega
  refine Eq.trans ?_ (dif_neg hlt).symm
  rfl

theorem off1_eq (i : grid0.Coords) : k0_off1 i = ![(kOf i).val, 0, 128 * (0 : Fin 8).val] := offAt_eq (k := i 1) _ _ rfl
theorem off2_eq (i : grid0.Coords) : k0_off2 i = ![(kOf i).val, 2112, 128 * (0 : Fin 8).val] := offAt_eq (k := i 1) _ _ rfl
theorem off3_eq (i : grid0.Coords) : k0_off3 i = ![(kOf i).val, 0, 128 * (1 : Fin 8).val] := offAt_eq (k := i 1) _ _ rfl
theorem off4_eq (i : grid0.Coords) : k0_off4 i = ![(kOf i).val, 2112, 128 * (1 : Fin 8).val] := offAt_eq (k := i 1) _ _ rfl
theorem off5_eq (i : grid0.Coords) : k0_off5 i = ![(kOf i).val, 0, 128 * (2 : Fin 8).val] := offAt_eq (k := i 1) _ _ rfl
theorem off6_eq (i : grid0.Coords) : k0_off6 i = ![(kOf i).val, 2112, 128 * (2 : Fin 8).val] := offAt_eq (k := i 1) _ _ rfl
theorem off7_eq (i : grid0.Coords) : k0_off7 i = ![(kOf i).val, 0, 128 * (3 : Fin 8).val] := offAt_eq (k := i 1) _ _ rfl
theorem off8_eq (i : grid0.Coords) : k0_off8 i = ![(kOf i).val, 2112, 128 * (3 : Fin 8).val] := offAt_eq (k := i 1) _ _ rfl
theorem off9_eq (i : grid0.Coords) : k0_off9 i = ![(kOf i).val, 0, 128 * (4 : Fin 8).val] := offAt_eq (k := i 1) _ _ rfl
theorem off10_eq (i : grid0.Coords) : k0_off10 i = ![(kOf i).val, 2112, 128 * (4 : Fin 8).val] := offAt_eq (k := i 1) _ _ rfl
theorem off11_eq (i : grid0.Coords) : k0_off11 i = ![(kOf i).val, 0, 128 * (5 : Fin 8).val] := offAt_eq (k := i 1) _ _ rfl
theorem off12_eq (i : grid0.Coords) : k0_off12 i = ![(kOf i).val, 2112, 128 * (5 : Fin 8).val] := offAt_eq (k := i 1) _ _ rfl
theorem off13_eq (i : grid0.Coords) : k0_off13 i = ![(kOf i).val, 0, 128 * (6 : Fin 8).val] := offAt_eq (k := i 1) _ _ rfl
theorem off14_eq (i : grid0.Coords) : k0_off14 i = ![(kOf i).val, 2112, 128 * (6 : Fin 8).val] := offAt_eq (k := i 1) _ _ rfl
theorem off15_eq (i : grid0.Coords) : k0_off15 i = ![(kOf i).val, 0, 128 * (7 : Fin 8).val] := offAt_eq (k := i 1) _ _ rfl
theorem off16_eq (i : grid0.Coords) : k0_off16 i = ![(kOf i).val, 2112, 128 * (7 : Fin 8).val] := offAt_eq (k := i 1) _ _ rfl

theorem mem_unit3 (off size : Fin 3 → ℕ) (inb : ∀ b, off b + size b ≤ S8x2176x1024.size b) (y : S8x2176x1024.Idx) (a b c : ℕ)
    (hoff : off = ![a, b, c]) (h0 : a ≤ (y 0).val ∧ (y 0).val < a + size 0) (h1 : b ≤ (y 1).val ∧ (y 1).val < b + size 1)
    (h2 : c ≤ (y 2).val ∧ (y 2).val < c + size 2) : y ∈ (Rect.unit (s := S8x2176x1024) off size inb).set := by
  subst hoff
  refine Rect.mem_set_unit.mpr fun d => ?_
  match d with
  | ⟨0, _⟩ => exact h0
  | ⟨1, _⟩ => exact h1
  | ⟨2, _⟩ => exact h2

/-- A place of the stored slab lies in one of the sixteen pieces. -/
theorem cover_wPieces (i : grid0.Coords) (hc : cond0_0 i) (W : Fin 8 → Vec F S1x2112x128 .bf16) (y : S8x2176x1024.Idx)
    (hy : (y 0).val = (kOf i).val) : ∃ p ∈ wPieces i hc W, y ∈ p.1.set := by
  have b1 : (y 1).val < 2176 := (y 1).isLt
  have b2 : (y 2).val < 1024 := (y 2).isLt
  have h0 : (kOf i).val ≤ (y 0).val ∧ (y 0).val < (kOf i).val + 1 := by omega
  by_cases h : (y 1).val < 2112
  · have h1 : 0 ≤ (y 1).val ∧ (y 1).val < 0 + 2112 := by omega
    have hg : (y 2).val / 128 = 0 ∨ (y 2).val / 128 = 1 ∨ (y 2).val / 128 = 2 ∨ (y 2).val / 128 = 3 ∨ (y 2).val / 128 = 4 ∨ (y 2).val / 128 = 5
      ∨ (y 2).val / 128 = 6 ∨ (y 2).val / 128 = 7 := by omega
    rcases hg with hg | hg | hg | hg | hg | hg | hg | hg
    · exact ⟨⟨Rect.unit (s := S8x2176x1024) (k0_off1 i) S1x2112x128.size (k0_off1_inb i hc), W 0⟩, by simp only [List.mem_cons, _root_.true_or, _root_.or_true], mem_unit3 _ S1x2112x128.size (k0_off1_inb i hc) y _ _ 0 (off1_eq i) h0 h1 (by show 0 ≤ _ ∧ _ < 0 + 128; omega)⟩
    · exact ⟨⟨Rect.unit (s := S8x2176x1024) (k0_off3 i) S1x2112x128.size (k0_off3_inb i hc), W 1⟩, by simp only [List.mem_cons, _root_.true_or, _root_.or_true], mem_unit3 _ S1x2112x128.size (k0_off3_inb i hc) y _ _ 128 (off3_eq i) h0 h1 (by show 128 ≤ _ ∧ _ < 128 + 128; omega)⟩
    · exact ⟨⟨Rect.unit (s := S8x2176x1024) (k0_off5 i) S1x2112x128.size (k0_off5_inb i hc), W 2⟩, by simp only [List.mem_cons, _root_.true_or, _root_.or_true], mem_unit3 _ S1x2112x128.size (k0_off5_inb i hc) y _ _ 256 (off5_eq i) h0 h1 (by show 256 ≤ _ ∧ _ < 256 + 128; omega)⟩
    · exact ⟨⟨Rect.unit (s := S8x2176x1024) (k0_off7 i) S1x2112x128.size (k0_off7_inb i hc), W 3⟩, by simp only [List.mem_cons, _root_.true_or, _root_.or_true], mem_unit3 _ S1x2112x128.size (k0_off7_inb i hc) y _ _ 384 (off7_eq i) h0 h1 (by show 384 ≤ _ ∧ _ < 384 + 128; omega)⟩
    · exact ⟨⟨Rect.unit (s := S8x2176x1024) (k0_off9 i) S1x2112x128.size (k0_off9_inb i hc), W 4⟩, by simp only [List.mem_cons, _root_.true_or, _root_.or_true], mem_unit3 _ S1x2112x128.size (k0_off9_inb i hc) y _ _ 512 (off9_eq i) h0 h1 (by show 512 ≤ _ ∧ _ < 512 + 128; omega)⟩
    · exact ⟨⟨Rect.unit (s := S8x2176x1024) (k0_off11 i) S1x2112x128.size (k0_off11_inb i hc), W 5⟩, by simp only [List.mem_cons, _root_.true_or, _root_.or_true], mem_unit3 _ S1x2112x128.size (k0_off11_inb i hc) y _ _ 640 (off11_eq i) h0 h1 (by show 640 ≤ _ ∧ _ < 640 + 128; omega)⟩
    · exact ⟨⟨Rect.unit (s := S8x2176x1024) (k0_off13 i) S1x2112x128.size (k0_off13_inb i hc), W 6⟩, by simp only [List.mem_cons, _root_.true_or, _root_.or_true], mem_unit3 _ S1x2112x128.size (k0_off13_inb i hc) y _ _ 768 (off13_eq i) h0 h1 (by show 768 ≤ _ ∧ _ < 768 + 128; omega)⟩
    · exact ⟨⟨Rect.unit (s := S8x2176x1024) (k0_off15 i) S1x2112x128.size (k0_off15_inb i hc), W 7⟩, by simp only [List.mem_cons, _root_.true_or, _root_.or_true], mem_unit3 _ S1x2112x128.size (k0_off15_inb i hc) y _ _ 896 (off15_eq i) h0 h1 (by show 896 ≤ _ ∧ _ < 896 + 128; omega)⟩
  · have h1 : 2112 ≤ (y 1).val ∧ (y 1).val < 2112 + 64 := by omega
    have hg : (y 2).val / 128 = 0 ∨ (y 2).val / 128 = 1 ∨ (y 2).val / 128 = 2 ∨ (y 2).val / 128 = 3 ∨ (y 2).val / 128 = 4 ∨ (y 2).val / 128 = 5
      ∨ (y 2).val / 128 = 6 ∨ (y 2).val / 128 = 7 := by omega
    rcases hg with hg | hg | hg | hg | hg | hg | hg | hg
    · exact ⟨⟨Rect.unit (s := S8x2176x1024) (k0_off2 i) S1x64x128.size (k0_off2_inb i hc), k0_pay4⟩, by simp only [List.mem_cons, _root_.true_or, _root_.or_true], mem_unit3 _ S1x64x128.size (k0_off2_inb i hc) y _ _ 0 (off2_eq i) h0 h1 (by show 0 ≤ _ ∧ _ < 0 + 128; omega)⟩
    · exact ⟨⟨Rect.unit (s := S8x2176x1024) (k0_off4 i) S1x64x128.size (k0_off4_inb i hc), k0_pay4⟩, by simp only [List.mem_cons, _root_.true_or, _root_.or_true], mem_unit3 _ S1x64x128.size (k0_off4_inb i hc) y _ _ 128 (off4_eq i) h0 h1 (by show 128 ≤ _ ∧ _ < 128 + 128; omega)⟩
    · exact ⟨⟨Rect.unit (s := S8x2176x1024) (k0_off6 i) S1x64x128.size (k0_off6_inb i hc), k0_pay4⟩, by simp only [List.mem_cons, _root_.true_or, _root_.or_true], mem_unit3 _ S1x64x128.size (k0_off6_inb i hc) y _ _ 256 (off6_eq i) h0 h1 (by show 256 ≤ _ ∧ _ < 256 + 128; omega)⟩
    · exact ⟨⟨Rect.unit (s := S8x2176x1024) (k0_off8 i) S1x64x128.size (k0_off8_inb i hc), k0_pay4⟩, by simp only [List.mem_cons, _root_.true_or, _root_.or_true], mem_unit3 _ S1x64x128.size (k0_off8_inb i hc) y _ _ 384 (off8_eq i) h0 h1 (by show 384 ≤ _ ∧ _ < 384 + 128; omega)⟩
    · exact ⟨⟨Rect.unit (s := S8x2176x1024) (k0_off10 i) S1x64x128.size (k0_off10_inb i hc), k0_pay4⟩, by simp only [List.mem_cons, _root_.true_or, _root_.or_true], mem_unit3 _ S1x64x128.size (k0_off10_inb i hc) y _ _ 512 (off10_eq i) h0 h1 (by show 512 ≤ _ ∧ _ < 512 + 128; omega)⟩
    · exact ⟨⟨Rect.unit (s := S8x2176x1024) (k0_off12 i) S1x64x128.size (k0_off12_inb i hc), k0_pay4⟩, by simp only [List.mem_cons, _root_.true_or, _root_.or_true], mem_unit3 _ S1x64x128.size (k0_off12_inb i hc) y _ _ 640 (off12_eq i) h0 h1 (by show 640 ≤ _ ∧ _ < 640 + 128; omega)⟩
    · exact ⟨⟨Rect.unit (s := S8x2176x1024) (k0_off14 i) S1x64x128.size (k0_off14_inb i hc), k0_pay4⟩, by simp only [List.mem_cons, _root_.true_or, _root_.or_true], mem_unit3 _ S1x64x128.size (k0_off14_inb i hc) y _ _ 768 (off14_eq i) h0 h1 (by show 768 ≤ _ ∧ _ < 768 + 128; omega)⟩
    · exact ⟨⟨Rect.unit (s := S8x2176x1024) (k0_off16 i) S1x64x128.size (k0_off16_inb i hc), k0_pay4⟩, by simp only [List.mem_cons, _root_.true_or, _root_.or_true], mem_unit3 _ S1x64x128.size (k0_off16_inb i hc) y _ _ 896 (off16_eq i) h0 h1 (by show 896 ≤ _ ∧ _ < 896 + 128; omega)⟩

/-- Every piece of the slab agrees with the slab. -/
theorem wPieces_agree (X : Vec F S8x2176x1024 .bf16) (i : grid0.Coords) (hc : cond0_0 i) (W : Fin 8 → Vec F S1x2112x128 .bf16) :
    ∀ p ∈ wPieces i hc W, ∀ x : p.1.shape.Idx, p.2 x = putSlab X (kOf i) (slabOf W) (p.1.emb x) := by
  intro p hp
  simp only [List.mem_cons, List.not_mem_nil, or_false] at hp
  rcases hp with rfl | rfl | rfl | rfl | rfl | rfl | rfl | rfl | rfl | rfl | rfl | rfl | rfl | rfl | rfl | rfl
  · exact zpiece_emb X (kOf i) W _ _ (off16_eq i) (k0_off16_inb i hc)
  · exact wpiece_emb X (kOf i) W 7 _ (off15_eq i) (k0_off15_inb i hc)
  · exact zpiece_emb X (kOf i) W _ _ (off14_eq i) (k0_off14_inb i hc)
  · exact wpiece_emb X (kOf i) W 6 _ (off13_eq i) (k0_off13_inb i hc)
  · exact zpiece_emb X (kOf i) W _ _ (off12_eq i) (k0_off12_inb i hc)
  · exact wpiece_emb X (kOf i) W 5 _ (off11_eq i) (k0_off11_inb i hc)
  · exact zpiece_emb X (kOf i) W _ _ (off10_eq i) (k0_off10_inb i hc)
  · exact wpiece_emb X (kOf i) W 4 _ (off9_eq i) (k0_off9_inb i hc)
  · exact zpiece_emb X (kOf i) W _ _ (off8_eq i) (k0_off8_inb i hc)
  · exact wpiece_emb X (kOf i) W 3 _ (off7_eq i) (k0_off7_inb i hc)
  · exact zpiece_emb X (kOf i) W _ _ (off6_eq i) (k0_off6_inb i hc)
  · exact wpiece_emb X (kOf i) W 2 _ (off5_eq i) (k0_off5_inb i hc)
  · exact zpiece_emb X (kOf i) W _ _ (off4_eq i) (k0_off4_inb i hc)
  · exact wpiece_emb X (kOf i) W 1 _ (off3_eq i) (k0_off3_inb i hc)
  · exact zpiece_emb X (kOf i) W _ _ (off2_eq i) (k0_off2_inb i hc)
  · exact wpiece_emb X (kOf i) W 0 _ (off1_eq i) (k0_off1_inb i hc)

/-- The sixteen stores leave the slab in its place and the other slabs as they were. -/
theorem read_wPieces (v : View sig κ sp S8x2176x1024 .bf16) (f : v.ty.Contents (Elt F)) (i : grid0.Coords) (hc : cond0_0 i) (W : Fin 8 → Vec F S1x2112x128 .bf16) :
    v.read (Elt F) (v.writes (Elt F) f (wPieces i hc W)) = putSlab (v.read (Elt F) f) (kOf i) (slabOf W) := by
  funext y
  by_cases hy : (y 0).val = (kOf i).val
  · exact View.read_writes_apply_of_pieces v f _ _ (wPieces_agree _ i hc W) y (cover_wPieces i hc W y hy)
  · rw [View.read_writes_apply_of_forall_not_mem]
    · exact (if_neg hy).symm
    · intro p hp
      simp only [List.mem_cons, List.not_mem_nil, or_false] at hp
      rcases hp with rfl | rfl | rfl | rfl | rfl | rfl | rfl | rfl | rfl | rfl | rfl | rfl | rfl | rfl | rfl | rfl
      · exact Rect.not_mem_set_of_axis _ y 0 (kOf i).val 1 (congrFun (off16_eq i) 0) rfl rfl (by omega)
      · exact Rect.not_mem_set_of_axis _ y 0 (kOf i).val 1 (congrFun (off15_eq i) 0) rfl rfl (by omega)
      · exact Rect.not_mem_set_of_axis _ y 0 (kOf i).val 1 (congrFun (off14_eq i) 0) rfl rfl (by omega)
      · exact Rect.not_mem_set_of_axis _ y 0 (kOf i).val 1 (congrFun (off13_eq i) 0) rfl rfl (by omega)
      · exact Rect.not_mem_set_of_axis _ y 0 (kOf i).val 1 (congrFun (off12_eq i) 0) rfl rfl (by omega)
      · exact Rect.not_mem_set_of_axis _ y 0 (kOf i).val 1 (congrFun (off11_eq i) 0) rfl rfl (by omega)
      · exact Rect.not_mem_set_of_axis _ y 0 (kOf i).val 1 (congrFun (off10_eq i) 0) rfl rfl (by omega)
      · exact Rect.not_mem_set_of_axis _ y 0 (kOf i).val 1 (congrFun (off9_eq i) 0) rfl rfl (by omega)
      · exact Rect.not_mem_set_of_axis _ y 0 (kOf i).val 1 (congrFun (off8_eq i) 0) rfl rfl (by omega)
      · exact Rect.not_mem_set_of_axis _ y 0 (kOf i).val 1 (congrFun (off7_eq i) 0) rfl rfl (by omega)
      · exact Rect.not_mem_set_of_axis _ y 0 (kOf i).val 1 (congrFun (off6_eq i) 0) rfl rfl (by omega)
      · exact Rect.not_mem_set_of_axis _ y 0 (kOf i).val 1 (congrFun (off5_eq i) 0) rfl rfl (by omega)
      · exact Rect.not_mem_set_of_axis _ y 0 (kOf i).val 1 (congrFun (off4_eq i) 0) rfl rfl (by omega)
      · exact Rect.not_mem_set_of_axis _ y 0 (kOf i).val 1 (congrFun (off3_eq i) 0) rfl rfl (by omega)
      · exact Rect.not_mem_set_of_axis _ y 0 (kOf i).val 1 (congrFun (off2_eq i) 0) rfl rfl (by omega)
      · exact Rect.not_mem_set_of_axis _ y 0 (kOf i).val 1 (congrFun (off1_eq i) 0) rfl rfl (by omega)

/-- A load of group `g` of the weights. -/
theorem ld_w (a : Memref sig κ sp S2112x1024 .fp8e4m3) (ha : a.IsWhole) (x : Vec F S2112x1024 .fp8e4m3) (g : Fin 8) (off : Fin 2 → ℕ)
    (hoff : off = ![0, 128 * g.val]) (inb : ∀ b, off b + S2112x128.size b ≤ S2112x1024.size b) :
    View.readAt (Elt F) a.view (Rect.unit (s := S2112x1024) off S2112x128.size inb).toLoadRect (ha.unread x)
      = fun y => x (ix2 (y 0) ⟨128 * g.val + (y 1).val, by have := (y 1).isLt; have := g.isLt; simp at *; omega⟩) := by
  subst hoff
  rw [View.readAt_unit _ _ _ rfl inb, ha.read_unread]
  funext y
  refine congrArg x (funext fun b => ?_)
  match b with
  | ⟨0, _⟩ => exact Fin.ext (by show 0 + 1 * (y 0).val = (y 0).val; omega)
  | ⟨1, _⟩ => exact Fin.ext (by show 128 * g.val + 1 * (y 1).val = 128 * g.val + (y 1).val; omega)

/-- A load of the scale column of group `g` of the weights. -/
theorem ld_ws (a : Memref sig κ sp S1x2112x8 .f32) (ha : a.IsWhole) (x : Vec F S1x2112x8 .f32) (g : Fin 8) (off : Fin 3 → ℕ)
    (hoff : off = ![0, 0, g.val]) (inb : ∀ b, off b + S1x2112x1.size b ≤ S1x2112x8.size b) :
    View.readAt (Elt F) a.view (Rect.unit (s := S1x2112x8) off S1x2112x1.size inb).toLoadRect (ha.unread x) = fun y => x (ix3 0 (y 1) g) := by
  subst hoff
  rw [View.readAt_unit _ _ _ rfl inb, ha.read_unread]
  funext y
  refine congrArg x (funext fun b => ?_)
  match b with
  | ⟨0, _⟩ => exact (Subsingleton.elim (α := Fin 1) _ _)
  | ⟨1, _⟩ => exact Fin.ext (by show 0 + 1 * (y 1).val = (y 1).val; omega)
  | ⟨2, _⟩ => exact Fin.ext (by have : (y 2).val < 1 := (y 2).isLt; show g.val + 1 * (y 2).val = g.val; omega)

/-- The weights' sixteen stores, over loads of the eight groups. -/
theorem read_w (v : View sig κ sp S8x2176x1024 .bf16) (f : v.ty.Contents (Elt F)) (i : grid0.Coords) (hc : cond0_0 i) {κ' κ'' : Kind} {sp' sp'' : Space}
    (a : Memref sig κ' sp' S2112x1024 .fp8e4m3) (ha : a.IsWhole) (w : Vec F S2112x1024 .fp8e4m3)
    (b : Memref sig κ'' sp'' S1x2112x8 .f32) (hb : b.IsWhole) (s : Vec F S1x2112x8 .f32) :
    v.read (Elt F) (v.writes (Elt F) f
      [⟨Rect.unit (s := S8x2176x1024) (k0_off16 i) S1x64x128.size (k0_off16_inb i hc), k0_pay4⟩,
       ⟨Rect.unit (s := S8x2176x1024) (k0_off15 i) S1x2112x128.size (k0_off15_inb i hc), k0_pay3 (View.readAt (Elt F) a.view (Rect.unit (s := S2112x1024) ![0, 896] S2112x128.size inb_S2112x1024_S2112x128_0_896).toLoadRect (ha.unread w)) (View.readAt (Elt F) b.view (Rect.unit (s := S1x2112x8) ![0, 0, 7] S1x2112x1.size inb_S1x2112x8_S1x2112x1_0_0_7).toLoadRect (hb.unread s))⟩,
       ⟨Rect.unit (s := S8x2176x1024) (k0_off14 i) S1x64x128.size (k0_off14_inb i hc), k0_pay4⟩,
       ⟨Rect.unit (s := S8x2176x1024) (k0_off13 i) S1x2112x128.size (k0_off13_inb i hc), k0_pay3 (View.readAt (Elt F) a.view (Rect.unit (s := S2112x1024) ![0, 768] S2112x128.size inb_S2112x1024_S2112x128_0_768).toLoadRect (ha.unread w)) (View.readAt (Elt F) b.view (Rect.unit (s := S1x2112x8) ![0, 0, 6] S1x2112x1.size inb_S1x2112x8_S1x2112x1_0_0_6).toLoadRect (hb.unread s))⟩,
       ⟨Rect.unit (s := S8x2176x1024) (k0_off12 i) S1x64x128.size (k0_off12_inb i hc), k0_pay4⟩,
       ⟨Rect.unit (s := S8x2176x1024) (k0_off11 i) S1x2112x128.size (k0_off11_inb i hc), k0_pay3 (View.readAt (Elt F) a.view (Rect.unit (s := S2112x1024) ![0, 640] S2112x128.size inb_S2112x1024_S2112x128_0_640).toLoadRect (ha.unread w)) (View.readAt (Elt F) b.view (Rect.unit (s := S1x2112x8) ![0, 0, 5] S1x2112x1.size inb_S1x2112x8_S1x2112x1_0_0_5).toLoadRect (hb.unread s))⟩,
       ⟨Rect.unit (s := S8x2176x1024) (k0_off10 i) S1x64x128.size (k0_off10_inb i hc), k0_pay4⟩,
       ⟨Rect.unit (s := S8x2176x1024) (k0_off9 i) S1x2112x128.size (k0_off9_inb i hc), k0_pay3 (View.readAt (Elt F) a.view (Rect.unit (s := S2112x1024) ![0, 512] S2112x128.size inb_S2112x1024_S2112x128_0_512).toLoadRect (ha.unread w)) (View.readAt (Elt F) b.view (Rect.unit (s := S1x2112x8) ![0, 0, 4] S1x2112x1.size inb_S1x2112x8_S1x2112x1_0_0_4).toLoadRect (hb.unread s))⟩,
       ⟨Rect.unit (s := S8x2176x1024) (k0_off8 i) S1x64x128.size (k0_off8_inb i hc), k0_pay4⟩,
       ⟨Rect.unit (s := S8x2176x1024) (k0_off7 i) S1x2112x128.size (k0_off7_inb i hc), k0_pay3 (View.readAt (Elt F) a.view (Rect.unit (s := S2112x1024) ![0, 384] S2112x128.size inb_S2112x1024_S2112x128_0_384).toLoadRect (ha.unread w)) (View.readAt (Elt F) b.view (Rect.unit (s := S1x2112x8) ![0, 0, 3] S1x2112x1.size inb_S1x2112x8_S1x2112x1_0_0_3).toLoadRect (hb.unread s))⟩,
       ⟨Rect.unit (s := S8x2176x1024) (k0_off6 i) S1x64x128.size (k0_off6_inb i hc), k0_pay4⟩,
       ⟨Rect.unit (s := S8x2176x1024) (k0_off5 i) S1x2112x128.size (k0_off5_inb i hc), k0_pay3 (View.readAt (Elt F) a.view (Rect.unit (s := S2112x1024) ![0, 256] S2112x128.size inb_S2112x1024_S2112x128_0_256).toLoadRect (ha.unread w)) (View.readAt (Elt F) b.view (Rect.unit (s := S1x2112x8) ![0, 0, 2] S1x2112x1.size inb_S1x2112x8_S1x2112x1_0_0_2).toLoadRect (hb.unread s))⟩,
       ⟨Rect.unit (s := S8x2176x1024) (k0_off4 i) S1x64x128.size (k0_off4_inb i hc), k0_pay4⟩,
       ⟨Rect.unit (s := S8x2176x1024) (k0_off3 i) S1x2112x128.size (k0_off3_inb i hc), k0_pay3 (View.readAt (Elt F) a.view (Rect.unit (s := S2112x1024) ![0, 128] S2112x128.size inb_S2112x1024_S2112x128_0_128).toLoadRect (ha.unread w)) (View.readAt (Elt F) b.view (Rect.unit (s := S1x2112x8) ![0, 0, 1] S1x2112x1.size inb_S1x2112x8_S1x2112x1_0_0_1).toLoadRect (hb.unread s))⟩,
       ⟨Rect.unit (s := S8x2176x1024) (k0_off2 i) S1x64x128.size (k0_off2_inb i hc), k0_pay4⟩,
       ⟨Rect.unit (s := S8x2176x1024) (k0_off1 i) S1x2112x128.size (k0_off1_inb i hc), k0_pay3 (View.readAt (Elt F) a.view (Rect.unit (s := S2112x1024) ![0, 0] S2112x128.size inb_S2112x1024_S2112x128_0_0).toLoadRect (ha.unread w)) (View.readAt (Elt F) b.view (Rect.unit (s := S1x2112x8) ![0, 0, 0] S1x2112x1.size inb_S1x2112x8_S1x2112x1_0_0_0).toLoadRect (hb.unread s))⟩])
      = putSlab (v.read (Elt F) f) (kOf i) (wSlab w s) := by
  simp only [ld_w a ha w 0 ![0, 0] rfl, ld_ws b hb s 0 ![0, 0, 0] rfl, ld_w a ha w 1 ![0, 128] rfl, ld_ws b hb s 1 ![0, 0, 1] rfl, ld_w a ha w 2 ![0, 256] rfl, ld_ws b hb s 2 ![0, 0, 2] rfl, ld_w a ha w 3 ![0, 384] rfl, ld_ws b hb s 3 ![0, 0, 3] rfl, ld_w a ha w 4 ![0, 512] rfl, ld_ws b hb s 4 ![0, 0, 4] rfl, ld_w a ha w 5 ![0, 640] rfl, ld_ws b hb s 5 ![0, 0, 5] rfl, ld_w a ha w 6 ![0, 768] rfl, ld_ws b hb s 6 ![0, 0, 6] rfl, ld_w a ha w 7 ![0, 896] rfl, ld_ws b hb s 7 ![0, 0, 7] rfl]
  exact read_wPieces v f i hc (wTile w s)

/-- The load of the slab in use, of any contents. -/
theorem ld_slab (v : View sig κ sp S8x2176x1024 .bf16) (f : v.ty.Contents (Elt F)) (i : grid0.Coords)
    (inb : ∀ b, k0_off17 i b + S1x2176x1024.size b ≤ S8x2176x1024.size b) (X : Vec F S8x2176x1024 .bf16) (hX : v.read (Elt F) f = X) :
    View.readAt (Elt F) v (Rect.unit (s := S8x2176x1024) (k0_off17 i) S1x2176x1024.size inb).toLoadRect f = slab X (kOf i) := by
  subst hX
  have hoff : k0_off17 i = ![(kOf i).val, 0, 0] := offAt_eq (k := i 1) _ _ rfl
  have inb' : ∀ b, (![(kOf i).val, 0, 0] : Fin 3 → ℕ) b + S1x2176x1024.size b ≤ S8x2176x1024.size b := hoff ▸ inb
  rw [View.readAt_unit v f inb hoff inb']
  funext y
  refine congrArg (v.read (Elt F) f) (funext fun b => ?_)
  match b with
  | ⟨0, _⟩ => exact Fin.ext (by have : (y 0).val < 1 := (y 0).isLt; show (kOf i).val + 1 * (y 0).val = (kOf i).val; omega)
  | ⟨1, _⟩ => exact Fin.ext (by show 0 + 1 * (y 1).val = (y 1).val; omega)
  | ⟨2, _⟩ => exact Fin.ext (by show 0 + 1 * (y 2).val = (y 2).val; omega)

/-- A load of columns of the accumulator. -/
theorem ld_cols (v : View sig κ sp S512x2176 .f32) (f : v.ty.Contents (Elt F)) (o n : ℕ) (h : o + n ≤ 2176) (off size : Fin 2 → ℕ)
    (hoff : off = ![0, o]) (hsize : size = ![512, n])
    (inb : ∀ b, off b + size b ≤ S512x2176.size b) (X : Vec F S512x2176 .f32) (hX : v.read (Elt F) f = X) (y : (⟨2, size⟩ : Shape).Idx)
    (y' : (⟨2, ![512, n]⟩ : Shape).Idx) (hy : ∀ a, (y a).val = (y' a).val) :
    View.readAt (Elt F) v (Rect.unit (s := S512x2176) off size inb).toLoadRect f y = colsOf o n h X y' := by
  subst hX; subst hoff
  rw [View.readAt_unit v f inb rfl inb]
  refine congrArg (v.read (Elt F) f) (funext fun b => ?_)
  match b with
  | ⟨0, _⟩ => exact Fin.ext (by show 0 + 1 * (y 0).val = (y' 0).val; rw [hy 0]; omega)
  | ⟨1, _⟩ => exact Fin.ext (by show o + 1 * (y 1).val = o + (y' 1).val; rw [hy 1]; omega)

/-- The first 64 columns of the scale buffer. -/
theorem ld_scOut (v : View sig κ sp S512x128 .f32) (f : v.ty.Contents (Elt F))
    (inb : ∀ b, (![0, 0] : Fin 2 → ℕ) b + S512x64.size b ≤ S512x128.size b) (X : Vec F S512x128 .f32) (hX : v.read (Elt F) f = X) :
    View.readAt (Elt F) v (Rect.unit (s := S512x128) ![0, 0] S512x64.size inb).toLoadRect f = scOut X := by
  subst hX
  rw [View.readAt_unit v f inb rfl inb]
  funext y
  refine congrArg (v.read (Elt F) f) (funext fun b => ?_)
  match b with
  | ⟨0, _⟩ => exact Fin.ext (by show 0 + 1 * (y 0).val = (y 0).val; omega)
  | ⟨1, _⟩ => exact Fin.ext (by show 0 + 1 * (y 1).val = (y 1).val; omega)

theorem startWord : ∀ i : grid0.Coords, k0_off18 i = ![(mOf i).val / 3] := by decide +kernel

/-- The load of the sequence's first position. -/
theorem ld_start (a : Memref sig κ sp S2 .i32) (ha : a.IsWhole) (x : Vec F S2 .i32) (i : grid0.Coords)
    (inb : ∀ b, k0_off18 i b + S1.size b ≤ S2.size b) (j : S1.Idx) :
    View.readAt (Elt F) a.view (Rect.unit (s := S2) (k0_off18 i) S1.size inb).toLoadRect (ha.unread x) j = startOf (mOf i) x := by
  have inb' : ∀ b, (![(mOf i).val / 3] : Fin 1 → ℕ) b + S1.size b ≤ S2.size b := startWord i ▸ inb
  rw [View.readAt_unit _ _ inb (startWord i) inb', ha.read_unread]
  refine congrArg x (funext fun b => ?_)
  match b with
  | ⟨0, _⟩ => exact Fin.ext (by have : (j 0).val < 1 := (j 0).isLt; show (mOf i).val / 3 + 1 * (j 0).val = (mOf i).val / 3; omega)

/-- A load of a whole buffer, of any contents. -/
theorem ld_all {s : Shape} {e : EltTy} (v : View sig κ sp s e) (f : v.ty.Contents (Elt F)) {off : Fin s.rank → ℕ}
    (inb : ∀ b, off b + s.size b ≤ s.size b) (X : s.Idx → Elt F e) (hX : v.read (Elt F) f = X) :
    View.readAt (Elt F) v (Rect.unit off s.size inb).toLoadRect f = X := (View.readAt_full v f inb).trans hX

theorem acc_step {A x16 : Vec F S512x2176 .f32} {B : Vec F S512x1024 .bf16} {x : Vec F S512x1024 .bf16} {C w : Vec F S1x2176x1024 .bf16}
    (hA : A = x16) (hB : B = xdqBlk x) (hC : C = w) : k0_pay1 A B C = accStep x16 x w := by subst hA hB hC; rfl

theorem q_step {A : Vec F S512x1536 .f32} {acc : Vec F S512x2176 .f32} {B g : Vec F S1x1536 .bf16} (hA : A = colsOf 0 1536 (by omega) acc) (hB : B = g) :
    k0_pay18 A B = qBlk acc g := by subst hA hB; rfl
theorem kv_step {A : Vec F S512x512 .f32} {acc : Vec F S512x2176 .f32} {B g : Vec F S1x512 .bf16} (hA : A = colsOf 1536 512 (by omega) acc) (hB : B = g) :
    k0_pay19 A B = kvBlk acc g := by subst hA hB; rfl

theorem pe_step (i : grid0.Coords) {s : Elt F .i32} {B fr : Vec F S1x128 .f32} {A : Vec F S512x128 .f32} {acc : Vec F S512x2176 .f32} {st : Vec F S2 .i32}
    (hs : s = startOf (mOf i) st) (hB : B = fr) (hA : A = colsOf 2048 128 (by omega) acc) :
    k0_pay2 (iota .tc S512x128 32 [1] iota_S512x128_d1_w32) (k0_pay20 (BitVec.ofNat 32 (i 0).val) s B) A = peBlk (mOf i) acc st fr := by
  subst hs hB hA; rfl

end Reads

end Cert.KernelIdeal.Run

end
-- ==== Proof.KernelIdeal.RunA.lean ====
module

public import proofs.«01_k».proof.Proof.Gen.KernelIdeal.Frame
public import proofs.«01_k».proof.Proof.Gen.KernelIdeal.Skeleton
public import proofs.«01_k».proof.Proof.KernelIdeal.Points

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is the first and the
    reduction step is the first, with the proof that the body, started with its inputs and its scratch buffers
    at the contents given, ends with exactly these pieces written. -/
noncomputable def runA (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L14 : List (View.Piece (Elt F) S8x2176x1024 .bf16)), Σ' (L15 : List (View.Piece (Elt F) S512x1024 .bf16)), Σ' (L16 : List (View.Piece (Elt F) S512x2176 .f32)), { L17 : List (View.Piece (Elt F) S512x128 .f32) //
      ∀ (d9 : Vec F S512x1536 .bf16) (d10 : Vec F S512x512 .bf16) (d11 : Vec F S512x64 .bf16) (d13 : Vec F S512x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ f, arg12.view.loc (c : Thread nD τ) ↦[arg12.view.set]{fullShare} arg12.view.writes (Elt F) f L12) ∗ owns (c : Thread nD τ) arg13 fullShare d13 ∗ (arg14.view.loc (c : Thread nD τ) ↦[arg14.view.set]{fullShare} arg14.view.writes (Elt F) (harg14.unread x14) L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun d9 d10 d11 d13 E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, H10, H11, ⟨%d12, %f12, -, H12⟩, H13, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    isplitl [H12]; · iexists _; iexact H12
    isplitl [H13]; · iexact H13
    isplitl [H14]; · iexact H14
    isplitl [H15]; · iexists _; iexact H15
    isplitl [H16]; · iexists _; iexact H16
    iexists _; iexact H17

end Cert.KernelIdeal.Run

end
-- ==== Proof.KernelIdeal.StepA.lean ====
module

public import proofs.«01_k».proof.Proof.Gen.KernelIdeal.Frame
public import proofs.«01_k».proof.Proof.Gen.KernelIdeal.Skeleton
public import proofs.«01_k».proof.Proof.KernelIdeal.Values
public import proofs.«01_k».proof.Proof.KernelIdeal.RunA

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is the first and the reduction step is
    the first, as values of its inputs and of what its scratch buffers held. -/
theorem stepA (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
    (d9 : Vec F S512x1536 .bf16) (d10 : Vec F S512x512 .bf16) (d11 : Vec F S512x64 .bf16) (d13 : Vec F S512x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare (codesBlk x3) ∗ owns (c : Thread nD τ) arg13 fullShare d13 ∗ owns (c : Thread nD τ) arg14 fullShare (putSlab x14 (kOf i) (wSlab x4 x5)) ∗ owns (c : Thread nD τ) arg15 fullShare (xdqBlk x3) ∗ owns (c : Thread nD τ) arg16 fullShare (accStep k0_pay84 x3 (wSlab x4 x5)) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2.2 d9 d10 d11 d13 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, H13, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; exact read_codes _ _ arg3 harg3 x3
  isplitl [H13]; · iexact H13
  isplitl [H14]
  · unfold owns; iexists _; isplitr; swap; · iexact H14
    ipureintro; exact (read_w _ _ i hc0 arg4 harg4 x4 arg5 harg5 x5).trans (congrArg (fun z => putSlab z (kOf i) (wSlab x4 x5)) (harg14.read_unread x14))
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_all _ _ _ _ (read_whole _ _ _ _ _ _ rfl)) (ld_all _ _ _ _ (read_xdq _ _ arg3 harg3 x3)) ((ld_slab _ _ i _ _ (read_w _ _ i hc0 arg4 harg4 x4 arg5 harg5 x5)).trans (slab_putSlab _ _ _))))
  unfold owns; iexists _; isplitr; swap; · iexact H17
  ipureintro; exact (read_whole _ _ _ _ _ _ (sc_chain i arg3 harg3 x3 _ _ (ld_whole arg17 harg17 x17 _)))

end Cert.KernelIdeal.Run

end
-- ==== Proof.KernelIdeal.RunB.lean ====
module

public import proofs.«01_k».proof.Proof.Gen.KernelIdeal.Frame
public import proofs.«01_k».proof.Proof.Gen.KernelIdeal.Skeleton
public import proofs.«01_k».proof.Proof.KernelIdeal.Points

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is the first and the
    reduction step is neither the first nor the last, with the proof that the body, started with its inputs and its scratch buffers
    at the contents given, ends with exactly these pieces written. -/
noncomputable def runB (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : ¬cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L14 : List (View.Piece (Elt F) S8x2176x1024 .bf16)), Σ' (L15 : List (View.Piece (Elt F) S512x1024 .bf16)), Σ' (L16 : List (View.Piece (Elt F) S512x2176 .f32)), { L17 : List (View.Piece (Elt F) S512x128 .f32) //
      ∀ (d9 : Vec F S512x1536 .bf16) (d10 : Vec F S512x512 .bf16) (d11 : Vec F S512x64 .bf16) (d13 : Vec F S512x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ f, arg12.view.loc (c : Thread nD τ) ↦[arg12.view.set]{fullShare} arg12.view.writes (Elt F) f L12) ∗ owns (c : Thread nD τ) arg13 fullShare d13 ∗ (arg14.view.loc (c : Thread nD τ) ↦[arg14.view.set]{fullShare} arg14.view.writes (Elt F) (harg14.unread x14) L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun d9 d10 d11 d13 E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, H10, H11, ⟨%d12, %f12, -, H12⟩, H13, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    isplitl [H12]; · iexists _; iexact H12
    isplitl [H13]; · iexact H13
    isplitl [H14]; · iexact H14
    isplitl [H15]; · iexists _; iexact H15
    isplitl [H16]; · iexists _; iexact H16
    iexists _; iexact H17

end Cert.KernelIdeal.Run

end
-- ==== Proof.KernelIdeal.StepB.lean ====
module

public import proofs.«01_k».proof.Proof.Gen.KernelIdeal.Frame
public import proofs.«01_k».proof.Proof.Gen.KernelIdeal.Skeleton
public import proofs.«01_k».proof.Proof.KernelIdeal.Values
public import proofs.«01_k».proof.Proof.KernelIdeal.RunB

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is the first and the reduction step is
    neither the first nor the last, as values of its inputs and of what its scratch buffers held. -/
theorem stepB (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : ¬cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
    (d9 : Vec F S512x1536 .bf16) (d10 : Vec F S512x512 .bf16) (d11 : Vec F S512x64 .bf16) (d13 : Vec F S512x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare (codesBlk x3) ∗ owns (c : Thread nD τ) arg13 fullShare d13 ∗ owns (c : Thread nD τ) arg14 fullShare (putSlab x14 (kOf i) (wSlab x4 x5)) ∗ owns (c : Thread nD τ) arg15 fullShare (xdqBlk x3) ∗ owns (c : Thread nD τ) arg16 fullShare (accStep x16 x3 (wSlab x4 x5)) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2.2 d9 d10 d11 d13 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, H13, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; exact read_codes _ _ arg3 harg3 x3
  isplitl [H13]; · iexact H13
  isplitl [H14]
  · unfold owns; iexists _; isplitr; swap; · iexact H14
    ipureintro; exact (read_w _ _ i hc0 arg4 harg4 x4 arg5 harg5 x5).trans (congrArg (fun z => putSlab z (kOf i) (wSlab x4 x5)) (harg14.read_unread x14))
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_whole arg16 harg16 x16 _) (ld_all _ _ _ _ (read_xdq _ _ arg3 harg3 x3)) ((ld_slab _ _ i _ _ (read_w _ _ i hc0 arg4 harg4 x4 arg5 harg5 x5)).trans (slab_putSlab _ _ _))))
  unfold owns; iexists _; isplitr; swap; · iexact H17
  ipureintro; exact (read_whole _ _ _ _ _ _ (sc_chain i arg3 harg3 x3 _ _ (ld_whole arg17 harg17 x17 _)))

end Cert.KernelIdeal.Run

end
-- ==== Proof.KernelIdeal.RunC.lean ====
module

public import proofs.«01_k».proof.Proof.Gen.KernelIdeal.Frame
public import proofs.«01_k».proof.Proof.Gen.KernelIdeal.Skeleton
public import proofs.«01_k».proof.Proof.KernelIdeal.Points

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is the first and the
    reduction step is the last, with the proof that the body, started with its inputs and its scratch buffers
    at the contents given, ends with exactly these pieces written. -/
noncomputable def runC (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : ¬cond0_1 i) (hc2 : cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L9 : List (View.Piece (Elt F) S512x1536 .bf16)), Σ' (L10 : List (View.Piece (Elt F) S512x512 .bf16)), Σ' (L11 : List (View.Piece (Elt F) S512x64 .bf16)), Σ' (L13 : List (View.Piece (Elt F) S512x64 .f32)), Σ' (L14 : List (View.Piece (Elt F) S8x2176x1024 .bf16)), Σ' (L15 : List (View.Piece (Elt F) S512x1024 .bf16)), Σ' (L16 : List (View.Piece (Elt F) S512x2176 .f32)), { L17 : List (View.Piece (Elt F) S512x128 .f32) //
      ∀  (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} arg14.view.writes (Elt F) (harg14.unread x14) L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    isplitl [H15]; · iexists _; iexact H15
    isplitl [H16]; · iexists _; iexact H16
    iexists _; iexact H17

end Cert.KernelIdeal.Run

end
-- ==== Proof.KernelIdeal.StepC.lean ====
module

public import proofs.«01_k».proof.Proof.Gen.KernelIdeal.Frame
public import proofs.«01_k».proof.Proof.Gen.KernelIdeal.Skeleton
public import proofs.«01_k».proof.Proof.KernelIdeal.Values
public import proofs.«01_k».proof.Proof.KernelIdeal.RunC

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is the first and the reduction step is
    the last, as values of its inputs and of what its scratch buffers held. -/
theorem stepC (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : cond0_0 i) (hc1 : ¬cond0_1 i) (hc2 : cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
     (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (qBlk (accStep x16 x3 (wSlab x4 x5)) x6) ∗ owns (c : Thread nD τ) arg10 fullShare (kvBlk (accStep x16 x3 (wSlab x4 x5)) x7) ∗ owns (c : Thread nD τ) arg11 fullShare (peBlk (mOf i) (accStep x16 x3 (wSlab x4 x5)) x2 x8) ∗ owns (c : Thread nD τ) arg12 fullShare (codesBlk x3) ∗ owns (c : Thread nD τ) arg13 fullShare (scOut (scMerge (kOf i) x3 x17)) ∗ owns (c : Thread nD τ) arg14 fullShare (putSlab x14 (kOf i) (wSlab x4 x5)) ∗ owns (c : Thread nD τ) arg15 fullShare (xdqBlk x3) ∗ owns (c : Thread nD τ) arg16 fullShare (accStep x16 x3 (wSlab x4 x5)) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2.2.2.2.2.2  E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, ⟨%f9, H9⟩, ⟨%f10, H10⟩, ⟨%f11, H11⟩, ⟨%f12, H12⟩, ⟨%f13, H13⟩, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact read_whole _ _ _ _ _ _ (q_step (funext fun y => ld_cols _ _ 0 1536 (by omega) _ _ rfl rfl _ _ (read_whole _ _ _ _ _ _ (acc_step (ld_whole arg16 harg16 x16 _) (ld_all _ _ _ _ (read_xdq _ _ arg3 harg3 x3)) ((ld_slab _ _ i _ _ (read_w _ _ i hc0 arg4 harg4 x4 arg5 harg5 x5)).trans (slab_putSlab _ _ _)))) y y (fun _ => rfl)) (ld_whole arg6 harg6 x6 _))
  isplitl [H10]
  · unfold owns; iexists _; isplitr; swap; · iexact H10
    ipureintro; exact read_whole _ _ _ _ _ _ (kv_step (funext fun y => ld_cols _ _ 1536 512 (by omega) _ _ rfl rfl _ _ (read_whole _ _ _ _ _ _ (acc_step (ld_whole arg16 harg16 x16 _) (ld_all _ _ _ _ (read_xdq _ _ arg3 harg3 x3)) ((ld_slab _ _ i _ _ (read_w _ _ i hc0 arg4 harg4 x4 arg5 harg5 x5)).trans (slab_putSlab _ _ _)))) y y (fun _ => rfl)) (ld_whole arg7 harg7 x7 _))
  isplitl [H11]
  · unfold owns; iexists _; isplitr; swap; · iexact H11
    ipureintro; exact read_whole _ _ _ _ _ _ (pe_step i (ld_start arg2 harg2 x2 i _ _) (ld_whole arg8 harg8 x8 _) (funext fun y => ld_cols _ _ 2048 128 (by omega) _ _ rfl rfl _ _ (read_whole _ _ _ _ _ _ (acc_step (ld_whole arg16 harg16 x16 _) (ld_all _ _ _ _ (read_xdq _ _ arg3 harg3 x3)) ((ld_slab _ _ i _ _ (read_w _ _ i hc0 arg4 harg4 x4 arg5 harg5 x5)).trans (slab_putSlab _ _ _)))) y y (fun _ => rfl)))
  isplitl [H12]
  · unfold owns; iexists _; isplitr; swap; · iexact H12
    ipureintro; exact read_codes _ _ arg3 harg3 x3
  isplitl [H13]
  · unfold owns; iexists _; isplitr; swap; · iexact H13
    ipureintro; exact read_whole _ _ _ _ _ _ (ld_scOut _ _ _ _ (read_whole _ _ _ _ _ _ (sc_chain i arg3 harg3 x3 _ _ (ld_whole arg17 harg17 x17 _))))
  isplitl [H14]
  · unfold owns; iexists _; isplitr; swap; · iexact H14
    ipureintro; exact (read_w _ _ i hc0 arg4 harg4 x4 arg5 harg5 x5).trans (congrArg (fun z => putSlab z (kOf i) (wSlab x4 x5)) (harg14.read_unread x14))
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_whole arg16 harg16 x16 _) (ld_all _ _ _ _ (read_xdq _ _ arg3 harg3 x3)) ((ld_slab _ _ i _ _ (read_w _ _ i hc0 arg4 harg4 x4 arg5 harg5 x5)).trans (slab_putSlab _ _ _))))
  unfold owns; iexists _; isplitr; swap; · iexact H17
  ipureintro; exact (read_whole _ _ _ _ _ _ (sc_chain i arg3 harg3 x3 _ _ (ld_whole arg17 harg17 x17 _)))

end Cert.KernelIdeal.Run

end
-- ==== Proof.KernelIdeal.RunD.lean ====
module

public import proofs.«01_k».proof.Proof.Gen.KernelIdeal.Frame
public import proofs.«01_k».proof.Proof.Gen.KernelIdeal.Skeleton
public import proofs.«01_k».proof.Proof.KernelIdeal.Points

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is not the first and the
    reduction step is the first, with the proof that the body, started with its inputs and its scratch buffers
    at the contents given, ends with exactly these pieces written. -/
noncomputable def runD (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L15 : List (View.Piece (Elt F) S512x1024 .bf16)), Σ' (L16 : List (View.Piece (Elt F) S512x2176 .f32)), { L17 : List (View.Piece (Elt F) S512x128 .f32) //
      ∀ (d9 : Vec F S512x1536 .bf16) (d10 : Vec F S512x512 .bf16) (d11 : Vec F S512x64 .bf16) (d13 : Vec F S512x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ f, arg12.view.loc (c : Thread nD τ) ↦[arg12.view.set]{fullShare} arg12.view.writes (Elt F) f L12) ∗ owns (c : Thread nD τ) arg13 fullShare d13 ∗ owns (c : Thread nD τ) arg14 fullShare x14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun d9 d10 d11 d13 E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, H10, H11, ⟨%d12, %f12, -, H12⟩, H13, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    isplitl [H12]; · iexists _; iexact H12
    isplitl [H13]; · iexact H13
    isplitl [H14]
    · iexists _; isplitr; · ipureintro; exact harg14.read_unread _
      iexact H14
    isplitl [H15]; · iexists _; iexact H15
    isplitl [H16]; · iexists _; iexact H16
    iexists _; iexact H17

end Cert.KernelIdeal.Run

end
-- ==== Proof.KernelIdeal.StepD.lean ====
module

public import proofs.«01_k».proof.Proof.Gen.KernelIdeal.Frame
public import proofs.«01_k».proof.Proof.Gen.KernelIdeal.Skeleton
public import proofs.«01_k».proof.Proof.KernelIdeal.Values
public import proofs.«01_k».proof.Proof.KernelIdeal.RunD

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is not the first and the reduction step is
    the first, as values of its inputs and of what its scratch buffers held. -/
theorem stepD (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
    (d9 : Vec F S512x1536 .bf16) (d10 : Vec F S512x512 .bf16) (d11 : Vec F S512x64 .bf16) (d13 : Vec F S512x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare (codesBlk x3) ∗ owns (c : Thread nD τ) arg13 fullShare d13 ∗ owns (c : Thread nD τ) arg14 fullShare x14 ∗ owns (c : Thread nD τ) arg15 fullShare (xdqBlk x3) ∗ owns (c : Thread nD τ) arg16 fullShare (accStep k0_pay84 x3 (slab x14 (kOf i))) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2 d9 d10 d11 d13 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, H13, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; exact read_codes _ _ arg3 harg3 x3
  isplitl [H13]; · iexact H13
  isplitl [H14]; · iexact H14
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_all _ _ _ _ (read_whole _ _ _ _ _ _ rfl)) (ld_all _ _ _ _ (read_xdq _ _ arg3 harg3 x3)) (ld_slab _ _ i _ _ (harg14.read_unread x14))))
  unfold owns; iexists _; isplitr; swap; · iexact H17
  ipureintro; exact (read_whole _ _ _ _ _ _ (sc_chain i arg3 harg3 x3 _ _ (ld_whole arg17 harg17 x17 _)))

end Cert.KernelIdeal.Run

end
-- ==== Proof.KernelIdeal.RunE.lean ====
module

public import proofs.«01_k».proof.Proof.Gen.KernelIdeal.Frame
public import proofs.«01_k».proof.Proof.Gen.KernelIdeal.Skeleton
public import proofs.«01_k».proof.Proof.KernelIdeal.Points

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is not the first and the
    reduction step is neither the first nor the last, with the proof that the body, started with its inputs and its scratch buffers
    at the contents given, ends with exactly these pieces written. -/
noncomputable def runE (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : ¬cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L15 : List (View.Piece (Elt F) S512x1024 .bf16)), Σ' (L16 : List (View.Piece (Elt F) S512x2176 .f32)), { L17 : List (View.Piece (Elt F) S512x128 .f32) //
      ∀ (d9 : Vec F S512x1536 .bf16) (d10 : Vec F S512x512 .bf16) (d11 : Vec F S512x64 .bf16) (d13 : Vec F S512x64 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ f, arg12.view.loc (c : Thread nD τ) ↦[arg12.view.set]{fullShare} arg12.view.writes (Elt F) f L12) ∗ owns (c : Thread nD τ) arg13 fullShare d13 ∗ owns (c : Thread nD τ) arg14 fullShare x14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun d9 d10 d11 d13 E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, H10, H11, ⟨%d12, %f12, -, H12⟩, H13, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    isplitl [H12]; · iexists _; iexact H12
    isplitl [H13]; · iexact H13
    isplitl [H14]
    · iexists _; isplitr; · ipureintro; exact harg14.read_unread _
      iexact H14
    isplitl [H15]; · iexists _; iexact H15
    isplitl [H16]; · iexists _; iexact H16
    iexists _; iexact H17

end Cert.KernelIdeal.Run

end
-- ==== Proof.KernelIdeal.StepE.lean ====
module

public import proofs.«01_k».proof.Proof.Gen.KernelIdeal.Frame
public import proofs.«01_k».proof.Proof.Gen.KernelIdeal.Skeleton
public import proofs.«01_k».proof.Proof.KernelIdeal.Values
public import proofs.«01_k».proof.Proof.KernelIdeal.RunE

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is not the first and the reduction step is
    neither the first nor the last, as values of its inputs and of what its scratch buffers held. -/
theorem stepE (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : ¬cond0_1 i) (hc2 : ¬cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
    (d9 : Vec F S512x1536 .bf16) (d10 : Vec F S512x512 .bf16) (d11 : Vec F S512x64 .bf16) (d13 : Vec F S512x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare (codesBlk x3) ∗ owns (c : Thread nD τ) arg13 fullShare d13 ∗ owns (c : Thread nD τ) arg14 fullShare x14 ∗ owns (c : Thread nD τ) arg15 fullShare (xdqBlk x3) ∗ owns (c : Thread nD τ) arg16 fullShare (accStep x16 x3 (slab x14 (kOf i))) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2 d9 d10 d11 d13 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, H13, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; exact read_codes _ _ arg3 harg3 x3
  isplitl [H13]; · iexact H13
  isplitl [H14]; · iexact H14
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_whole arg16 harg16 x16 _) (ld_all _ _ _ _ (read_xdq _ _ arg3 harg3 x3)) (ld_slab _ _ i _ _ (harg14.read_unread x14))))
  unfold owns; iexists _; isplitr; swap; · iexact H17
  ipureintro; exact (read_whole _ _ _ _ _ _ (sc_chain i arg3 harg3 x3 _ _ (ld_whole arg17 harg17 x17 _)))

end Cert.KernelIdeal.Run

end
-- ==== Proof.KernelIdeal.RunF.lean ====
module

public import proofs.«01_k».proof.Proof.Gen.KernelIdeal.Frame
public import proofs.«01_k».proof.Proof.Gen.KernelIdeal.Skeleton
public import proofs.«01_k».proof.Proof.KernelIdeal.Points

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 0 in
/-- The pieces that the body's stores leave in each buffer at a point where the row block is not the first and the
    reduction step is the last, with the proof that the body, started with its inputs and its scratch buffers
    at the contents given, ends with exactly these pieces written. -/
noncomputable def runF (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : ¬cond0_1 i) (hc2 : cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32) :
    Σ' (L12 : List (View.Piece (Elt F) S512x1024 .fp8e4m3)), Σ' (L9 : List (View.Piece (Elt F) S512x1536 .bf16)), Σ' (L10 : List (View.Piece (Elt F) S512x512 .bf16)), Σ' (L11 : List (View.Piece (Elt F) S512x64 .bf16)), Σ' (L13 : List (View.Piece (Elt F) S512x64 .f32)), Σ' (L15 : List (View.Piece (Elt F) S512x1024 .bf16)), Σ' (L16 : List (View.Piece (Elt F) S512x2176 .f32)), { L17 : List (View.Piece (Elt F) S512x128 .f32) //
      ∀  (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg14 fullShare x14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_mla_proj_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold cc0_mla_proj_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact harg14.read_unread _
      iexact H14
    isplitl [H15]; · iexists _; iexact H15
    isplitl [H16]; · iexists _; iexact H16
    iexists _; iexact H17

end Cert.KernelIdeal.Run

end
-- ==== Proof.KernelIdeal.StepF.lean ====
module

public import proofs.«01_k».proof.Proof.Gen.KernelIdeal.Frame
public import proofs.«01_k».proof.Proof.Gen.KernelIdeal.Skeleton
public import proofs.«01_k».proof.Proof.KernelIdeal.Values
public import proofs.«01_k».proof.Proof.KernelIdeal.RunF

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's pieces are matched against the closed forms by unfolding
set_option maxHeartbeats 0 in
/-- What the body leaves in each buffer at a point where the row block is not the first and the reduction step is
    the last, as values of its inputs and of what its scratch buffers held. -/
theorem stepF (c : Dev nD) (i : grid0.Coords) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (hc0 : ¬cond0_0 i) (hc1 : ¬cond0_1 i) (hc2 : cond0_2 i)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
     (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (qBlk (accStep x16 x3 (slab x14 (kOf i))) x6) ∗ owns (c : Thread nD τ) arg10 fullShare (kvBlk (accStep x16 x3 (slab x14 (kOf i))) x7) ∗ owns (c : Thread nD τ) arg11 fullShare (peBlk (mOf i) (accStep x16 x3 (slab x14 (kOf i))) x2 x8) ∗ owns (c : Thread nD τ) arg12 fullShare (codesBlk x3) ∗ owns (c : Thread nD τ) arg13 fullShare (scOut (scMerge (kOf i) x3 x17)) ∗ owns (c : Thread nD τ) arg14 fullShare x14 ∗ owns (c : Thread nD τ) arg15 fullShare (xdqBlk x3) ∗ owns (c : Thread nD τ) arg16 fullShare (accStep x16 x3 (slab x14 (kOf i))) ∗ owns (c : Thread nD τ) arg17 fullShare (scMerge (kOf i) x3 x17)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply ((runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x2 x3 x4 x5 x6 x7 x8 x14 x15 x16 x17).2.2.2.2.2.2.2.2  E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, ⟨%f9, H9⟩, ⟨%f10, H10⟩, ⟨%f11, H11⟩, ⟨%f12, H12⟩, ⟨%f13, H13⟩, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact read_whole _ _ _ _ _ _ (q_step (funext fun y => ld_cols _ _ 0 1536 (by omega) _ _ rfl rfl _ _ (read_whole _ _ _ _ _ _ (acc_step (ld_whole arg16 harg16 x16 _) (ld_all _ _ _ _ (read_xdq _ _ arg3 harg3 x3)) (ld_slab _ _ i _ _ (harg14.read_unread x14)))) y y (fun _ => rfl)) (ld_whole arg6 harg6 x6 _))
  isplitl [H10]
  · unfold owns; iexists _; isplitr; swap; · iexact H10
    ipureintro; exact read_whole _ _ _ _ _ _ (kv_step (funext fun y => ld_cols _ _ 1536 512 (by omega) _ _ rfl rfl _ _ (read_whole _ _ _ _ _ _ (acc_step (ld_whole arg16 harg16 x16 _) (ld_all _ _ _ _ (read_xdq _ _ arg3 harg3 x3)) (ld_slab _ _ i _ _ (harg14.read_unread x14)))) y y (fun _ => rfl)) (ld_whole arg7 harg7 x7 _))
  isplitl [H11]
  · unfold owns; iexists _; isplitr; swap; · iexact H11
    ipureintro; exact read_whole _ _ _ _ _ _ (pe_step i (ld_start arg2 harg2 x2 i _ _) (ld_whole arg8 harg8 x8 _) (funext fun y => ld_cols _ _ 2048 128 (by omega) _ _ rfl rfl _ _ (read_whole _ _ _ _ _ _ (acc_step (ld_whole arg16 harg16 x16 _) (ld_all _ _ _ _ (read_xdq _ _ arg3 harg3 x3)) (ld_slab _ _ i _ _ (harg14.read_unread x14)))) y y (fun _ => rfl)))
  isplitl [H12]
  · unfold owns; iexists _; isplitr; swap; · iexact H12
    ipureintro; exact read_codes _ _ arg3 harg3 x3
  isplitl [H13]
  · unfold owns; iexists _; isplitr; swap; · iexact H13
    ipureintro; exact read_whole _ _ _ _ _ _ (ld_scOut _ _ _ _ (read_whole _ _ _ _ _ _ (sc_chain i arg3 harg3 x3 _ _ (ld_whole arg17 harg17 x17 _))))
  isplitl [H14]; · iexact H14
  isplitl [H15]
  · unfold owns; iexists _; isplitr; swap; · iexact H15
    ipureintro; exact read_xdq _ _ arg3 harg3 x3
  isplitl [H16]
  · unfold owns; iexists _; isplitr; swap; · iexact H16
    ipureintro; exact (read_whole _ _ _ _ _ _ (acc_step (ld_whole arg16 harg16 x16 _) (ld_all _ _ _ _ (read_xdq _ _ arg3 harg3 x3)) (ld_slab _ _ i _ _ (harg14.read_unread x14))))
  unfold owns; iexists _; isplitr; swap; · iexact H17
  ipureintro; exact (read_whole _ _ _ _ _ _ (sc_chain i arg3 harg3 x3 _ _ (ld_whole arg17 harg17 x17 _)))

end Cert.KernelIdeal.Run

end
-- ==== Proof.KernelIdeal.Body.lean ====
module

public import proofs.«01_k».proof.Proof.Gen.KernelIdeal.Frame
public import proofs.«01_k».proof.Proof.Gen.KernelIdeal.Skeleton
public import Idealize.ShloMosaic.Lib.Claim
public import proofs.«01_k».proof.Proof.KernelIdeal.StepA
public import proofs.«01_k».proof.Proof.KernelIdeal.StepB
public import proofs.«01_k».proof.Proof.KernelIdeal.StepC
public import proofs.«01_k».proof.Proof.KernelIdeal.StepD
public import proofs.«01_k».proof.Proof.KernelIdeal.StepE
public import proofs.«01_k».proof.Proof.KernelIdeal.StepF

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## One grid point, the six cases together -/

/-- The kept weights after point `t`. -/
def new14 (t : Fin cfg0.N) (x14 : Vec F S8x2176x1024 .bf16) (x4 : Vec F S2112x1024 .fp8e4m3) (x5 : Vec F S1x2112x8 .f32) : Vec F S8x2176x1024 .bf16 :=
  if t.val < 8 then putSlab x14 (kOf (grid0.coords t)) (wSlab x4 x5) else x14

/-- The accumulator after point `t`. -/
def new16 (t : Fin cfg0.N) (x14 : Vec F S8x2176x1024 .bf16) (x16 : Vec F S512x2176 .f32) (x3 : Vec F S512x1024 .bf16) (x4 : Vec F S2112x1024 .fp8e4m3)
    (x5 : Vec F S1x2112x8 .f32) : Vec F S512x2176 .f32 :=
  accStep (if t.val % 8 = 0 then k0_pay84 else x16) x3 (slab (new14 t x14 x4 x5) (kOf (grid0.coords t)))

/-- A point whose reduction step is not the last: four outputs are left alone. -/
theorem step_mid (c : Dev nD) (t : Fin cfg0.N) (hk : ¬t.val % 8 = 7) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
    (d9 : Vec F S512x1536 .bf16) (d10 : Vec F S512x512 .bf16) (d11 : Vec F S512x64 .bf16) (d13 : Vec F S512x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ (∃ d, owns (c : Thread nD τ) arg12 fullShare d) ∗ owns (c : Thread nD τ) arg13 fullShare d13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare (codesBlk x3) ∗ owns (c : Thread nD τ) arg13 fullShare d13 ∗ owns (c : Thread nD τ) arg14 fullShare (new14 t x14 x4 x5) ∗ owns (c : Thread nD τ) arg15 fullShare (xdqBlk x3) ∗ owns (c : Thread nD τ) arg16 fullShare (new16 t x14 x16 x3 x4 x5) ∗ owns (c : Thread nD τ) arg17 fullShare (scMerge (kOf (grid0.coords t)) x3 x17)) -∗ K ⟨⟩))
      ⊢ wp frame (wpE (defs₀ (F := F)) Variants.none c none) E (cc0_mla_proj (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold new16 new14
  by_cases h0 : t.val < 8
  · by_cases h1 : t.val % 8 = 0
    · simp only [if_pos h0, if_pos h1, slab_putSlab]
      exact stepA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ((hcond0_0 t).mpr h0) ((hcond0_1 t).mpr h1) (fun h => hk ((hcond0_2 t).mp h)) x2 x3 x4 x5 x6 x7 x8 x14 x15 x16 x17 d9 d10 d11 d13 E K
    · simp only [if_pos h0, if_neg h1, slab_putSlab]
      exact stepB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ((hcond0_0 t).mpr h0) (fun h => h1 ((hcond0_1 t).mp h)) (fun h => hk ((hcond0_2 t).mp h)) x2 x3 x4 x5 x6 x7 x8 x14 x15 x16 x17 d9 d10 d11 d13 E K
  · by_cases h1 : t.val % 8 = 0
    · simp only [if_neg h0, if_pos h1]
      exact stepD c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fun h => h0 ((hcond0_0 t).mp h)) ((hcond0_1 t).mpr h1) (fun h => hk ((hcond0_2 t).mp h)) x2 x3 x4 x5 x6 x7 x8 x14 x15 x16 x17 d9 d10 d11 d13 E K
    · simp only [if_neg h0, if_neg h1]
      exact stepE c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fun h => h0 ((hcond0_0 t).mp h)) (fun h => h1 ((hcond0_1 t).mp h)) (fun h => hk ((hcond0_2 t).mp h)) x2 x3 x4 x5 x6 x7 x8 x14 x15 x16 x17 d9 d10 d11 d13 E K

/-- A point whose reduction step is the last: every output is stored. -/
theorem step_last (c : Dev nD) (t : Fin cfg0.N) (hk : t.val % 8 = 7) (arg2 : Memref sig .tc .smem S2 .i32) (harg2 : arg2.IsWhole) (arg3 : Memref sig .tc .vmem S512x1024 .bf16) (harg3 : arg3.IsWhole) (arg4 : Memref sig .tc .vmem S2112x1024 .fp8e4m3) (harg4 : arg4.IsWhole) (arg5 : Memref sig .tc .vmem S1x2112x8 .f32) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S1x128 .f32) (harg8 : arg8.IsWhole) (arg9 : Memref sig .tc .vmem S512x1536 .bf16) (harg9 : arg9.IsWhole) (arg10 : Memref sig .tc .vmem S512x512 .bf16) (harg10 : arg10.IsWhole) (arg11 : Memref sig .tc .vmem S512x64 .bf16) (harg11 : arg11.IsWhole) (arg12 : Memref sig .tc .vmem S512x1024 .fp8e4m3) (harg12 : arg12.IsWhole) (arg13 : Memref sig .tc .vmem S512x64 .f32) (harg13 : arg13.IsWhole) (arg14 : Memref sig .tc .vmem S8x2176x1024 .bf16) (harg14 : arg14.IsWhole) (arg15 : Memref sig .tc .vmem S512x1024 .bf16) (harg15 : arg15.IsWhole) (arg16 : Memref sig .tc .vmem S512x2176 .f32) (harg16 : arg16.IsWhole) (arg17 : Memref sig .tc .vmem S512x128 .f32) (harg17 : arg17.IsWhole)
    (x2 : Vec F S2 .i32) (x3 : Vec F S512x1024 .bf16) (x4 : Vec F S2112x1024 .fp8e4m3) (x5 : Vec F S1x2112x8 .f32) (x6 : Vec F S1x1536 .bf16) (x7 : Vec F S1x512 .bf16) (x8 : Vec F S1x128 .f32) (x14 : Vec F S8x2176x1024 .bf16) (x15 : Vec F S512x1024 .bf16) (x16 : Vec F S512x2176 .f32) (x17 : Vec F S512x128 .f32)
     (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (qBlk (new16 t x14 x16 x3 x4 x5) x6) ∗ owns (c : Thread nD τ) arg10 fullShare (kvBlk (new16 t x14 x16 x3 x4 x5) x7) ∗ owns (c : Thread nD τ) arg11 fullShare (peBlk (mOf (grid0.coords t)) (new16 t x14 x16 x3 x4 x5) x2 x8) ∗ owns (c : Thread nD τ) arg12 fullShare (codesBlk x3) ∗ owns (c : Thread nD τ) arg13 fullShare (scOut (scMerge (kOf (grid0.coords t)) x3 x17)) ∗ owns (c : Thread nD τ) arg14 fullShare (new14 t x14 x4 x5) ∗ owns (c : Thread nD τ) arg15 fullShare (xdqBlk x3) ∗ owns (c : Thread nD τ) arg16 fullShare (new16 t x14 x16 x3 x4 x5) ∗ owns (c : Thread nD τ) arg17 fullShare (scMerge (kOf (grid0.coords t)) x3 x17)) -∗ K ⟨⟩))
      ⊢ wp frame (wpE (defs₀ (F := F)) Variants.none c none) E (cc0_mla_proj (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold new16 new14
  by_cases h0 : t.val < 8
  · have h1 : ¬t.val % 8 = 0 := by omega
    simp only [if_pos h0, if_neg h1, slab_putSlab]
    exact stepC c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ((hcond0_0 t).mpr h0) (fun h => h1 ((hcond0_1 t).mp h)) ((hcond0_2 t).mpr hk) x2 x3 x4 x5 x6 x7 x8 x14 x15 x16 x17  E K
  · have h1 : ¬t.val % 8 = 0 := by omega
    simp only [if_neg h0, if_neg h1]
    exact stepF c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (fun h => h0 ((hcond0_0 t).mp h)) (fun h => h1 ((hcond0_1 t).mp h)) ((hcond0_2 t).mpr hk) x2 x3 x4 x5 x6 x7 x8 x14 x15 x16 x17  E K

theorem kOf_val : ∀ t : Fin cfg0.N, (kOf (grid0.coords t)).val = t.val % 8 := by decide +kernel

/-! ## What the buffers hold, point by point -/

/-- Grid point `n`. -/
def pt (n : ℕ) (h : n < 48) : Fin cfg0.N := ⟨n, Nat.lt_of_lt_of_eq h (show cfg0.N = 48 from N_0).symm⟩

variable (m : (ℓ : Loc nD τ sig) → Buf (Elt F) ℓ) (ρ : Dev nD → PrngReg)

/-- The block of the input at point `n`. -/
def xB (c : Dev nD) (n : ℕ) (h : n < 48) : Vec F S512x1024 .bf16 := iblk m c 1 (pt n h)

/-- The dequantised weights of reduction step `k`. -/
def wS (c : Dev nD) (k : Fin 8) : Vec F S1x2176x1024 .bf16 :=
  wSlab (iblk m c 2 (pt k.val (by have := k.isLt; omega))) (iblk m c 3 (pt k.val (by have := k.isLt; omega)))

/-- The accumulator after point `n`. -/
def accAt (c : Dev nD) : (n : ℕ) → n < 48 → Vec F S512x2176 .f32
  | 0, h => accStep k0_pay84 (xB m c 0 h) (wS m c 0)
  | n + 1, h => accStep (if (n + 1) % 8 = 0 then k0_pay84 else accAt c n (by omega)) (xB m c (n + 1) h) (wS m c ⟨(n + 1) % 8, Nat.mod_lt _ (by omega)⟩)

/-- The scales of the row block of point `n`. -/
def scAt (c : Dev nD) (n : ℕ) (h : n < 48) : Vec F S512x64 .f32 :=
  fun y => scaleCol (tile (xB m c (8 * (n / 8) + (y 1).val / 8) (by have : (y 1).val < 64 := (y 1).isLt; omega)) ⟨(y 1).val % 8, Nat.mod_lt _ (by omega)⟩) (ix2 (y 0) 0)

/-- What the carried scratch buffers hold before point `n`: the slabs stored so far, the running sum of the row block, and the
    scale columns stored so far. -/
structure Inv (c : Dev nD) (n : ℕ) (x14 : Vec F S8x2176x1024 .bf16) (x16 : Vec F S512x2176 .f32) (x17 : Vec F S512x128 .f32) : Prop where
  slabs : ∀ k : Fin 8, k.val < n → slab x14 k = wS m c k
  acc : n % 8 ≠ 0 → ∀ h : n - 1 < 48, x16 = accAt m c (n - 1) h
  sc : ∀ y : S512x128.Idx, (y 1).val < 8 * (n % 8) → ∀ h : 8 * (n / 8) + (y 1).val / 8 < 48,
    x17 y = scaleCol (tile (xB m c (8 * (n / 8) + (y 1).val / 8) h) ⟨(y 1).val % 8, Nat.mod_lt _ (by omega)⟩) (ix2 (y 0) 0)

theorem inv_zero (c : Dev nD) (x14 : Vec F S8x2176x1024 .bf16) (x16 : Vec F S512x2176 .f32) (x17 : Vec F S512x128 .f32) : Inv m c 0 x14 x16 x17 :=
  ⟨fun _ h => absurd h (Nat.not_lt_zero _), fun h => absurd rfl h, fun y h => absurd h (Nat.not_lt_zero _)⟩

theorem slab_putSlab_ne (x : Vec F S8x2176x1024 .bf16) (k k' : Fin 8) (h : k'.val ≠ k.val) (s : Vec F S1x2176x1024 .bf16) :
    slab (putSlab x k s) k' = slab x k' := by
  funext y
  show (if k'.val = k.val then s (ix3 0 (y 1) (y 2)) else _) = _
  rw [if_neg h]; rfl

section Step
variable {m} {c : Dev nD} {t : Fin cfg0.N} {x14 : Vec F S8x2176x1024 .bf16} {x16 : Vec F S512x2176 .f32} {x17 : Vec F S512x128 .f32}

theorem lt48 (t : Fin cfg0.N) : t.val < 48 := Nat.lt_of_lt_of_eq t.isLt (show cfg0.N = 48 from N_0)

/-- The slabs after point `t`. -/
theorem slabs_step (hI : Inv m c t.val x14 x16 x17) (k : Fin 8) (hk : k.val < t.val + 1) :
    slab (new14 t x14 (iblk m c 2 t) (iblk m c 3 t)) k = wS m c k := by
  have hK := kOf_val t
  unfold new14
  by_cases h0 : t.val < 8
  · rw [if_pos h0]
    by_cases h : k.val = t.val
    · have e : kOf (grid0.coords t) = k := Fin.ext (by omega)
      rw [e, slab_putSlab]
      have et : pt k.val (by omega) = t := Fin.ext h
      unfold wS; rw [et]
    · rw [slab_putSlab_ne _ _ _ (by omega)]
      exact hI.slabs k (by omega)
  · rw [if_neg h0]; exact hI.slabs k (by have := k.isLt; omega)

/-- The accumulator after point `t`. -/
theorem acc_step_eq (hI : Inv m c t.val x14 x16 x17) :
    new16 t x14 x16 (iblk m c 1 t) (iblk m c 2 t) (iblk m c 3 t) = accAt m c t.val (lt48 t) := by
  have hK := kOf_val t
  unfold new16
  rw [slabs_step hI _ (by rw [hK]; exact Nat.lt_succ_of_le (Nat.mod_le _ _))]
  have hx : (iblk m c 1 t : Vec F S512x1024 .bf16) = xB m c t.val (lt48 t) := rfl
  rw [hx]
  have hacc := hI.acc
  obtain ⟨n, hn⟩ := t
  have eK : kOf (grid0.coords (⟨n, hn⟩ : Fin cfg0.N)) = ⟨n % 8, Nat.mod_lt _ (by omega)⟩ := Fin.ext hK
  rw [eK]
  cases n with
  | zero => rfl
  | succ n =>
    show accStep (if (n + 1) % 8 = 0 then k0_pay84 else x16) _ _ = accStep (if (n + 1) % 8 = 0 then k0_pay84 else accAt m c n _) _ _
    by_cases h : (n + 1) % 8 = 0
    · rw [if_pos h, if_pos h]
    · rw [if_neg h, if_neg h, hacc h (by have := lt48 ⟨n + 1, hn⟩; simp at this ⊢; omega)]; rfl

/-- The scale columns after point `t`. -/
theorem sc_step_eq (hI : Inv m c t.val x14 x16 x17) (y : S512x128.Idx) (hy : (y 1).val < 8 * (t.val % 8 + 1))
    (h : 8 * (t.val / 8) + (y 1).val / 8 < 48) :
    scMerge (kOf (grid0.coords t)) (iblk m c 1 t) x17 y
      = scaleCol (tile (xB m c (8 * (t.val / 8) + (y 1).val / 8) h) ⟨(y 1).val % 8, Nat.mod_lt _ (by omega)⟩) (ix2 (y 0) 0) := by
  have hK := kOf_val t
  unfold scMerge
  by_cases hk : (y 1).val / 8 = (kOf (grid0.coords t)).val
  · rw [if_pos hk]
    have et : pt (8 * (t.val / 8) + (y 1).val / 8) h = t := Fin.ext (by show 8 * (t.val / 8) + (y 1).val / 8 = t.val; omega)
    unfold xB; rw [et]
  · rw [if_neg hk]
    exact hI.sc y (by omega) h

/-- The invariant goes from point to point. -/
theorem inv_step (hI : Inv m c t.val x14 x16 x17) :
    Inv m c (t.val + 1) (new14 t x14 (iblk m c 2 t) (iblk m c 3 t)) (new16 t x14 x16 (iblk m c 1 t) (iblk m c 2 t) (iblk m c 3 t))
      (scMerge (kOf (grid0.coords t)) (iblk m c 1 t) x17) where
  slabs := fun k hk => slabs_step hI k hk
  acc := fun _ _ => acc_step_eq hI
  sc := fun y hy h => by
    have h1 : (t.val + 1) % 8 ≠ 0 := fun h0 => by rw [h0] at hy; exact absurd hy (Nat.not_lt_zero _)
    have h2 : (t.val + 1) / 8 = t.val / 8 := by omega
    have := sc_step_eq hI y (by omega) (by rw [← h2]; exact h)
    rw [this]
    congr 3
    simp only [h2]

/-- The scales that the last reduction step of a row block stores. -/
theorem sc_last_eq (hI : Inv m c t.val x14 x16 x17) (hk : t.val % 8 = 7) :
    scOut (scMerge (kOf (grid0.coords t)) (iblk m c 1 t) x17) = scAt m c t.val (lt48 t) := by
  funext y
  have b : (y 1).val < 64 := (y 1).isLt
  exact sc_step_eq hI (ix2 (y 0) ⟨(y 1).val, by omega⟩) (by show (y 1).val < _; omega) _

end Step

/-! ## The proof data -/

/-- The region's invariant before point `n`: the scratch buffers at contents that satisfy `Inv`, and the generator's register. -/
def PhiS (c : Dev nD) (n : ℕ) (_ : n ≤ cfg0.N) : sProp 𝕄 :=
  iprop(∃ x14, ∃ x15, ∃ x16, ∃ x17, ⌜Inv m c n x14 x16 x17⌝ ∗ (owns (c : Thread nD τ) scM0 fullShare x14 ∗ owns (c : Thread nD τ) scM1 fullShare x15 ∗ owns (c : Thread nD τ) scM2 fullShare x16 ∗ owns (c : Thread nD τ) scM3 fullShare x17) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => qBlk (accAt m c t.val (lt48 t)) (iblk m c 4 t)
    | ⟨8, _⟩ => kvBlk (accAt m c t.val (lt48 t)) (iblk m c 5 t)
    | ⟨9, _⟩ => peBlk (mOf (grid0.coords t)) (accAt m c t.val (lt48 t)) (iblk m c 0 t) (iblk m c 6 t)
    | ⟨10, _⟩ => codesBlk (iblk m c 1 t)
    | ⟨11, _⟩ => scAt m c t.val (lt48 t)
  Φ t := PhiS m c t.val (Nat.le_of_lt_succ t.isLt)
  q _ := fullShare
  owed _ := 0

/-- The arrays as the region finds them. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = qBlk (accAt m c t.val (lt48 t)) (iblk m c 4 t) := by dsimp only [dats]
theorem after0_8 (c : Dev nD) (t : Fin cfg0.N) : (dats m 0 c).after 8 t = kvBlk (accAt m c t.val (lt48 t)) (iblk m c 5 t) := by dsimp only [dats]
theorem after0_9 (c : Dev nD) (t : Fin cfg0.N) : (dats m 0 c).after 9 t = peBlk (mOf (grid0.coords t)) (accAt m c t.val (lt48 t)) (iblk m c 0 t) (iblk m c 6 t) := by dsimp only [dats]
theorem after0_10 (c : Dev nD) (t : Fin cfg0.N) : (dats m 0 c).after 10 t = codesBlk (iblk m c 1 t) := by dsimp only [dats]
theorem after0_11 (c : Dev nD) (t : Fin cfg0.N) : (dats m 0 c).after 11 t = scAt m c t.val (lt48 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the pipeline hands the body at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

-- twelve windows and four scratch buffers are threaded
set_option maxHeartbeats 4800000 in
/-- The body at any point keeps the invariant and leaves each buffer as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_castSucc m c t]
  unfold PhiS
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 10 t = owns (c : Thread nD τ) (ms0_10 t) fullShare ((dats m 0 c).after 10 t) from by
      unfold Dat.leavesExact; rw [liveAt0_10 t], after0_10]
  by_cases hk : t.val % 8 = 7
  · rw [show (dats m 0 c).leavesExact 7 t = owns (c : Thread nD τ) (ms0_7 t) fullShare ((dats m 0 c).after 7 t) from by
      unfold Dat.leavesExact; rw [liveAt0_7 t ((hcond0_2 t).mpr hk)], after0_7]
    rw [show (dats m 0 c).leavesExact 8 t = owns (c : Thread nD τ) (ms0_8 t) fullShare ((dats m 0 c).after 8 t) from by
      unfold Dat.leavesExact; rw [liveAt0_8 t ((hcond0_2 t).mpr hk)], after0_8]
    rw [show (dats m 0 c).leavesExact 9 t = owns (c : Thread nD τ) (ms0_9 t) fullShare ((dats m 0 c).after 9 t) from by
      unfold Dat.leavesExact; rw [liveAt0_9 t ((hcond0_2 t).mpr hk)], after0_9]
    rw [show (dats m 0 c).leavesExact 11 t = owns (c : Thread nD τ) (ms0_11 t) fullShare ((dats m 0 c).after 11 t) from by
      unfold Dat.leavesExact; rw [liveAt0_11 t ((hcond0_2 t).mpr hk)], after0_11]
    iintro ⟨⟨%x14, %x15, %x16, %x17, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    rw [← acc_step_eq hI, ← sc_last_eq hI hk]
    iapply (step_last c t hk (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) (iblk m c 5 t) (iblk m c 6 t) x14 x15 x16 x17  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · iexists _; iexists _; iexists _; iexists _
      isplitr; · ipureintro; exact inv_step hI
      isplitr [Hg]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [Dat.leavesExact_idle (dats m 0 c) 7 t (idleAt0_7 t (fun h => hk ((hcond0_2 t).mp h))) (noFlush0_7 t (fun h => hk ((hcond0_2 t).mp h)))]
    rw [Dat.leavesExact_idle (dats m 0 c) 8 t (idleAt0_8 t (fun h => hk ((hcond0_2 t).mp h))) (noFlush0_8 t (fun h => hk ((hcond0_2 t).mp h)))]
    rw [Dat.leavesExact_idle (dats m 0 c) 9 t (idleAt0_9 t (fun h => hk ((hcond0_2 t).mp h))) (noFlush0_9 t (fun h => hk ((hcond0_2 t).mp h)))]
    rw [Dat.leavesExact_idle (dats m 0 c) 11 t (idleAt0_11 t (fun h => hk ((hcond0_2 t).mp h))) (noFlush0_11 t (fun h => hk ((hcond0_2 t).mp h)))]
    iintro ⟨⟨%x14, %x15, %x16, %x17, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (step_mid c t hk (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) (iblk m c 5 t) (iblk m c 6 t) x14 x15 x16 x17 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · iexists _; iexists _; iexists _; iexists _
      isplitr; · ipureintro; exact inv_step hI
      isplitr [Hg]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    iexists _; iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%a, HS0⟩, ⟨%b, HS1⟩, ⟨%d, HS2⟩, ⟨%e, HS3⟩⟩, Hg⟩
  iexists a; iexists b; iexists d; iexists e
  isplitr; · ipureintro; exact inv_zero m c _ _ _
  isplitr [Hg]
  · isplitl [HS0]; · iexact HS0
    isplitl [HS1]; · iexact HS1
    isplitl [HS2]; · iexact HS2
    iexact HS3
  iexact Hg

/-- After the last point the scratch buffers' contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  unfold PhiS
  iintro ⟨%a, %b, %d, %e, -, ⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

/-! ## The run and the frame -/

-- the launch theorem's implicit arguments are found by unifying its conclusion with this one
set_option backward.isDefEq.respectTransparency.types false in
set_option maxHeartbeats 800000 in
/-- Every weakly fair execution terminates, with every array of the pipeline at what the proof data say, every other buffer as
    the lines after the region leave it, and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Value.Scale.lean ====
/- The power of two that the kernel takes from the exponent words is the one that the reference takes by a logarithm. -/
module

public import Idealize.ShloMosaic.PureOps
public import Idealize.ShloMosaic.PureOps.Ideal.Laws
public import Idealize.ShloMosaic.Lib.ValueIdx

@[expose] public section

noncomputable section

namespace Cert.Value

open Idealize.ShloMosaic

/-! ## Exponent words -/

/-- The word of the power of two with biased exponent `j`. -/
def W (j : ℕ) : BitVec 32 := BitVec.ofNat 32 j <<< 23#32

theorem W_fields : ∀ j : Fin 256, ((W j.val).extractLsb' 31 1 == 1#1) = false ∧ ((W j.val).extractLsb' 23 8).toNat = j.val
    ∧ ((W j.val).extractLsb' 0 23).toNat = 0 ∧ (W j.val).toInt = j.val * 8388608 := by decide +kernel

/-- A word with biased exponent strictly between the two ends is that power of two. -/
theorem ofBits_W (j : ℕ) (h0 : 1 ≤ j) (h1 : j < 255) : Ideal.ofBits .f32 (W j) = (((2 : ℝ) ^ ((j : ℤ) - 127) : ℝ) : EReal) := by
  obtain ⟨a, b, c, -⟩ := W_fields ⟨j, by omega⟩
  show Ideal.ieee 8 23 (W j) = _
  unfold Ideal.ieee
  dsimp only at a b c ⊢
  simp only [show (8 + 23 : ℕ) = 31 from rfl, a, b, c]
  rw [if_neg (by omega), if_neg (by omega)]
  refine congrArg (fun r : ℝ => (r : EReal)) ?_
  have h2 : ((2 ^ 23 + 0 : ℕ) : ℝ) = (2 : ℝ) ^ (23 : ℤ) := by norm_num
  simp only [Bool.false_eq_true, if_false, one_mul]
  rw [h2, ← zpow_add₀ (by norm_num : (2 : ℝ) ≠ 0)]
  refine congrArg (fun n : ℤ => (2 : ℝ) ^ n) ?_
  norm_num

theorem ofBits_W_zero : Ideal.ofBits .f32 (W 0) = (0 : EReal) := by
  have : W 0 = 0#32 := by decide +kernel
  rw [this]; simp [Ideal.ofBits, Ideal.ieee]

theorem ofBits_W_top : Ideal.ofBits .f32 (W 255) = (⊤ : EReal) := by
  obtain ⟨a, b, c, -⟩ := W_fields ⟨255, by omega⟩
  show Ideal.ieee 8 23 (W 255) = _
  unfold Ideal.ieee
  dsimp only at a b c ⊢
  simp only [show (8 + 23 : ℕ) = 31 from rfl, a, b, c]
  norm_num

/-! ## The largest exponent word below a value -/

/-- The largest exponent word of a value at most `t`, the zero word where there is none. -/
def topWord (t : EReal) : BitVec 32 :=
  (Finset.univ : Finset (Fin 256)).fold IKind.maxsi.op 2147483648#32
    fun j => Scalar.select (Ideal.cmp .ole (Ideal.ofBits .f32 (W j.val)) t) (W j.val) 0#32

/-- The word of the scale. -/
def scaleWord (t : EReal) : BitVec 32 :=
  Scalar.select (IntOp.cmpi .eq (topWord t) 0#32) 1065353216#32 (topWord t + 8388608#32)

theorem toInt_maxsi (a b : BitVec 32) : (IKind.maxsi.op a b).toInt = max a.toInt b.toInt := by
  show (if b.slt a then a else b).toInt = _
  by_cases h : b.slt a
  · rw [if_pos h]
    have : b.toInt < a.toInt := by simpa [BitVec.slt] using h
    omega
  · rw [if_neg h]
    have : ¬ b.toInt < a.toInt := by simpa [BitVec.slt] using h
    omega

/-- The largest word, where exactly the exponents up to `n` are at most `t`. -/
theorem topWord_eq (t : EReal) (n : ℕ) (hn : n < 256) (hle : ∀ j : Fin 256, Ideal.ofBits .f32 (W j.val) ≤ t ↔ j.val ≤ n) :
    topWord t = W n := by
  apply BitVec.eq_of_toInt_eq
  unfold topWord
  rw [← Finset.fold_hom (op' := max) (m := BitVec.toInt) toInt_maxsi]
  have hterm : ∀ j : Fin 256, (Scalar.select (Ideal.cmp .ole (Ideal.ofBits .f32 (W j.val)) t) (W j.val) 0#32).toInt
      = if j.val ≤ n then (j.val : ℤ) * 8388608 else 0 := by
    intro j
    have hcmp : Ideal.cmp .ole (Ideal.ofBits .f32 (W j.val)) t = BitVec.ofBool (decide (Ideal.ofBits .f32 (W j.val) ≤ t)) := rfl
    by_cases h : j.val ≤ n
    · rw [if_pos h, hcmp, decide_eq_true ((hle j).2 h)]
      exact (W_fields j).2.2.2
    · rw [if_neg h, hcmp, decide_eq_false (fun h' => h ((hle j).1 h'))]
      rfl
  simp only [hterm]
  have hW : (W n).toInt = (n : ℤ) * 8388608 := (W_fields ⟨n, hn⟩).2.2.2
  rw [hW]
  apply le_antisymm
  · rw [Finset.fold_max_le]
    refine ⟨?_, fun j _ => ?_⟩
    · have : (2147483648#32 : BitVec 32).toInt = -2147483648 := by decide
      rw [this]; omega
    · by_cases h : j.val ≤ n
      · rw [if_pos h]; omega
      · rw [if_neg h]; omega
  · rw [Finset.le_fold_max]
    exact Or.inr ⟨⟨n, hn⟩, Finset.mem_univ _, by simp⟩

/-! ## The reference's exponent -/

/-- The exponent that the reference takes: one more than the whole part of the base-two logarithm, zero below the normal range. -/
def refExp (t : EReal) : EReal :=
  Scalar.select (Ideal.cmp .olt t (Ideal.ofBits .f32 0x00800000#32)) (Ideal.ofBits .f32 0x00000000#32)
    (Ideal.liftRound (fun r => ⌊r⌋) (Ideal.div (Ideal.log t) (Ideal.log (Ideal.ofBits .f32 0x40000000#32)))
      + Ideal.ofBits .f32 0x3F800000#32)

theorem zero_bits : Ideal.ofBits .f32 0x00000000#32 = (0 : EReal) := by simp [Ideal.ofBits, Ideal.ieee]
theorem one_bits : Ideal.ofBits .f32 0x3F800000#32 = ((1 : ℝ) : EReal) := by
  rw [show (0x3F800000#32 : BitVec 32) = W 127 by decide +kernel, ofBits_W 127 (by omega) (by omega)]; norm_num
theorem two_bits : Ideal.ofBits .f32 0x40000000#32 = ((2 : ℝ) : EReal) := by
  rw [show (0x40000000#32 : BitVec 32) = W 128 by decide +kernel, ofBits_W 128 (by omega) (by omega)]; norm_num
theorem tiny_bits : Ideal.ofBits .f32 0x00800000#32 = (((2 : ℝ) ^ (-126 : ℤ) : ℝ) : EReal) := by
  rw [show (0x00800000#32 : BitVec 32) = W 1 by decide +kernel, ofBits_W 1 (by omega) (by omega)]; norm_num

/-- Below the normal range both scales are one. -/
theorem small_case (r : ℝ) (h0 : 0 ≤ r) (h1 : r < (2 : ℝ) ^ (-126 : ℤ)) : topWord (r : EReal) = W 0 ∧ refExp (r : EReal) = 0 := by
  constructor
  · refine topWord_eq _ 0 (by omega) fun j => ⟨fun h => ?_, fun h => ?_⟩
    · by_contra hj
      by_cases h255 : j.val = 255
      · rw [h255, ofBits_W_top] at h; exact absurd h (not_le.2 (EReal.coe_lt_top r))
      · rw [ofBits_W j.val (by omega) (by have := j.isLt; omega), EReal.coe_le_coe_iff] at h
        have : (2 : ℝ) ^ (-126 : ℤ) ≤ (2 : ℝ) ^ ((j.val : ℤ) - 127) := zpow_le_zpow_right₀ (by norm_num) (by omega)
        linarith
    · rw [show j.val = 0 by omega, ofBits_W_zero]; exact_mod_cast h0
  · unfold refExp
    have hcmp : Ideal.cmp .olt (r : EReal) (Ideal.ofBits .f32 0x00800000#32) = 1#1 := by
      show BitVec.ofBool (decide ((r : EReal) < Ideal.ofBits .f32 0x00800000#32)) = 1#1
      rw [tiny_bits, decide_eq_true (EReal.coe_lt_coe_iff.2 h1)]; rfl
    rw [hcmp]
    exact zero_bits

/-- The whole part of the base-two logarithm of a real. -/
def lg (r : ℝ) : ℤ := ⌊Real.log r * (Real.log 2)⁻¹⌋

theorem zpow_le_iff (r : ℝ) (hr : 0 < r) (z : ℤ) : (2 : ℝ) ^ z ≤ r ↔ z ≤ lg r := by
  have hl2 : (0 : ℝ) < Real.log 2 := Real.log_pos (by norm_num)
  unfold lg
  rw [Int.le_floor, ← div_eq_mul_inv, le_div_iff₀ hl2, ← Real.log_zpow, Real.log_le_log_iff (by positivity) hr]

/-- In the normal range both exponents are the whole part of the logarithm. -/
theorem normal_case (r : ℝ) (h0 : (2 : ℝ) ^ (-126 : ℤ) ≤ r) (h1 : r < (2 : ℝ) ^ (126 : ℤ)) :
    ∃ n : ℤ, -126 ≤ n ∧ n < 126 ∧ topWord (r : EReal) = W (n + 127).toNat ∧ refExp (r : EReal) = (((n : ℝ) + 1 : ℝ) : EReal) := by
  have hpos : 0 < r := lt_of_lt_of_le (by positivity) h0
  have hl : -126 ≤ lg r := (zpow_le_iff r hpos _).1 h0
  have hu : lg r < 126 := not_le.1 fun h => absurd ((zpow_le_iff r hpos _).2 h) (not_le.2 h1)
  refine ⟨lg r, hl, hu, ?_, ?_⟩
  · refine topWord_eq _ _ (by omega) fun j => ?_
    by_cases h255 : j.val = 255
    · rw [h255, ofBits_W_top]
      exact ⟨fun h => absurd h (not_le.2 (EReal.coe_lt_top r)), fun h => by omega⟩
    · by_cases hz : j.val = 0
      · rw [hz, ofBits_W_zero]
        exact ⟨fun _ => by omega, fun _ => by exact_mod_cast hpos.le⟩
      · rw [ofBits_W j.val (by omega) (by have := j.isLt; omega), EReal.coe_le_coe_iff]
        rw [zpow_le_iff r hpos]; omega
  · unfold refExp
    have hcmp : Ideal.cmp .olt (r : EReal) (Ideal.ofBits .f32 0x00800000#32) = 0#1 := by
      show BitVec.ofBool (decide ((r : EReal) < Ideal.ofBits .f32 0x00800000#32)) = 0#1
      rw [tiny_bits, decide_eq_false (by rw [EReal.coe_lt_coe_iff]; exact not_lt.2 h0)]; rfl
    rw [hcmp, two_bits, one_bits]
    have hlog : ∀ s : ℝ, 0 < s → Ideal.log (s : EReal) = ((Real.log s : ℝ) : EReal) := fun s hs => by
      show (if s ≤ 0 then (⊥ : EReal) else (Real.log s : EReal)) = _
      rw [if_neg (not_le.2 hs)]
    rw [hlog r hpos, hlog 2 (by norm_num)]
    have hl2 : (0 : ℝ) < Real.log 2 := Real.log_pos (by norm_num)
    have hdiv : Ideal.div ((Real.log r : ℝ) : EReal) ((Real.log 2 : ℝ) : EReal) = ((Real.log r * (Real.log 2)⁻¹ : ℝ) : EReal) := by
      unfold Ideal.div
      rw [if_neg (by exact_mod_cast hl2.ne'), ← EReal.coe_inv, ← EReal.coe_mul]
    rw [hdiv]
    show (((lg r : ℤ) : ℝ) : EReal) + ((1 : ℝ) : EReal) = _
    rw [← EReal.coe_add]

theorem exp2_int (n : ℤ) : Ideal.exp2 (((n : ℝ) : ℝ) : EReal) = (((2 : ℝ) ^ n : ℝ) : EReal) := by
  show ((Real.rpow 2 (n : ℝ) : ℝ) : EReal) = _
  rw [show Real.rpow 2 (n : ℝ) = (2 : ℝ) ^ (n : ℝ) from rfl, Real.rpow_intCast]

theorem word_facts : ∀ j : Fin 253, (IntOp.cmpi .eq (W (j.val + 1)) 0#32 = 0#1) ∧ W (j.val + 1) + 8388608#32 = W (j.val + 2)
    ∧ 2130706432#32 - W (j.val + 1) = W (253 - j.val) := by decide +kernel

/-- The two scales, and their inverses, are equal. -/
theorem scale_eq (t : EReal) (h0 : 0 ≤ t) (h1 : t < (((2 : ℝ) ^ (126 : ℤ) : ℝ) : EReal)) :
    Ideal.ofBits .f32 (scaleWord t) = Ideal.exp2 (refExp t)
      ∧ Ideal.ofBits .f32 (2130706432#32 - scaleWord t) = Ideal.exp2 (Ideal.ofBits .f32 0x00000000#32 - refExp t) := by
  induction t with
  | bot => exact absurd h0 (by simp)
  | top => exact absurd h1 (by simp)
  | coe r =>
    have h0 : 0 ≤ r := by exact_mod_cast h0
    have h1 : r < (2 : ℝ) ^ (126 : ℤ) := EReal.coe_lt_coe_iff.1 h1
    rw [zero_bits]
    have e1 : Ideal.exp2 (0 : EReal) = ((1 : ℝ) : EReal) := by
      have := exp2_int 0
      simpa using this
    by_cases hs : r < (2 : ℝ) ^ (-126 : ℤ)
    · obtain ⟨hw, he⟩ := small_case r h0 hs
      have hw' : scaleWord (r : EReal) = 0x3F800000#32 := by
        unfold scaleWord; rw [hw]; decide +kernel
      rw [hw', he, sub_zero, show (2130706432#32 - 0x3F800000#32 : BitVec 32) = 0x3F800000#32 by decide +kernel, one_bits, e1]
      exact ⟨rfl, rfl⟩
    · obtain ⟨n, hl, hu, hw, he⟩ := normal_case r (not_lt.1 hs) h1
      obtain ⟨k, hk⟩ : ∃ k : ℕ, n + 127 = (k : ℤ) + 1 := ⟨(n + 126).toNat, by omega⟩
      obtain ⟨a, b, -⟩ := word_facts ⟨k, by omega⟩
      have hw2 : scaleWord (r : EReal) = W (k + 2) := by
        unfold scaleWord
        rw [hw, hk, show ((k : ℤ) + 1).toNat = k + 1 by omega]
        dsimp only at a b
        rw [a, b]; rfl
      have c : 2130706432#32 - W (k + 1 + 1) = W (253 - (k + 1)) := (word_facts ⟨k + 1, by omega⟩).2.2
      rw [hw2, he, ofBits_W _ (by omega) (by omega), c, ofBits_W _ (by omega) (by omega)]
      have e2 : (((n : ℝ) + 1 : ℝ) : EReal) = (((n + 1 : ℤ) : ℝ) : EReal) := by push_cast; rfl
      have e3 : (0 : EReal) - (((n : ℝ) + 1 : ℝ) : EReal) = (((-(n + 1) : ℤ) : ℝ) : EReal) := by
        rw [zero_sub, ← EReal.coe_neg]; push_cast; rfl
      rw [e3, e2, exp2_int, exp2_int]
      refine ⟨congrArg (fun z : ℤ => (((2 : ℝ) ^ z : ℝ) : EReal)) (by push_cast; omega),
        congrArg (fun z : ℤ => (((2 : ℝ) ^ z : ℝ) : EReal)) (by omega)⟩

end Cert.Value

end
-- ==== Proof.Value.Plain.lean ====
/- The mathematics of the five results, one element at a time: what both programs are shown to compute. -/
module

public import proofs.«01_k».proof.Proof.Value.Scale

@[expose] public section

noncomputable section

namespace Cert.Value

open Idealize.ShloMosaic Idealize.ShloMosaic.ValueIdx

/-! ## One quantisation group -/

/-- The largest magnitude of a group of 128 values. -/
def rowMax (v : Fin 128 → EReal) : EReal :=
  (Finset.univ : Finset (Fin 128)).fold max (Ideal.ofBits .f32 0xFF800000#32) fun l => max (v l) (-(v l))

/-- The largest magnitude over the largest code. -/
def tOf (v : Fin 128 → EReal) : EReal := rowMax v * Ideal.ofBits .f32 0x3B124925#32

/-- The scale of a group: a power of two. -/
def scl (v : Fin 128 → EReal) : EReal := Ideal.exp2 (refExp (tOf v))

/-- The inverse of the scale. -/
def inv (v : Fin 128 → EReal) : EReal := Ideal.exp2 (Ideal.ofBits .f32 0x00000000#32 - refExp (tOf v))

/-- The code of a value. -/
def cde (v : Fin 128 → EReal) (l : Fin 128) : EReal :=
  min (Ideal.ofBits .f32 0x43E00000#32) (max (Ideal.ofBits .f32 0xC3E00000#32) (v l * inv v))

/-- A group of finite values. -/
def Finite (v : Fin 128 → EReal) : Prop := ∀ l, max (v l) (-(v l)) ≤ Ideal.ofBits .f32 0x7F7F0000#32

theorem big_bits : ∃ r : ℝ, Ideal.ofBits .f32 0x7F7F0000#32 = (r : EReal) ∧ 0 ≤ r ∧ r ≤ (2 : ℝ) ^ (128 : ℤ) := by
  have e : Ideal.ofBits .f32 0x7F7F0000#32 = (((16711680 : ℝ) * (2 : ℝ) ^ (104 : ℤ) : ℝ) : EReal) := by
    simp [Ideal.ofBits, Ideal.ieee]
  refine ⟨_, e, by positivity, ?_⟩
  norm_num

theorem frac_bits : ∃ r : ℝ, Ideal.ofBits .f32 0x3B124925#32 = (r : EReal) ∧ 0 ≤ r ∧ r ≤ (2 : ℝ) ^ (-8 : ℤ) := by
  have e : Ideal.ofBits .f32 0x3B124925#32 = (((9586981 : ℝ) * (2 : ℝ) ^ (-32 : ℤ) : ℝ) : EReal) := by
    simp [Ideal.ofBits, Ideal.ieee]
  refine ⟨_, e, by positivity, ?_⟩
  norm_num

theorem bot_bits : Ideal.ofBits .f32 0xFF800000#32 = (⊥ : EReal) := by simp [Ideal.ofBits, Ideal.ieee]

/-- A finite group's largest magnitude over the largest code lies in the range where the two scales agree. -/
theorem tOf_bounds (v : Fin 128 → EReal) (hv : Finite v) : 0 ≤ tOf v ∧ tOf v < (((2 : ℝ) ^ (126 : ℤ) : ℝ) : EReal) := by
  obtain ⟨B, hB, hB0, hB1⟩ := big_bits
  obtain ⟨C, hC, hC0, hC1⟩ := frac_bits
  have h0 : 0 ≤ rowMax v := by
    unfold rowMax
    rw [Finset.le_fold_max]
    refine Or.inr ⟨0, Finset.mem_univ _, ?_⟩
    rcases le_total 0 (v 0) with h | h
    · exact le_max_of_le_left h
    · exact le_max_of_le_right (EReal.neg_nonneg.2 h)
  have h1 : rowMax v ≤ (B : EReal) := by
    unfold rowMax
    rw [Finset.fold_max_le, bot_bits]
    exact ⟨bot_le, fun l _ => hB ▸ hv l⟩
  unfold tOf
  rw [hC]
  refine ⟨mul_nonneg h0 (by exact_mod_cast hC0), ?_⟩
  refine lt_of_le_of_lt (mul_le_mul_of_nonneg_right h1 (by exact_mod_cast hC0)) ?_
  rw [← EReal.coe_mul, EReal.coe_lt_coe_iff]
  calc B * C ≤ (2 : ℝ) ^ (128 : ℤ) * (2 : ℝ) ^ (-8 : ℤ) := mul_le_mul hB1 hC1 hC0 (by positivity)
    _ < (2 : ℝ) ^ (126 : ℤ) := by rw [← zpow_add₀ (by norm_num : (2 : ℝ) ≠ 0)]; exact zpow_lt_zpow_right₀ (by norm_num) (by norm_num)

/-- The word of the kernel's scale reads as the scale, … -/
theorem scaleWord_eq (v : Fin 128 → EReal) (hv : Finite v) : Ideal.ofBits .f32 (scaleWord (tOf v)) = scl v :=
  (scale_eq _ (tOf_bounds v hv).1 (tOf_bounds v hv).2).1

/-- … and the word of its inverse as the inverse. -/
theorem invWord_eq (v : Fin 128 → EReal) (hv : Finite v) : Ideal.ofBits .f32 (2130706432#32 - scaleWord (tOf v)) = inv v :=
  (scale_eq _ (tOf_bounds v hv).1 (tOf_bounds v hv).2).2

/-! ## The results -/

/-- Group `g` of token `(b, s)`. -/
def grp (X : (⟨3, ![2, 1536, 8192]⟩ : Shape).Idx → EReal) (b : Fin 2) (s : Fin 1536) (g : Fin 64) : Fin 128 → EReal :=
  fun l => X (ix3 b s ⟨128 * g.val + l.val, by have := g.isLt; have := l.isLt; omega⟩)

/-- The group of a column. -/
def gOf (col : Fin 8192) : Fin 64 := ⟨col.val / 128, by have := col.isLt; omega⟩
/-- The lane of a column. -/
def lOf (col : Fin 8192) : Fin 128 := ⟨col.val % 128, Nat.mod_lt _ (by omega)⟩

/-- The code of an activation. -/
def cd (X : (⟨3, ![2, 1536, 8192]⟩ : Shape).Idx → EReal) (b : Fin 2) (s : Fin 1536) (col : Fin 8192) : EReal :=
  cde (grp X b s (gOf col)) (lOf col)

/-- An activation quantised and dequantised. -/
def dq (X : (⟨3, ![2, 1536, 8192]⟩ : Shape).Idx → EReal) (b : Fin 2) (s : Fin 1536) (col : Fin 8192) : EReal :=
  cd X b s col * scl (grp X b s (gOf col))

/-- A dequantised weight. -/
def wd (W : (⟨2, ![2112, 8192]⟩ : Shape).Idx → EReal) (S : (⟨2, ![17, 64]⟩ : Shape).Idx → EReal) (n : Fin 2112) (col : Fin 8192) : EReal :=
  W (ix2 n col) * S (ix2 ⟨n.val / 128, by have := n.isLt; omega⟩ (gOf col))

/-- The projection. -/
def hid (X : (⟨3, ![2, 1536, 8192]⟩ : Shape).Idx → EReal) (W : (⟨2, ![2112, 8192]⟩ : Shape).Idx → EReal)
    (S : (⟨2, ![17, 64]⟩ : Shape).Idx → EReal) (b : Fin 2) (s : Fin 1536) (n : Fin 2112) : EReal :=
  ∑ col : Fin 8192, dq X b s col * wd W S n col

/-- A row over the root of its mean square, times a weight. -/
def rms {N : ℕ} (c : EReal) (h : Fin N → EReal) (γ : Fin N → EReal) (j : Fin N) : EReal :=
  h j * Ideal.rsqrt (Ideal.div (∑ k, h k * h k) c + Ideal.ofBits .f32 0x358637BD#32) * γ j

/-- The rotation frequency of pair `i`. -/
def frq (i : Fin 32) : EReal :=
  FloatOps.hostPowf (F := Ideal) (φ := .f32) (Ideal.ofBits .f32 0x461C4000#32)
    (FloatOps.hostDivf (F := Ideal) (φ := .f32)
      (-(Ideal.ofBits .f32 0x00000000#32 + Ideal.ofBits .f32 0x40000000#32 * FloatOps.sitofp (F := Ideal) .f32 (BitVec.ofNat 32 i.val)))
      (Ideal.ofBits .f32 0x42800000#32))

/-- The angle of pair `i` at position `s`. -/
def ang (st : BitVec 32) (s : ℕ) (i : Fin 32) : EReal :=
  (FloatOps.sitofp (F := Ideal) .f32 st + FloatOps.sitofp (F := Ideal) .f32 (BitVec.ofNat 32 s)) * frq i

/-- The first of the pair of lane `j`. -/
def evn (j : Fin 64) : Fin 64 := ⟨2 * (j.val / 2), by have := j.isLt; omega⟩
/-- The second of the pair of lane `j`. -/
def odd (j : Fin 64) : Fin 64 := ⟨2 * (j.val / 2) + 1, by have := j.isLt; omega⟩

/-- Pairs of lanes turned by their angles. -/
def rot (h : Fin 64 → EReal) (a : Fin 32 → EReal) (j : Fin 64) : EReal :=
  if j.val % 2 = 0 then
    h (evn j) * Ideal.cos (a ⟨j.val / 2, by have := j.isLt; omega⟩) - h (odd j) * Ideal.sin (a ⟨j.val / 2, by have := j.isLt; omega⟩)
  else
    h (evn j) * Ideal.sin (a ⟨j.val / 2, by have := j.isLt; omega⟩) + h (odd j) * Ideal.cos (a ⟨j.val / 2, by have := j.isLt; omega⟩)

/-! ## The result arrays -/

section Results
variable (X : (⟨3, ![2, 1536, 8192]⟩ : Shape).Idx → EReal) (W : (⟨2, ![2112, 8192]⟩ : Shape).Idx → EReal)
  (S : (⟨2, ![17, 64]⟩ : Shape).Idx → EReal)

/-- The first normed part of the projection. -/
def resQ (γ : (⟨1, ![1536]⟩ : Shape).Idx → EReal) : (⟨3, ![2, 1536, 1536]⟩ : Shape).Idx → EReal := fun i =>
  rms (N := 1536) (Ideal.ofBits .f32 0x44C00000#32) (fun k => hid X W S (i 0) (i 1) ⟨k.val, by have := k.isLt; omega⟩) (fun k => γ (ix1 k)) (i 2)

/-- The second normed part. -/
def resKv (γ : (⟨1, ![512]⟩ : Shape).Idx → EReal) : (⟨3, ![2, 1536, 512]⟩ : Shape).Idx → EReal := fun i =>
  rms (N := 512) (Ideal.ofBits .f32 0x44000000#32) (fun k => hid X W S (i 0) (i 1) ⟨1536 + k.val, by have := k.isLt; omega⟩) (fun k => γ (ix1 k)) (i 2)

/-- The rotated part. -/
def resPe (st : (⟨1, ![2]⟩ : Shape).Idx → BitVec 32) : (⟨3, ![2, 1536, 64]⟩ : Shape).Idx → EReal := fun i =>
  rot (fun k => hid X W S (i 0) (i 1) ⟨2048 + k.val, by have := k.isLt; omega⟩) (ang (st (ix1 (i 0))) (i 1).val) (i 2)

/-- The codes. -/
def resCd : (⟨3, ![2, 1536, 8192]⟩ : Shape).Idx → EReal := fun i => cd X (i 0) (i 1) (i 2)

/-- The scales. -/
def resSc : (⟨3, ![2, 1536, 64]⟩ : Shape).Idx → EReal := fun i => scl (grp X (i 0) (i 1) (i 2))

end Results

end Cert.Value

end
-- ==== Proof.Value.Read.lean ====
/- Layout operations and reductions of two-dimensional vectors read at an index. -/
module

public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.Value

open Idealize.ShloMosaic Idealize.ShloMosaic.ValueIdx

section At
variable {s : Shape} {φ ψ : FTy} (j : s.Idx)

theorem mul_at (x y : FVec Ideal s φ) : (mulf x y j : EReal) = (x j : EReal) * (y j : EReal) := rfl
theorem ext_at (x : FVec Ideal s φ) (h : φ.bits < ψ.bits) : (extf ψ x h j : EReal) = x j := rfl
theorem trunc_at (x : FVec Ideal s φ) (h : ψ.bits < φ.bits) : (truncf ψ x h j : EReal) = x j := rfl
theorem abs_at (x : FVec Ideal s φ) : (absf x j : EReal) = max (x j : EReal) (-(x j : EReal)) := rfl
theorem exp2_at (x : FVec Ideal s .f32) : (exp2 x j : EReal) = Ideal.exp2 (x j) := rfl
theorem inv_at (x : FVec Ideal s .f32) :
    (exp2 (subf (broadcast s (Scalar.ofBits .f32 0x00000000#32)) x) j : EReal) = Ideal.exp2 (Ideal.ofBits .f32 0x00000000#32 - (x j : EReal)) := rfl
/-- A clipped product. -/
theorem code_at (x y : FVec Ideal s .f32) :
    (minimumf (broadcast s (Scalar.ofBits .f32 0x43E00000#32)) (maximumf (broadcast s (Scalar.ofBits .f32 0xC3E00000#32)) (mulf x y)) j : EReal)
      = min (Ideal.ofBits .f32 0x43E00000#32) (max (Ideal.ofBits .f32 0xC3E00000#32) ((x j : EReal) * (y j : EReal))) := rfl

/-- The root of a mean square. -/
theorem root_at (x : FVec Ideal s .f32) (c : BitVec 32) :
    (rsqrt (addf (divf x (broadcast s (Scalar.ofBits .f32 c))) (broadcast s (Scalar.ofBits .f32 0x358637BD#32))) j : EReal)
      = Ideal.rsqrt (Ideal.div (x j) (Ideal.ofBits .f32 c) + Ideal.ofBits .f32 0x358637BD#32) := rfl
theorem cos_at (x : FVec Ideal s .f32) : (cos x j : EReal) = Ideal.cos (x j) := rfl
theorem sin_at (x : FVec Ideal s .f32) : (sin x j : EReal) = Ideal.sin (x j) := rfl
theorem add_at (x y : FVec Ideal s φ) : (addf x y j : EReal) = (x j : EReal) + (y j : EReal) := rfl
theorem sub_at (x y : FVec Ideal s φ) : (subf x y j : EReal) = (x j : EReal) - (y j : EReal) := rfl

end At

/-- A column broadcast along the lanes. -/
theorem bc_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p 0) fun ax => ?_
  match ax with
  | ⟨0, _⟩ =>
    show p.val = if a = 1 then 0 else p.val
    split
    · have := p.isLt; omega
    · rfl
  | ⟨1, _⟩ => rfl

/-- The index over row `r` at lane `k`. -/
theorem lift2 {a b : ℕ} (h : (⟨2, ![a, b]⟩ : Shape).Reduces [1] ⟨1, ![a]⟩) (r : Fin a) (k : Fin b) : h.lift (ix1 r) k = ix2 r k := by
  funext c
  match c with
  | ⟨0, _⟩ => exact Fin.ext rfl
  | ⟨1, _⟩ => exact Fin.ext rfl

/-- A row's maximum. -/
theorem max_row {a b : ℕ} (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) fun k => src (ix2 r k) := by
  rw [Ideal.multiReduction_maximumf_single]
  refine congrArg (fun f => (Finset.univ : Finset (Fin b)).fold max (Ideal.ofBits .f32 acc) f) (funext fun k => ?_)
  exact congrArg src (lift2 h r k)

/-- A row's sum. -/
theorem add_row {a b : ℕ} (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    (multiReduction .add [1] ⟨1, ![a]⟩ src acc h hφ hacc (ix1 r) : EReal) = ∑ k : Fin b, (src (ix2 r k) : EReal) := by
  rw [Ideal.multiReduction_add_single]
  exact Finset.sum_congr rfl fun k _ => congrArg src (lift2 h r k)

/-- A row's largest integer. -/
theorem maxi_row {a b : ℕ} (src : IVec ⟨2, ![a, b]⟩ 32) (acc : BitVec 32) (h : (⟨2, ![a, b]⟩ : Shape).Reduces [1] ⟨1, ![a]⟩)
    (hacc : acc = IKind.maxsi.neutral) (r : Fin a) :
    multiReductionI .maxsi [1] ⟨1, ![a]⟩ src acc h hacc (ix1 r)
      = (Finset.univ : Finset (Fin b)).fold IKind.maxsi.op acc fun k => src (ix2 r k) := by
  rw [multiReductionI_eq_fold, h.fold_filter_drop_single]
  refine congrArg (fun f => (Finset.univ : Finset (Fin b)).fold IKind.maxsi.op acc f) (funext fun k => ?_)
  exact congrArg src (lift2 h r k)

/-- A sum along the last of three axes. -/
theorem add_last3 {a b n : ℕ} (src : FVec Ideal ⟨3, ![a, b, n]⟩ .f32) (acc : BitVec 32)
    (h : (⟨3, ![a, b, n]⟩ : Shape).Reduces [2] ⟨2, ![a, b]⟩)
    (hφ : FKind.Formats .f32) (hacc : acc = FKind.add.neutral .f32 hφ) (p : Fin a) (q : Fin b) :
    (multiReduction .add [2] ⟨2, ![a, b]⟩ src acc h hφ hacc (ix2 p q) : EReal) = ∑ k : Fin n, (src (ix3 p q k) : EReal) := by
  rw [Ideal.multiReduction_add_single]
  refine Finset.sum_congr rfl fun k _ => congrArg src (funext fun c => ?_)
  match c with
  | ⟨0, _⟩ => exact Fin.ext rfl
  | ⟨1, _⟩ => exact Fin.ext rfl
  | ⟨2, _⟩ => exact Fin.ext rfl

/-- A maximum along the last of four axes. -/
theorem max_last4 {a b g n : ℕ} (src : FVec Ideal ⟨4, ![a, b, g, n]⟩ .f32) (acc : BitVec 32)
    (h : (⟨4, ![a, b, g, n]⟩ : Shape).Reduces [3] ⟨3, ![a, b, g]⟩)
    (hφ : FKind.Formats .f32) (hacc : acc = FKind.maximumf.neutral .f32 hφ) (p : Fin a) (q : Fin b) (r : Fin g) :
    multiReduction .maximumf [3] ⟨3, ![a, b, g]⟩ src acc h hφ hacc (ix3 p q r)
      = (Finset.univ : Finset (Fin n)).fold max (Ideal.ofBits .f32 acc) fun k => src (ix4 p q r k) := by
  rw [Ideal.multiReduction_maximumf_single]
  refine congrArg (fun f => (Finset.univ : Finset (Fin n)).fold max (Ideal.ofBits .f32 acc) f) (funext fun k => congrArg src (funext fun c => ?_))
  match c with
  | ⟨0, _⟩ => exact Fin.ext rfl
  | ⟨1, _⟩ => exact Fin.ext rfl
  | ⟨2, _⟩ => exact Fin.ext rfl
  | ⟨3, _⟩ => exact Fin.ext rfl

end Cert.Value

end
-- ==== Proof.Value.Norm.lean ====
/- The root-mean-square norm of the vectors' last axis, at any extents. -/
module

public import proofs.«01_k».proof.Proof.Value.Plain
public import proofs.«01_k».proof.Proof.Value.Read

@[expose] public section

noncomputable section

namespace Cert.Value

open Idealize.ShloMosaic Idealize.ShloMosaic.ValueIdx

/-- Two axes: the norm of row `r` at lane `j`. -/
theorem rms2 {a N : ℕ} (v : FVec Ideal ⟨2, ![a, N]⟩ .f32) (γ : FVec Ideal ⟨2, ![1, N]⟩ .f32) (c : BitVec 32)
    (hr : (⟨2, ![a, N]⟩ : Shape).Reduces [1] ⟨1, ![a]⟩) (hc : (⟨1, ![a]⟩ : Shape).ShapeCasts ⟨2, ![a, 1]⟩)
    (hb : (⟨2, ![a, 1]⟩ : Shape).Broadcasts ⟨2, ![a, N]⟩) (hg : (⟨2, ![1, N]⟩ : Shape).Broadcasts ⟨2, ![a, N]⟩)
    (hφ : FKind.Formats .f32) (hacc : 0x00000000#32 = FKind.add.neutral .f32 hφ) (r : Fin a) (j : Fin N) :
    (mulf (mulf v (broadcastTo ⟨2, ![a, N]⟩ (rsqrt (addf (divf (shapeCast ⟨2, ![a, 1]⟩
        (multiReduction .add [1] ⟨1, ![a]⟩ (mulf v v) 0x00000000#32 hr hφ hacc) hc) (broadcast ⟨2, ![a, 1]⟩ (Scalar.ofBits .f32 c)))
        (broadcast ⟨2, ![a, 1]⟩ (Scalar.ofBits .f32 0x358637BD#32)))) hb)) (broadcastTo ⟨2, ![a, N]⟩ γ hg) (ix2 r j) : EReal)
      = rms (Ideal.ofBits .f32 c) (fun k => (v (ix2 r k) : EReal)) (fun k => (γ (ix2 0 k) : EReal)) j := by
  rw [mul_at, mul_at, bc_col, broadcastTo_1b_ab_apply, root_at, shapeCast_a_a1_apply, add_row]
  rfl

/-- Three axes: the norm of row `(p, q)` at lane `j`. -/
theorem rms3 {a b N : ℕ} (v : FVec Ideal ⟨3, ![a, b, N]⟩ .f32) (γ : FVec Ideal ⟨1, ![N]⟩ .f32) (c : BitVec 32)
    (hr : (⟨3, ![a, b, N]⟩ : Shape).Reduces [2] ⟨2, ![a, b]⟩) (hc : (⟨2, ![a, b]⟩ : Shape).ShapeCasts ⟨3, ![a, b, 1]⟩)
    (hb : (⟨3, ![a, b, 1]⟩ : Shape).Broadcasts ⟨3, ![a, b, N]⟩) (hs : (⟨1, ![N]⟩ : Shape).ShapeCasts ⟨3, ![1, 1, N]⟩)
    (hg : (⟨3, ![1, 1, N]⟩ : Shape).Broadcasts ⟨3, ![a, b, N]⟩)
    (hφ : FKind.Formats .f32) (hacc : 0x00000000#32 = FKind.add.neutral .f32 hφ) (p : Fin a) (q : Fin b) (j : Fin N) :
    (mulf (mulf v (broadcastTo ⟨3, ![a, b, N]⟩ (rsqrt (addf (divf (shapeCast ⟨3, ![a, b, 1]⟩
        (multiReduction .add [2] ⟨2, ![a, b]⟩ (mulf v v) 0x00000000#32 hr hφ hacc) hc) (broadcast ⟨3, ![a, b, 1]⟩ (Scalar.ofBits .f32 c)))
        (broadcast ⟨3, ![a, b, 1]⟩ (Scalar.ofBits .f32 0x358637BD#32)))) hb)) (broadcastTo ⟨3, ![a, b, N]⟩ (shapeCast ⟨3, ![1, 1, N]⟩ γ hs) hg) (ix3 p q j) : EReal)
      = rms (Ideal.ofBits .f32 c) (fun k => (v (ix3 p q k) : EReal)) (fun k => (γ (ix1 k) : EReal)) j := by
  have e1 : ∀ (x : FVec Ideal ⟨3, ![a, b, 1]⟩ .f32), broadcastTo ⟨3, ![a, b, N]⟩ x hb (ix3 p q j) = x (ix3 p q 0) := fun x =>
    broadcastTo_apply x hb (ix3 p q j) (ix3 p q 0) fun ax => by
      match ax with
      | ⟨0, _⟩ =>
        show p.val = if a = 1 then 0 else p.val
        split
        · have := p.isLt; omega
        · rfl
      | ⟨1, _⟩ =>
        show q.val = if b = 1 then 0 else q.val
        split
        · have := q.isLt; omega
        · rfl
      | ⟨2, _⟩ => rfl
  have e2 : broadcastTo ⟨3, ![a, b, N]⟩ (shapeCast ⟨3, ![1, 1, N]⟩ γ hs) hg (ix3 p q j) = γ (ix1 j) := by
    refine (broadcastTo_apply _ hg (ix3 p q j) (ix3 0 0 j) fun ax => ?_).trans (shapeCast_apply γ hs (ix3 0 0 j) (ix1 j) ?_)
    · match ax with
      | ⟨0, _⟩ => rfl
      | ⟨1, _⟩ => rfl
      | ⟨2, _⟩ =>
        show j.val = if N = 1 then 0 else j.val
        split
        · have := j.isLt; omega
        · rfl
    · rw [Shape.rowMajor_val_three, Shape.rowMajor_val_one]
      show j.val = (0 * 1 + 0) * N + j.val
      omega
  rw [mul_at, mul_at, e1, e2, root_at,
    shapeCast_apply _ hc (ix3 p q 0) (ix2 p q) (by
      rw [Shape.rowMajor_val_three, Shape.rowMajor_val_two]
      show p.val * b + q.val = (p.val * b + q.val) * 1 + 0
      omega), add_last3]
  rfl

end Cert.Value

end
-- ==== Proof.Value.KRes.lean ====
/- The kernel's product, normed and rotated blocks at an index. -/
module

public import proofs.«01_k».proof.Proof.KernelIdeal.Values
public import proofs.«01_k».proof.Proof.Value.Norm
public import Idealize.ShloMosaic.Lib.KernelVsHost

@[expose] public section

set_option maxRecDepth 16384

noncomputable section

namespace Cert.Value.K

open Cert.KernelIdeal Cert.KernelIdeal.Gen Cert.KernelIdeal.Run
open Idealize.ShloMosaic Idealize.ShloMosaic.ValueIdx

/-- One step of the accumulator. -/
theorem pay1_apply (acc : Vec Ideal S512x2176 .f32) (x : Vec Ideal S512x1024 .bf16) (w : Vec Ideal S1x2176x1024 .bf16) (r : Fin 512) (n : Fin 2176) :
    (k0_pay1 acc x w (ix2 r n) : EReal) = (acc (ix2 r n) : EReal) + ∑ k : Fin 1024, (x (ix2 r k) : EReal) * (w (ix3 0 n k) : EReal) := by
  have hr : dot_S512x1024_S2176x1024_S512x2176_1_1_0_0_n_n.contr.rank = 1 := rfl
  have hs : dot_S512x1024_S2176x1024_S512x2176_1_1_0_0_n_n.contr.size ⟨0, by omega⟩ = 1024 := rfl
  unfold k0_pay1
  refine (congrFun (shapeCast_self _ _) (ix2 r n)).trans ((add_at _ _ _).trans (congrArg (fun q : EReal => (acc (ix2 r n) : EReal) + q) ?_))
  refine (Ideal.matmul_constant_zero_apply _ none _ _ _).trans ?_
  rw [← Equiv.sum_comp (contrEquiv1 _ 1024 hr hs).symm]
  refine Finset.sum_congr rfl fun k _ => ?_
  have hk := contrEquiv1_symm_val _ 1024 hr hs k
  have el : dot_S512x1024_S2176x1024_S512x2176_1_1_0_0_n_n.lhsIdx (ix2 r n) ((contrEquiv1 _ 1024 hr hs).symm k) = ix2 r k := by
    funext a; apply Fin.ext
    match a with
    | ⟨0, _⟩ => rfl
    | ⟨1, _⟩ => exact hk
  have er : dot_S512x1024_S2176x1024_S512x2176_1_1_0_0_n_n.rhsIdx (ix2 r n) ((contrEquiv1 _ 1024 hr hs).symm k) = ix2 n k := by
    funext a; apply Fin.ext
    match a with
    | ⟨0, _⟩ => rfl
    | ⟨1, _⟩ => exact hk
  rw [el, er, shapeCast_1ab_ab_apply]

/-- The first normed block. -/
theorem q_apply (acc : Vec Ideal S512x2176 .f32) (γ : Vec Ideal S1x1536 .bf16) (r : Fin 512) (j : Fin 1536) :
    (qBlk acc γ (ix2 r j) : EReal)
      = rms (Ideal.ofBits .f32 0x44C00000#32) (fun k : Fin 1536 => (acc (ix2 r ⟨k.val, by have := k.isLt; omega⟩) : EReal)) (fun k => (γ (ix2 0 k) : EReal)) j := by
  unfold qBlk k0_pay18
  refine (trunc_at (φ := .f32) (ψ := .bf16) _ _ bitsLt_bf16_f32).trans
    ((rms2 _ (extf (F := Ideal) (φ := .bf16) .f32 (shapeCast S1x1536 γ shapeCasts_S1x1536_S1x1536) bitsLt_bf16_f32) _ _ _ _ _ _ _ r j).trans ?_)
  refine congrArg₂ (fun h g => rms _ h g j) (funext fun k => ?_) (funext fun k => (ext_at (φ := .bf16) (ψ := .f32) _ _ bitsLt_bf16_f32).trans (congrFun (shapeCast_self γ _) _))
  exact congrArg acc (congrArg (ix2 r) (Fin.ext (Nat.zero_add _)))

/-- The second normed block. -/
theorem kv_apply (acc : Vec Ideal S512x2176 .f32) (γ : Vec Ideal S1x512 .bf16) (r : Fin 512) (j : Fin 512) :
    (kvBlk acc γ (ix2 r j) : EReal)
      = rms (Ideal.ofBits .f32 0x44000000#32) (fun k : Fin 512 => (acc (ix2 r ⟨1536 + k.val, by have := k.isLt; omega⟩) : EReal)) (fun k => (γ (ix2 0 k) : EReal)) j := by
  unfold kvBlk k0_pay19
  refine (trunc_at (φ := .f32) (ψ := .bf16) _ _ bitsLt_bf16_f32).trans
    ((rms2 _ (extf (F := Ideal) (φ := .bf16) .f32 (shapeCast S1x512 γ shapeCasts_S1x512_S1x512) bitsLt_bf16_f32) _ _ _ _ _ _ _ r j).trans ?_)
  exact congrArg₂ (fun h g => rms _ h g j) rfl (funext fun k => (ext_at (φ := .bf16) (ψ := .f32) _ _ bitsLt_bf16_f32).trans (congrFun (shapeCast_self γ _) _))

/-- The position word of block `m`. -/
theorem pos_word (m : Fin 6) :
    (let v484 : BitVec 32 := Scalar.select (Scalar.cmpi .eq 3#32 0#32) 1#32 3#32
     let v485 : BitVec 32 := Scalar.remsi (BitVec.ofNat 32 m.val) v484
     Scalar.muli (Scalar.select (Scalar.andi (Scalar.xori (Scalar.cmpi .slt v485 0#32) (Scalar.cmpi .slt v484 0#32)) (Scalar.cmpi .ne v485 0#32))
       (Scalar.addi v485 v484) v485) 512#32) = BitVec.ofNat 32 (m.val % 3 * 512) := by
  revert m; decide +kernel

/-- The angle of lane `j` in row `r` of block `m`. -/
theorem ang_apply (m : Fin 6) (st : Elt Ideal .i32) (fr : Vec Ideal S1x128 .f32) (r : Fin 512) (j : Fin 128) :
    (k0_pay20 (BitVec.ofNat 32 m.val) st fr (ix2 r j) : EReal)
      = (FloatOps.sitofp (F := Ideal) .f32 st + FloatOps.sitofp (F := Ideal) .f32 (BitVec.ofNat 32 (m.val % 3 * 512 + r.val))) * (fr (ix2 0 j) : EReal) := by
  have hw : addi (iota .tc S512x128 32 [0] iota_S512x128_d0_w32) (broadcast S512x128 (BitVec.ofNat 32 (m.val % 3 * 512))) (ix2 r j)
      = BitVec.ofNat 32 (m.val % 3 * 512 + r.val) := by
    show iota .tc S512x128 32 [0] iota_S512x128_d0_w32 (ix2 r j) + BitVec.ofNat 32 (m.val % 3 * 512) = _
    rw [iota_single_apply, Nat.add_comm (m.val % 3 * 512), BitVec.ofNat_add]
  unfold k0_pay20
  refine (mul_at _ _ _).trans ?_
  rw [broadcastTo_1b_ab_apply, shapeCast_self, add_at, sitofp_apply, ← hw, ← pos_word m]
  rfl

/-- Whether a lane is even, as the kernel finds it. -/
def evenBit (w : BitVec 32) : BitVec 1 :=
  let d : BitVec 32 := Scalar.select (Scalar.cmpi .eq 2#32 0#32) 1#32 2#32
  let r : BitVec 32 := IntOp.remsi .vector w d
  IntOp.cmpi .eq (Scalar.select (IntOp.andi (IntOp.xori (IntOp.cmpi .slt r 0#32) (Scalar.cmpi .slt d 0#32)) (IntOp.cmpi .ne r 0#32)) (IntOp.addi r d) r) 0#32

theorem evenBit_eq : ∀ j : Fin 128, evenBit (BitVec.ofNat 32 j.val) = if j.val % 2 = 0 then 1#1 else 0#1 := by decide +kernel

/-- The lane after a lane. -/
theorem next_apply (v : Vec Ideal S512x128 .f32) (r : Fin 512) (j k : Fin 128) (hk : k.val = j.val + 1) :
    dynamicRotate 1 127#32 none v rotates_S512x128_d1 (ix2 r j) = v (ix2 r k) := by
  refine dynamicRotate_apply 1 127#32 v rotates_S512x128_d1 (ix2 r j) (ix2 r k) fun c => ?_
  have := k.isLt
  match c with
  | ⟨0, _⟩ => rfl
  | ⟨1, _⟩ =>
    show k.val = (j.val + 128 - 127 % 128) % 128
    omega

/-- The lane before a lane. -/
theorem prev_apply (v : Vec Ideal S512x128 .f32) (r : Fin 512) (j k : Fin 128) (hk : k.val + 1 = j.val) :
    dynamicRotate 1 1#32 none v rotates_S512x128_d1 (ix2 r j) = v (ix2 r k) := by
  refine dynamicRotate_apply 1 1#32 v rotates_S512x128_d1 (ix2 r j) (ix2 r k) fun c => ?_
  have := j.isLt
  match c with
  | ⟨0, _⟩ => rfl
  | ⟨1, _⟩ =>
    show k.val = (j.val + 128 - 1 % 128) % 128
    omega

/-- The rotation of a lane by its neighbour, before the choice of the neighbour is known. -/
theorem turn_at {s : Shape} (p q v A : FVec Ideal s .f32) (c : IVec s 1) (j : s.Idx) :
    (addf (mulf v (cos A)) (mulf (select c (subf (broadcast s (Scalar.ofBits .f32 0x00000000#32)) p) q) (sin A)) j : EReal)
      = (v j : EReal) * Ideal.cos (A j) + Scalar.select (c j) (Ideal.ofBits .f32 0x00000000#32 - (p j : EReal)) (q j : EReal) * Ideal.sin (A j) := rfl

/-- A rotated lane. -/
theorem pay2_apply (A v : Vec Ideal S512x128 .f32) (a : Fin 32 → EReal) (r : Fin 512) (j : Fin 64)
    (hA : (A (ix2 r ⟨j.val, by have := j.isLt; omega⟩) : EReal) = a ⟨j.val / 2, by have := j.isLt; omega⟩) :
    (k0_pay2 (iota .tc S512x128 32 [1] iota_S512x128_d1_w32) A v (ix2 r j) : EReal)
      = rot (fun k : Fin 64 => (v (ix2 r ⟨k.val, by have := k.isLt; omega⟩) : EReal)) a j := by
  have hj := j.isLt
  have hbit : evenBit (iota .tc S512x128 32 [1] iota_S512x128_d1_w32 (ix2 r ⟨j.val, by omega⟩)) = if j.val % 2 = 0 then 1#1 else 0#1 := by
    rw [iota_single_apply]
    exact evenBit_eq ⟨j.val, by omega⟩
  unfold k0_pay2
  refine (trunc_at (φ := .f32) (ψ := .bf16) _ _ bitsLt_bf16_f32).trans ?_
  refine (extractStridedSlice_apply ![0, 0] _ slices_S512x128_o0_0_S512x64 (ix2 r j) (ix2 r (⟨j.val, by omega⟩ : Fin 128)) (fun c => by
    match c with
    | ⟨0, _⟩ => exact (Nat.zero_add _).symm
    | ⟨1, _⟩ => exact (Nat.zero_add _).symm)).trans ?_
  refine (turn_at _ _ v A _ _).trans ?_
  refine (congrArg (fun c : BitVec 1 => (v (ix2 r ⟨j.val, by omega⟩) : EReal) * Ideal.cos (A (ix2 r ⟨j.val, by omega⟩))
    + Scalar.select c (Ideal.ofBits .f32 0x00000000#32 - (dynamicRotate 1 127#32 none v rotates_S512x128_d1 (ix2 r ⟨j.val, by omega⟩) : EReal))
      (dynamicRotate 1 1#32 none v rotates_S512x128_d1 (ix2 r ⟨j.val, by omega⟩) : EReal) * Ideal.sin (A (ix2 r ⟨j.val, by omega⟩))) hbit).trans ?_
  rw [hA]
  unfold rot
  by_cases hp : j.val % 2 = 0
  · rw [if_pos hp, if_pos hp, select_one, next_apply v r ⟨j.val, by omega⟩ ⟨j.val + 1, by omega⟩ rfl, zero_bits, sub_eq_add_neg, zero_add, EReal.neg_mul, ← sub_eq_add_neg]
    have e0 : (⟨j.val, by omega⟩ : Fin 128) = ⟨(evn j).val, by have := (evn j).isLt; omega⟩ := Fin.ext (by show j.val = 2 * (j.val / 2); omega)
    have e1 : (⟨j.val + 1, by omega⟩ : Fin 128) = ⟨(odd j).val, by have := (odd j).isLt; omega⟩ := Fin.ext (by show j.val + 1 = 2 * (j.val / 2) + 1; omega)
    rw [e0, e1]
  · rw [if_neg hp, if_neg hp, select_zero, prev_apply v r ⟨j.val, by omega⟩ ⟨j.val - 1, by omega⟩ (by show j.val - 1 + 1 = j.val; omega), add_comm]
    have e0 : (⟨j.val - 1, by omega⟩ : Fin 128) = ⟨(evn j).val, by have := (evn j).isLt; omega⟩ := Fin.ext (by show j.val - 1 = 2 * (j.val / 2); omega)
    have e1 : (⟨j.val, by omega⟩ : Fin 128) = ⟨(odd j).val, by have := (odd j).isLt; omega⟩ := Fin.ext (by show j.val = 2 * (j.val / 2) + 1; omega)
    rw [e0, e1]

/-- The rotated block. -/
theorem pe_apply (m : Fin 6) (acc : Vec Ideal S512x2176 .f32) (st : Vec Ideal S2 .i32) (fr : Vec Ideal S1x128 .f32) (r : Fin 512) (j : Fin 64)
    (hf : ∀ i : Fin 64, (fr (ix2 0 ⟨i.val, by have := i.isLt; omega⟩) : EReal) = frq ⟨i.val / 2, by have := i.isLt; omega⟩) :
    (peBlk m acc st fr (ix2 r j) : EReal)
      = rot (fun k : Fin 64 => (acc (ix2 r ⟨2048 + k.val, by have := k.isLt; omega⟩) : EReal)) (ang (startOf m st) (m.val % 3 * 512 + r.val)) j := by
  unfold peBlk
  refine (pay2_apply _ (colsOf 2048 128 _ acc) (ang (startOf m st) (m.val % 3 * 512 + r.val)) r j ?_).trans rfl
  rw [ang_apply, hf]
  rfl

end Cert.Value.K

end
-- ==== Proof.Value.KHost.lean ====
/- What the host hands the kernel, and the kernel's blocks of it, in terms of the arguments. -/
module

public import proofs.«01_k».proof.Proof.KernelIdeal.Body
public import proofs.«01_k».proof.Proof.Value.KRes
public import Idealize.ShloMosaic.Lib.Pipeline.ValueKit.Geometry

@[expose] public section

set_option maxRecDepth 16384

noncomputable section

namespace Cert.Value.K

open Cert.KernelIdeal Cert.KernelIdeal.Gen Cert.KernelIdeal.Run
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-- Device `c`'s arguments. -/
abbrev aX : Vec Ideal S2x1536x8192 .bf16 := m ((c : Thread nD τ).loc main_arg0)
abbrev aW : Vec Ideal S2112x8192 .fp8e4m3 := m ((c : Thread nD τ).loc main_arg1)
abbrev aS : Vec Ideal S17x64 .f32 := m ((c : Thread nD τ).loc main_arg2)
abbrev aQ : Vec Ideal S1536 .bf16 := m ((c : Thread nD τ).loc main_arg3)
abbrev aKv : Vec Ideal S512 .bf16 := m ((c : Thread nD τ).loc main_arg4)
abbrev aSt : Vec Ideal S2 .i32 := m ((c : Thread nD τ).loc main_arg5)

/-- Token `n`'s batch and place. -/
def bOf (n : Fin 3072) : Fin 2 := ⟨n.val / 1536, by have := n.isLt; omega⟩
def sOf (n : Fin 3072) : Fin 1536 := ⟨n.val % 1536, Nat.mod_lt _ (by omega)⟩

theorem host_arg1 : V m c main_arg1 = aW m c := by
  dsimp only [V, V0, hostOps0, hostOps0_1, hostOps0_2, List.flatten_cons, List.flatten_nil, List.append_nil, List.cons_append, List.nil_append]
  after_results
theorem host_arg5 : V m c main_arg5 = aSt m c := by
  dsimp only [V, V0, hostOps0, hostOps0_1, hostOps0_2, List.flatten_cons, List.flatten_nil, List.append_nil, List.cons_append, List.nil_append]
  after_results

theorem host_x (n : Fin 3072) (col : Fin 8192) : (V m c main_v19 (ix2 n col) : EReal) = aX m c (ix3 (bOf n) (sOf n) col) := by
  have e : V m c main_v19 = shapeCast S3072x8192 (aX m c) shapeCasts_S2x1536x8192_S3072x8192 := by
    dsimp only [V, V0, hostOps0, hostOps0_1, hostOps0_2, List.flatten_cons, List.flatten_nil, List.append_nil, List.cons_append, List.nil_append]
    after_results
    rfl
  rw [e]
  refine shapeCast_apply _ shapeCasts_S2x1536x8192_S3072x8192 (ix2 n col) (ix3 (bOf n) (sOf n) col) ?_
  rw [Shape.rowMajor_val_three, Shape.rowMajor_val_two]
  show (n.val / 1536 * 1536 + n.val % 1536) * 8192 + col.val = n.val * 8192 + col.val
  omega

theorem host_q (j : Fin 1536) : (V m c main_v20 (ix2 0 j) : EReal) = aQ m c (ix1 j) := by
  have e : V m c main_v20 = shapeCast S1x1536 (aQ m c) shapeCasts_S1536_S1x1536 := by
    dsimp only [V, V0, hostOps0, hostOps0_1, hostOps0_2, List.flatten_cons, List.flatten_nil, List.append_nil, List.cons_append, List.nil_append]
    after_results
    rfl
  rw [e]
  exact shapeCast_a_1a_apply _ _ _ _

theorem host_kv (j : Fin 512) : (V m c main_v21 (ix2 0 j) : EReal) = aKv m c (ix1 j) := by
  have e : V m c main_v21 = shapeCast S1x512 (aKv m c) shapeCasts_S512_S1x512 := by
    dsimp only [V, V0, hostOps0, hostOps0_1, hostOps0_2, List.flatten_cons, List.flatten_nil, List.append_nil, List.cons_append, List.nil_append]
    after_results
    rfl
  rw [e]
  exact shapeCast_a_1a_apply _ _ _ _

theorem host_s (k : Fin 8) (n : Fin 2112) (g : Fin 8) :
    (V m c main_v18 (ix3 k n g) : EReal) = aS m c (ix2 ⟨n.val / 128, by have := n.isLt; omega⟩ ⟨8 * k.val + g.val, by have := k.isLt; have := g.isLt; omega⟩) := by
  have hn := n.isLt
  have hk := k.isLt
  have hg := g.isLt
  have e : V m c main_v18 = transpose S8x2112x8 [1, 0, 2] (shapeCast S2112x8x8 (extractStridedSlice S2112x64 ![0, 0]
      (shapeCast S2176x64 (broadcastInDim S17x128x64 ![0, 2] bcast_S17x64_S17x128x64_0_2 (aS m c)) shapeCasts_S17x128x64_S2176x64)
      slices_S2176x64_S2112x64_0_0) shapeCasts_S2112x64_S2112x8x8) transposes_S2112x8x8_S8x2112x8_1_0_2 := by
    dsimp only [V, V0, hostOps0, hostOps0_1, hostOps0_2, List.flatten_cons, List.flatten_nil, List.append_nil, List.cons_append, List.nil_append]
    after_results
    rfl
  rw [e]
  refine (transpose_apply [1, 0, 2] _ transposes_S2112x8x8_S8x2112x8_1_0_2 (ix3 k n g) (ix3 n k g) fun b => ?_).trans ?_
  · match b with
    | ⟨0, _⟩ => rfl
    | ⟨1, _⟩ => rfl
    | ⟨2, _⟩ => rfl
  refine (shapeCast_apply _ shapeCasts_S2112x64_S2112x8x8 (ix3 n k g) (ix2 n (⟨8 * k.val + g.val, by omega⟩ : Fin 64)) ?_).trans ?_
  · rw [Shape.rowMajor_val_three, Shape.rowMajor_val_two]
    show n.val * 64 + (8 * k.val + g.val) = (n.val * 8 + k.val) * 8 + g.val
    omega
  refine (extractStridedSlice_apply ![0, 0] _ slices_S2176x64_S2112x64_0_0 (ix2 n (⟨8 * k.val + g.val, by omega⟩ : Fin 64))
    (ix2 (⟨n.val, by omega⟩ : Fin 2176) (⟨8 * k.val + g.val, by omega⟩ : Fin 64)) fun a => ?_).trans ?_
  · match a with
    | ⟨0, _⟩ => exact (Nat.zero_add _).symm
    | ⟨1, _⟩ => exact (Nat.zero_add _).symm
  refine (shapeCast_apply _ shapeCasts_S17x128x64_S2176x64 (ix2 (⟨n.val, by omega⟩ : Fin 2176) (⟨8 * k.val + g.val, by omega⟩ : Fin 64))
    (ix3 (⟨n.val / 128, by omega⟩ : Fin 17) (⟨n.val % 128, by omega⟩ : Fin 128) (⟨8 * k.val + g.val, by omega⟩ : Fin 64)) ?_).trans ?_
  · rw [Shape.rowMajor_val_three, Shape.rowMajor_val_two]
    show (n.val / 128 * 128 + n.val % 128) * 64 + (8 * k.val + g.val) = n.val * 64 + (8 * k.val + g.val)
    omega
  exact broadcastInDim_apply _ bcast_S17x64_S17x128x64_0_2 (aS m c) _ _ fun a => by
    match a with
    | ⟨0, _⟩ => rfl
    | ⟨1, _⟩ => rfl

theorem host_f (j : Fin 64) : (V m c main_v13 (ix2 0 ⟨j.val, by have := j.isLt; omega⟩) : EReal) = frq ⟨j.val / 2, by have := j.isLt; omega⟩ := by
  have hj := j.isLt
  have e : V m c main_v13 = shapeCast S1x128 (pad S128 ![0] ![64] ![0] (shapeCast S64 (broadcastInDim S32x2 ![0] bcast_S32_S32x2_0
        (Host.powf (F := Ideal) (φ := .f32) (broadcastInDim S32 ![] bcast_S_S32 (constant S_ .f32 0x461C4000#32))
          (Host.divf (Host.negf (addf (broadcastInDim S32 ![] bcast_S_S32 (constant S_ .f32 0x00000000#32))
            (mulf (broadcastInDim S32 ![] bcast_S_S32 (constant S_ .f32 0x40000000#32)) (sitofp .f32 (iotaInDim S32 32 0)))))
            (broadcastInDim S32 ![] bcast_S_S32 (constant S_ .f32 0x42800000#32))))) shapeCasts_S32x2_S64)
      (sitofp (F := Ideal) .f32 (constantI S_ 32 0#32)) pads_S64_S128_0640 h_S_) shapeCasts_S128_S1x128 := by
    dsimp only [V, V0, hostOps0, hostOps0_1, hostOps0_2, List.flatten_cons, List.flatten_nil, List.append_nil, List.cons_append, List.nil_append]
    after_results
    rfl
  rw [e]
  refine (shapeCast_a_1a_apply _ _ _ _).trans ?_
  refine (pad_apply_of_inside _ _ _ _ _ pads_S64_S128_0640 h_S_ (ix1 (⟨j.val, by omega⟩ : Fin 128)) (ix1 j) fun a => ?_).trans ?_
  · match a with
    | ⟨0, _⟩ =>
      show j.val = 0 + j.val * (0 + 1)
      omega
  refine (shapeCast_apply _ shapeCasts_S32x2_S64 (ix1 j) (ix2 (⟨j.val / 2, by omega⟩ : Fin 32) (⟨j.val % 2, by omega⟩ : Fin 2)) ?_).trans ?_
  · rw [Shape.rowMajor_val_one, Shape.rowMajor_val_two]
    show j.val / 2 * 2 + j.val % 2 = j.val
    omega
  refine (broadcastInDim_apply _ bcast_S32_S32x2_0 _ (ix2 (⟨j.val / 2, by omega⟩ : Fin 32) (⟨j.val % 2, by omega⟩ : Fin 2)) (ix1 (⟨j.val / 2, by omega⟩ : Fin 32)) fun a => ?_).trans ?_
  · match a with
    | ⟨0, _⟩ => rfl
  rfl

end Cert.Value.K

end
-- ==== Proof.Value.KTile.lean ====
/- The kernel's vectors read at an index: scales, codes, dequantised activations and weights, norms. -/
module

public import proofs.«01_k».proof.Proof.KernelIdeal.Values
public import proofs.«01_k».proof.Proof.Value.Plain
public import proofs.«01_k».proof.Proof.Value.Read

@[expose] public section

set_option maxRecDepth 16384

noncomputable section

namespace Cert.Value.K

open Cert.KernelIdeal Cert.KernelIdeal.Gen Cert.KernelIdeal.Run
open Idealize.ShloMosaic Idealize.ShloMosaic.ValueIdx

/-- Row `r` of a tile of 128 lanes. -/
def rowOf (v : Vec Ideal S512x128 .bf16) (r : Fin 512) : Fin 128 → EReal := fun l => v (ix2 r l)

theorem pay25_apply (v : Vec Ideal S512x128 .bf16) (y : S512x128.Idx) : (k0_pay25 v y : EReal) = v y := by
  unfold k0_pay25
  exact congrFun (shapeCast_self v _) y

/-- The exponent word of a row. -/
theorem word_apply (v : Vec Ideal S512x128 .bf16) (r : Fin 512) : k0_pay26 v (ix2 r 0) = scaleWord (tOf (rowOf v r)) := by
  have hmax : ∀ (h : S512x1.Broadcasts S512x256) (q : Fin 256) (hc : S512.ShapeCasts S512x1),
      broadcastTo S512x256 (mulf (F := Ideal) (shapeCast S512x1 (multiReduction .maximumf [1] S512 (absf (k0_pay25 v)) 0xFF800000#32 reduces_S512x128_S512 (.inl rfl) rfl) hc)
        (broadcast S512x1 (Scalar.ofBits .f32 0x3B124925#32))) h (ix2 r q) = tOf (rowOf v r) := by
    intro h q hc
    rw [bc_col]
    show (shapeCast S512x1 _ hc (ix2 r 0) : EReal) * _ = _
    rw [shapeCast_a_a1_apply]
    unfold tOf rowMax
    refine congrArg (fun a : EReal => a * Ideal.ofBits .f32 0x3B124925#32) ((max_row (absf (k0_pay25 v)) 0xFF800000#32 reduces_S512x128_S512 (.inl rfl) rfl r).trans ?_)
    refine (congrArg (fun f => (Finset.univ : Finset (Fin 128)).fold max _ f) (funext fun l => ?_))
    show max (k0_pay25 v (ix2 r l) : EReal) (-(k0_pay25 v (ix2 r l) : EReal)) = _
    rw [pay25_apply]; rfl
  have htop : ∀ (hc : S512.ShapeCasts S512x1) (hr), shapeCast S512x1 (multiReductionI .maxsi [1] S512
        (select (cmpf (F := Ideal) .ole (bitcastToFloat .f32 (shli (iota .tc S512x256 32 [1] iota_S512x256_d1_w32) (broadcast S512x256 23#32)))
          (broadcastTo S512x256 (mulf (F := Ideal) (shapeCast S512x1 (multiReduction .maximumf [1] S512 (absf (k0_pay25 v)) 0xFF800000#32 reduces_S512x128_S512 (.inl rfl) rfl) shapeCasts_S512_S512x1)
            (broadcast S512x1 (Scalar.ofBits .f32 0x3B124925#32))) broadcasts_S512x1_S512x256))
          (shli (iota .tc S512x256 32 [1] iota_S512x256_d1_w32) (broadcast S512x256 23#32)) (broadcast S512x256 0#32))
        2147483648#32 hr rfl) hc (ix2 r 0) = topWord (tOf (rowOf v r)) := by
    intro hc hr
    rw [shapeCast_a_a1_apply]
    refine (maxi_row _ 2147483648#32 hr rfl r).trans ?_
    unfold topWord
    refine congrArg (fun f => (Finset.univ : Finset (Fin 256)).fold IKind.maxsi.op 2147483648#32 f) (funext fun q => ?_)
    have hW : shli (iota .tc S512x256 32 [1] iota_S512x256_d1_w32) (broadcast S512x256 23#32) (ix2 r q) = W q.val := by
      show IntOp.shli .vector (iota .tc S512x256 32 [1] iota_S512x256_d1_w32 (ix2 r q)) 23#32 = _
      rw [iota_single_apply]
      rfl
    rw [select_apply, hW]
    show Scalar.select (Ideal.cmp .ole (Ideal.ofBits .f32 (shli (iota .tc S512x256 32 [1] iota_S512x256_d1_w32) (broadcast S512x256 23#32) (ix2 r q)))
      (broadcastTo S512x256 _ broadcasts_S512x1_S512x256 (ix2 r q))) _ _ = _
    rw [hW, hmax]; rfl
  unfold k0_pay26 scaleWord
  rw [← htop shapeCasts_S512_S512x1 reduces_S512x256_S512]
  rfl

/-- The scale of a row of finite values. -/
theorem scale_apply (v : Vec Ideal S512x128 .bf16) (r : Fin 512) (hv : Finite (rowOf v r)) : (scaleCol v (ix2 r 0) : EReal) = scl (rowOf v r) := by
  rw [← scaleWord_eq _ hv, ← word_apply]
  rfl

/-- The code of a value of a finite row. -/
theorem code_apply (v : Vec Ideal S512x128 .bf16) (r : Fin 512) (l : Fin 128) (hv : Finite (rowOf v r)) :
    (codeTile v (ix2 r l) : EReal) = cde (rowOf v r) l := by
  have hb : ∀ (h : S512x1.Broadcasts S512x128), (broadcastTo S512x128 (bitcastToFloat (F := Ideal) .f32 (subi (broadcast S512x1 2130706432#32) (k0_pay26 v))) h (ix2 r l) : EReal)
      = inv (rowOf v r) := by
    intro h
    rw [bc_col, ← invWord_eq _ hv, ← word_apply]
    rfl
  unfold cde
  rw [← hb broadcasts_S512x1_S512x128]
  have hp := pay25_apply v (ix2 r l)
  show min _ (max _ ((k0_pay25 v (ix2 r l) : EReal) * _)) = _
  rw [hp]
  rfl

/-- The dequantised value of a finite row. -/
theorem xdq_apply (v : Vec Ideal S512x128 .bf16) (r : Fin 512) (l : Fin 128) (hv : Finite (rowOf v r)) :
    (xdqTile v (ix2 r l) : EReal) = cde (rowOf v r) l * scl (rowOf v r) := by
  rw [← code_apply v r l hv, ← scale_apply v r hv]
  unfold xdqTile k0_pay29
  refine (congrFun (shapeCast_self _ _) (ix2 r l)).trans ?_
  show (codeTile v (ix2 r l) : EReal) * (broadcastTo S512x128 (truncf (F := Ideal) .bf16 (k0_pay27 v) bitsLt_bf16_f32) broadcasts_S512x1_S512x128 (ix2 r l) : EReal) = _
  rw [bc_col]
  rfl

/-- A dequantised weight of one group. -/
theorem wTile_apply (w : Vec Ideal S2112x1024 .fp8e4m3) (s : Vec Ideal S1x2112x8 .f32) (g : Fin 8) (n : Fin 2112) (l : Fin 128) :
    (wTile w s g (ix3 0 n l) : EReal)
      = w (ix2 n ⟨128 * g.val + l.val, by have := g.isLt; have := l.isLt; omega⟩) * s (ix3 0 n g) := by
  unfold wTile k0_pay3
  rw [shapeCast_ab_1ab_apply]
  show (w (ix2 n ⟨128 * g.val + l.val, _⟩) : EReal) * (broadcastTo S2112x128 (truncf (F := Ideal) .bf16 (shapeCast S2112x1 _ shapeCasts_S1x2112x1_S2112x1) bitsLt_bf16_f32) broadcasts_S2112x1_S2112x128 (ix2 n l) : EReal) = _
  rw [bc_col]
  refine congrArg (fun a : EReal => w (ix2 n ⟨128 * g.val + l.val, _⟩) * a) ?_
  exact shapeCast_1ab_ab_apply (fun y : S1x2112x1.Idx => s (ix3 0 (y 1) g)) shapeCasts_S1x2112x1_S2112x1 n 0

end Cert.Value.K

end
-- ==== Proof.Value.KBlk.lean ====
/- The kernel's blocks, the accumulator and the row blocks it writes, in terms of the arguments. -/
module

public import proofs.«01_k».proof.Proof.Value.KHost
public import proofs.«01_k».proof.Proof.Value.KTile

@[expose] public section

set_option maxRecDepth 16384

noncomputable section

namespace Cert.Value.K

open Cert.KernelIdeal Cert.KernelIdeal.Gen Cert.KernelIdeal.Run
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The windows' block indices. -/
theorem idxIn : ∀ t : Fin cfg0.N, (∀ a, win0_0.index t a = 0) ∧ (win0_1.index t 0 = t.val / 8 ∧ win0_1.index t 1 = t.val % 8)
    ∧ (t.val < 8 → win0_2.index t 0 = 0 ∧ win0_2.index t 1 = t.val) ∧ (t.val < 8 → win0_3.index t 0 = t.val ∧ win0_3.index t 1 = 0 ∧ win0_3.index t 2 = 0)
    ∧ (∀ a, win0_4.index t a = 0) ∧ (∀ a, win0_5.index t a = 0) ∧ (∀ a, win0_6.index t a = 0) := by decide +kernel

/-- Token `r` of row block `q`. -/
def tok (q : ℕ) (hq : q < 6) (r : Fin 512) : Fin 3072 := ⟨512 * q + r.val, by have := r.isLt; omega⟩

theorem blk0 (t : Fin cfg0.N) : iblk m c 0 t = aSt m c := by
  funext y
  rw [← host_arg5 m c]
  blk_ext [iblk, (idxIn t).1]

theorem blk1 (n : ℕ) (h : n < 48) (r : Fin 512) (col : Fin 1024) :
    (xB m c n h (ix2 r col) : EReal) = aX m c (ix3 (bOf (tok (n / 8) (by omega) r)) (sOf (tok (n / 8) (by omega) r)) ⟨1024 * (n % 8) + col.val, by have := col.isLt; omega⟩) := by
  rw [← host_x m c]
  have i1 : win0_1.index (pt n h) 0 = n / 8 := (idxIn (pt n h)).2.1.1
  have i2 : win0_1.index (pt n h) 1 = n % 8 := (idxIn (pt n h)).2.1.2
  unfold xB tok
  blk_ext [iblk, i1, i2]
  · show n / 8 * 512 + r.val = 512 * (n / 8) + r.val
    omega
  · show n % 8 * 1024 + col.val = 1024 * (n % 8) + col.val
    omega

theorem blk2 (k : Fin 8) (hk : k.val < 48) (n : Fin 2112) (col : Fin 1024) :
    (iblk m c 2 (pt k.val hk) (ix2 n col) : EReal) = aW m c (ix2 n ⟨1024 * k.val + col.val, by have := col.isLt; have := k.isLt; omega⟩) := by
  rw [← host_arg1 m c]
  have i1 : win0_2.index (pt k.val hk) 0 = 0 := ((idxIn (pt k.val hk)).2.2.1 k.isLt).1
  have i2 : win0_2.index (pt k.val hk) 1 = k.val := ((idxIn (pt k.val hk)).2.2.1 k.isLt).2
  blk_ext [iblk, i1, i2]
  show k.val * 1024 + col.val = 1024 * k.val + col.val
  omega

theorem blk3 (k : Fin 8) (hk : k.val < 48) (n : Fin 2112) (g : Fin 8) :
    (iblk m c 3 (pt k.val hk) (ix3 0 n g) : EReal)
      = aS m c (ix2 ⟨n.val / 128, by have := n.isLt; omega⟩ ⟨8 * k.val + g.val, by have := g.isLt; have := k.isLt; omega⟩) := by
  rw [← host_s m c]
  have i1 : win0_3.index (pt k.val hk) 0 = k.val := ((idxIn (pt k.val hk)).2.2.2.1 k.isLt).1
  have i2 : win0_3.index (pt k.val hk) 1 = 0 := ((idxIn (pt k.val hk)).2.2.2.1 k.isLt).2.1
  have i3 : win0_3.index (pt k.val hk) 2 = 0 := ((idxIn (pt k.val hk)).2.2.2.1 k.isLt).2.2
  blk_ext [iblk, i1, i2, i3]

theorem blk4 (t : Fin cfg0.N) (j : Fin 1536) : (iblk m c 4 t (ix2 0 j) : EReal) = aQ m c (ix1 j) := by
  rw [← host_q m c]
  blk_ext [iblk, (idxIn t).2.2.2.2.1]

theorem blk5 (t : Fin cfg0.N) (j : Fin 512) : (iblk m c 5 t (ix2 0 j) : EReal) = aKv m c (ix1 j) := by
  rw [← host_kv m c]
  blk_ext [iblk, (idxIn t).2.2.2.2.2.1]

theorem blk6 (t : Fin cfg0.N) (j : Fin 64) :
    (iblk m c 6 t (ix2 0 ⟨j.val, by have := j.isLt; omega⟩) : EReal) = frq ⟨j.val / 2, by have := j.isLt; omega⟩ := by
  rw [← host_f m c]
  blk_ext [iblk, (idxIn t).2.2.2.2.2.2]

/-- Row `r` of group `g` at point `n` is a group of the activations. -/
theorem row_eq (n : ℕ) (h : n < 48) (g : Fin 8) (r : Fin 512) :
    rowOf (tile (xB m c n h) g) r
      = grp (aX m c) (bOf (tok (n / 8) (by omega) r)) (sOf (tok (n / 8) (by omega) r)) ⟨8 * (n % 8) + g.val, by have := g.isLt; omega⟩ := by
  funext l
  have hg := g.isLt
  have hl := l.isLt
  refine (blk1 m c n h r ⟨128 * g.val + l.val, by omega⟩).trans ?_
  refine congrArg (fun q => aX m c (ix3 (bOf (tok (n / 8) (by omega) r)) (sOf (tok (n / 8) (by omega) r)) q)) (Fin.ext ?_)
  show 1024 * (n % 8) + (128 * g.val + l.val) = 128 * (8 * (n % 8) + g.val) + l.val
  omega

/-- Every group is finite. -/
def AllFinite : Prop := ∀ b s g, Finite (grp (aX m c) b s g)

variable {m c} (hX : AllFinite m c)
include hX

theorem row_finite (n : ℕ) (h : n < 48) (g : Fin 8) (r : Fin 512) : Finite (rowOf (tile (xB m c n h) g) r) := by
  rw [row_eq]; exact hX _ _ _

/-- The codes of a block. -/
theorem codes_apply (n : ℕ) (h : n < 48) (r : Fin 512) (col : Fin 1024) :
    (codesBlk (xB m c n h) (ix2 r col) : EReal)
      = cd (aX m c) (bOf (tok (n / 8) (by omega) r)) (sOf (tok (n / 8) (by omega) r)) ⟨1024 * (n % 8) + col.val, by have := col.isLt; omega⟩ := by
  have hc := col.isLt
  refine (code_apply _ r ⟨col.val % 128, Nat.mod_lt _ (by omega)⟩ (row_finite hX n h ⟨col.val / 128, by omega⟩ r)).trans ?_
  rw [row_eq]
  unfold cd gOf lOf
  refine congrArg₂ (fun g l => cde (grp (aX m c) (bOf (tok (n / 8) (by omega) r)) (sOf (tok (n / 8) (by omega) r)) g) l) (Fin.ext ?_) (Fin.ext ?_)
  · show 8 * (n % 8) + col.val / 128 = (1024 * (n % 8) + col.val) / 128
    omega
  · show col.val % 128 = (1024 * (n % 8) + col.val) % 128
    omega

/-- The dequantised values of a block. -/
theorem xdqBlk_apply (n : ℕ) (h : n < 48) (r : Fin 512) (col : Fin 1024) :
    (xdqBlk (xB m c n h) (ix2 r col) : EReal)
      = dq (aX m c) (bOf (tok (n / 8) (by omega) r)) (sOf (tok (n / 8) (by omega) r)) ⟨1024 * (n % 8) + col.val, by have := col.isLt; omega⟩ := by
  have hc := col.isLt
  refine (xdq_apply _ r ⟨col.val % 128, Nat.mod_lt _ (by omega)⟩ (row_finite hX n h ⟨col.val / 128, by omega⟩ r)).trans ?_
  rw [row_eq]
  unfold dq cd gOf lOf
  refine congrArg₂ (fun g l => cde (grp (aX m c) (bOf (tok (n / 8) (by omega) r)) (sOf (tok (n / 8) (by omega) r)) g) l
    * scl (grp (aX m c) (bOf (tok (n / 8) (by omega) r)) (sOf (tok (n / 8) (by omega) r)) g)) (Fin.ext ?_) (Fin.ext ?_)
  · show 8 * (n % 8) + col.val / 128 = (1024 * (n % 8) + col.val) / 128
    omega
  · show col.val % 128 = (1024 * (n % 8) + col.val) % 128
    omega

/-- The scales of a row block. -/
theorem sc_apply (n : ℕ) (h : n < 48) (r : Fin 512) (g : Fin 64) :
    (scAt m c n h (ix2 r g) : EReal) = scl (grp (aX m c) (bOf (tok (n / 8) (by omega) r)) (sOf (tok (n / 8) (by omega) r)) g) := by
  have hg := g.isLt
  refine (scale_apply _ r (row_finite hX (8 * (n / 8) + g.val / 8) (by omega) ⟨g.val % 8, Nat.mod_lt _ (by omega)⟩ r)).trans ?_
  rw [row_eq]
  have e1 : tok ((8 * (n / 8) + g.val / 8) / 8) (by omega) r = tok (n / 8) (by omega) r := Fin.ext (by
    show 512 * ((8 * (n / 8) + g.val / 8) / 8) + r.val = 512 * (n / 8) + r.val
    omega)
  rw [e1]
  refine congrArg (fun g => scl (grp (aX m c) (bOf (tok (n / 8) (by omega) r)) (sOf (tok (n / 8) (by omega) r)) g)) (Fin.ext ?_)
  show 8 * ((8 * (n / 8) + g.val / 8) % 8) + g.val % 8 = g.val
  omega

omit hX
/-- A kept weight. -/
theorem wS_apply (k : Fin 8) (n : Fin 2112) (col : Fin 1024) :
    (wS m c k (ix3 0 ⟨n.val, by have := n.isLt; omega⟩ col) : EReal) = wd (aW m c) (aS m c) n ⟨1024 * k.val + col.val, by have := col.isLt; have := k.isLt; omega⟩ := by
  have hc := col.isLt
  have hk := k.isLt
  have hn := n.isLt
  unfold wS wSlab slabOf
  refine (dif_pos (show ((ix3 0 ⟨n.val, by omega⟩ col : S1x2176x1024.Idx) 1).val < 2112 from hn)).trans ?_
  refine (wTile_apply _ _ ⟨col.val / 128, by omega⟩ n ⟨col.val % 128, Nat.mod_lt _ (by omega)⟩).trans ?_
  rw [blk2, blk3]
  unfold wd gOf
  refine congrArg₂ (fun (q : Fin 8192) (g : Fin 64) => (aW m c (ix2 n q) : EReal) * (aS m c (ix2 ⟨n.val / 128, by omega⟩ g) : EReal)) (Fin.ext ?_) (Fin.ext ?_)
  · show 1024 * k.val + (128 * (col.val / 128) + col.val % 128) = 1024 * k.val + col.val
    omega
  · show 8 * k.val + col.val / 128 = (1024 * k.val + col.val) / 128
    omega

/-- A term of the projection, over all numbers. -/
def term (m : (ℓ : Loc nD τ sig) → Buf (Elt Ideal) ℓ) (c : Dev nD) (n : Fin 3072) (j : Fin 2112) (q : ℕ) : EReal :=
  if h : q < 8192 then dq (aX m c) (bOf n) (sOf n) ⟨q, h⟩ * wd (aW m c) (aS m c) j ⟨q, h⟩ else 0

include hX
/-- One step adds 1024 terms. -/
theorem step_apply (acc : Vec Ideal S512x2176 .f32) (n : ℕ) (h : n < 48) (k : Fin 8) (hk : k.val = n % 8) (r : Fin 512) (j : Fin 2112) :
    (accStep acc (xB m c n h) (wS m c k) (ix2 r ⟨j.val, by have := j.isLt; omega⟩) : EReal)
      = (acc (ix2 r ⟨j.val, by have := j.isLt; omega⟩) : EReal) + ∑ q ∈ Finset.range 1024, term m c (tok (n / 8) (by omega) r) j (1024 * (n % 8) + q) := by
  unfold accStep
  rw [pay1_apply, Finset.sum_range]
  refine congrArg (fun s : EReal => (acc (ix2 r ⟨j.val, _⟩) : EReal) + s) (Finset.sum_congr rfl fun q _ => ?_)
  have hq := q.isLt
  unfold term
  rw [dif_pos (show 1024 * (n % 8) + q.val < 8192 by omega), xdqBlk_apply hX]
  refine congrArg (fun s : EReal => dq (aX m c) _ _ ⟨1024 * (n % 8) + q.val, _⟩ * s) ?_
  refine (wS_apply k j q).trans (congrArg (wd (aW m c) (aS m c) j) (Fin.ext ?_))
  show 1024 * k.val + q.val = 1024 * (n % 8) + q.val
  rw [hk]

/-- The accumulator after point `n`: the terms of the steps so far. -/
theorem acc_apply (r : Fin 512) (j : Fin 2112) : ∀ (n : ℕ) (h : n < 48),
    (accAt m c n h (ix2 r ⟨j.val, by have := j.isLt; omega⟩) : EReal)
      = ∑ q ∈ Finset.range (1024 * (n % 8) + 1024), term m c (tok (n / 8) (by omega) r) j q := by
  have hz : ∀ y : S512x2176.Idx, (k0_pay84 (F := Ideal) y : EReal) = 0 := fun y => by
    unfold k0_pay84
    refine (congrFun (shapeCast_self _ _) y).trans zero_bits
  intro n
  induction n with
  | zero =>
    intro h
    refine (step_apply hX _ 0 h 0 rfl r j).trans ?_
    rw [hz, zero_add]
    refine Finset.sum_congr rfl fun q _ => ?_
    exact congrArg (term m c _ j) (Nat.zero_add q)
  | succ n ih =>
    intro h
    refine (step_apply hX _ (n + 1) h ⟨(n + 1) % 8, Nat.mod_lt _ (by omega)⟩ rfl r j).trans ?_
    rw [Finset.sum_range_add]
    refine congrArg (fun s : EReal => s + _) ?_
    by_cases h8 : (n + 1) % 8 = 0
    · rw [if_pos h8, hz, h8]
      rfl
    · rw [if_neg h8, ih (by omega)]
      have e1 : tok (n / 8) (by omega) r = tok ((n + 1) / 8) (by omega) r := Fin.ext (by
        show 512 * (n / 8) + r.val = 512 * ((n + 1) / 8) + r.val
        omega)
      have e2 : 1024 * (n % 8) + 1024 = 1024 * ((n + 1) % 8) := by omega
      rw [e1, e2]

/-- The finished accumulator holds the projection. -/
theorem acc_done (n : ℕ) (h : n < 48) (h7 : n % 8 = 7) (r : Fin 512) (j : Fin 2112) :
    (accAt m c n h (ix2 r ⟨j.val, by have := j.isLt; omega⟩) : EReal)
      = hid (aX m c) (aW m c) (aS m c) (bOf (tok (n / 8) (by omega) r)) (sOf (tok (n / 8) (by omega) r)) j := by
  rw [acc_apply hX r j n h, h7, Finset.sum_range]
  refine Finset.sum_congr rfl fun q _ => ?_
  exact dif_pos q.isLt

end Cert.Value.K

end
-- ==== Proof.Value.FiniteInput.lean ====
/- What the precondition says of the activations' groups. -/
module

public import proofs.«01_k».proof.Defs
public import proofs.«01_k».proof.Proof.Value.KBlk

@[expose] public section

noncomputable section

namespace Cert.Value.K

open Cert.KernelIdeal Cert.KernelIdeal.Gen Cert.KernelIdeal.Run
open Idealize.ShloMosaic Idealize.ShloMosaic.ValueIdx Idealize.ShloMosaic.TcCoe Idealize.SL.Sem

/-- The predicate's side conditions. -/
theorem preFacts : Cert.Pre_finite_input.Facts := ⟨by decide, by decide⟩

/-- A true comparison is an inequality. -/
theorem le_of_cmp {a b : EReal} (h : Ideal.cmp .ole a b = 1#1) : a ≤ b := by
  by_contra hn
  have : Ideal.cmp .ole a b = 0#1 := by
    unfold Ideal.cmp
    simp [hn]
  rw [this] at h
  exact absurd h (by decide)

/-- The precondition makes every group finite. -/
theorem allFinite (m : (ℓ : Loc nD τ sig) → Buf (Elt Ideal) ℓ) (h : Cert.Pre_KernelIdeal_finite_input (hPre_finite_input := preFacts) m) (c : Dev nD) :
    AllFinite m c := fun b s g l =>
  le_of_cmp (congrFun (h c) (ix3 b s ⟨128 * g.val + l.val, by have := g.isLt; have := l.isLt; omega⟩))

end Cert.Value.K

end
-- ==== Proof.Value.KArr.lean ====
/- The arrays the kernel ends with, in terms of the arguments. -/
module

public import proofs.«01_k».proof.Proof.Value.KBlk

@[expose] public section

set_option maxRecDepth 16384

noncomputable section

namespace Cert.Value.K

open Cert.KernelIdeal Cert.KernelIdeal.Gen Cert.KernelIdeal.Run
open Idealize.ShloMosaic Idealize.ShloMosaic.ValueIdx Idealize.ShloMosaic.TcCoe Idealize.SL.Sem
open Idealize.ShloMosaic.Pipeline (Dat)

variable {m : (ℓ : Loc nD τ sig) → Buf (Elt Ideal) ℓ} (ρ : Dev nD → PrngReg) {c : Dev nD}

/-- A result with its two token axes as one. -/
def flat {N : ℕ} (f : (⟨3, ![2, 1536, N]⟩ : Shape).Idx → EReal) : (⟨2, ![3072, N]⟩ : Shape).Idx → EReal :=
  fun i => f (ix3 (bOf (i 0)) (sOf (i 0)) (i 1))

/-- The token axis cut in two again. -/
theorem cut_flat {N : ℕ} (f : (⟨3, ![2, 1536, N]⟩ : Shape).Idx → EReal)
    (h : (⟨2, ![3072, N]⟩ : Shape).ShapeCasts ⟨3, ![2, 1536, N]⟩) : shapeCast ⟨3, ![2, 1536, N]⟩ (flat f) h = f := by
  funext y
  obtain ⟨b, s, j, rfl⟩ : ∃ b s j, y = ix3 b s j := ⟨y 0, y 1, y 2, eq_ix3 y⟩
  have hb := b.isLt
  have hs := s.isLt
  refine (shapeCast_apply _ h (ix3 b s j) (ix2 ⟨b.val * 1536 + s.val, by omega⟩ j) ?_).trans ?_
  · rw [Shape.rowMajor_val_three, Shape.rowMajor_val_two]
    rfl
  · have e1 : bOf ⟨b.val * 1536 + s.val, by omega⟩ = b := Fin.ext (by show (b.val * 1536 + s.val) / 1536 = b.val; omega)
    have e2 : sOf ⟨b.val * 1536 + s.val, by omega⟩ = s := Fin.ext (by show (b.val * 1536 + s.val) % 1536 = s.val; omega)
    show f (ix3 (bOf ⟨b.val * 1536 + s.val, _⟩) (sOf ⟨b.val * 1536 + s.val, _⟩) j) = _
    rw [e1, e2]

/-- The output windows' block indices. -/
theorem idxOut : ∀ t : Fin cfg0.N, (win0_7.index t 0 = t.val / 8 ∧ win0_7.index t 1 = 0) ∧ (win0_8.index t 0 = t.val / 8 ∧ win0_8.index t 1 = 0)
    ∧ (win0_9.index t 0 = t.val / 8 ∧ win0_9.index t 1 = 0) ∧ (win0_10.index t 0 = t.val / 8 ∧ win0_10.index t 1 = t.val % 8)
    ∧ (win0_11.index t 0 = t.val / 8 ∧ win0_11.index t 1 = 0) := by decide +kernel

/-- A row block is written back at its last point. -/
theorem flushes : ∀ t : Fin cfg0.N, ((cfg0.win 7).flush t = true → t.val % 8 = 7) ∧ ((cfg0.win 8).flush t = true → t.val % 8 = 7)
    ∧ ((cfg0.win 9).flush t = true → t.val % 8 = 7) := by decide +kernel

theorem mOf_val : ∀ t : Fin cfg0.N, (mOf (grid0.coords t)).val = t.val / 8 := by decide +kernel

theorem arr_inj : Function.Injective (Pipeline.arrRef spec0) := by decide

variable (hX : AllFinite m c)
include hX

theorem final7 : (dats m 0 c).arrAt 7 cfg0.N = flat (resQ (aX m c) (aW m c) (aS m c) (aQ m c)) := by
  refine (dats m 0 c).arrAt_eq_of_covers 7 _ (by decide +kernel) fun t hf y => ?_
  blk_simp
  rw [after0_7]
  have i1 : win0_7.index t 0 = t.val / 8 := (idxOut t).1.1
  have i2 : win0_7.index t 1 = 0 := (idxOut t).1.2
  have h6 : t.val / 8 < 6 := by have := lt48 t; omega
  have e : ((cfg0.win 7).blk t).view.emb y = ix2 (tok (t.val / 8) h6 (y 0)) (y 1) := by
    unfold tok
    blk_ext [i1, i2]
  rw [e]
  refine (congrArg _ (eq_ix2 y)).trans ?_
  have h7 := (flushes t).1 hf
  refine (q_apply _ _ (y 0) (y 1)).trans ?_
  exact congrArg₂ (fun h g => rms (Ideal.ofBits .f32 0x44C00000#32) h g (y 1))
    (funext fun k : Fin 1536 => acc_done hX t.val (lt48 t) h7 (y 0) ⟨k.val, by have := k.isLt; omega⟩) (funext fun k : Fin 1536 => blk4 m c t k)

theorem out_v23 : Pipeline.afterTail₀ cfgs (dats m) 0 (V0 m) [hostOps1] c main_v23 = resQ (aX m c) (aW m c) (aS m c) (aQ m c) := by
  have e : Pipeline.afterTail₀ cfgs (dats m) 0 (V0 m) [hostOps1] c main_v23
      = shapeCast S2x1536x1536 ((dats m 0 c).arrAt 7 cfg0.N) shapeCasts_S3072x1536_S2x1536x1536 := by
    unfold Pipeline.afterTail₀
    dsimp only [hostOps1, List.flatten_cons, List.flatten_nil, List.append_nil, List.cons_append, List.nil_append]
    after_results
    exact congrArg (fun a => shapeCast S2x1536x1536 a shapeCasts_S3072x1536_S2x1536x1536) (Pipeline.withArrays_arr spec0 arr_inj c (V0 m c) _ 7)
  rw [e, final7 hX]
  exact cut_flat _ _

theorem final8 : (dats m 0 c).arrAt 8 cfg0.N = flat (resKv (aX m c) (aW m c) (aS m c) (aKv m c)) := by
  refine (dats m 0 c).arrAt_eq_of_covers 8 _ (by decide +kernel) fun t hf y => ?_
  blk_simp
  rw [after0_8]
  have i1 : win0_8.index t 0 = t.val / 8 := (idxOut t).2.1.1
  have i2 : win0_8.index t 1 = 0 := (idxOut t).2.1.2
  have h6 : t.val / 8 < 6 := by have := lt48 t; omega
  have e : ((cfg0.win 8).blk t).view.emb y = ix2 (tok (t.val / 8) h6 (y 0)) (y 1) := by
    unfold tok
    blk_ext [i1, i2]
  rw [e]
  refine (congrArg _ (eq_ix2 y)).trans ?_
  have h7 := (flushes t).2.1 hf
  refine (kv_apply _ _ (y 0) (y 1)).trans ?_
  exact congrArg₂ (fun h g => rms (Ideal.ofBits .f32 0x44000000#32) h g (y 1))
    (funext fun k : Fin 512 => acc_done hX t.val (lt48 t) h7 (y 0) ⟨1536 + k.val, by have := k.isLt; omega⟩) (funext fun k : Fin 512 => blk5 m c t k)

theorem out_v24 : Pipeline.afterTail₀ cfgs (dats m) 0 (V0 m) [hostOps1] c main_v24 = resKv (aX m c) (aW m c) (aS m c) (aKv m c) := by
  have e : Pipeline.afterTail₀ cfgs (dats m) 0 (V0 m) [hostOps1] c main_v24
      = shapeCast S2x1536x512 ((dats m 0 c).arrAt 8 cfg0.N) shapeCasts_S3072x512_S2x1536x512 := by
    unfold Pipeline.afterTail₀
    dsimp only [hostOps1, List.flatten_cons, List.flatten_nil, List.append_nil, List.cons_append, List.nil_append]
    after_results
    exact congrArg (fun a => shapeCast S2x1536x512 a shapeCasts_S3072x512_S2x1536x512) (Pipeline.withArrays_arr spec0 arr_inj c (V0 m c) _ 8)
  rw [e, final8 hX]
  exact cut_flat _ _

theorem final9 : (dats m 0 c).arrAt 9 cfg0.N = flat (resPe (aX m c) (aW m c) (aS m c) (aSt m c)) := by
  refine (dats m 0 c).arrAt_eq_of_covers 9 _ (by decide +kernel) fun t hf y => ?_
  blk_simp
  rw [after0_9]
  have i1 : win0_9.index t 0 = t.val / 8 := (idxOut t).2.2.1.1
  have i2 : win0_9.index t 1 = 0 := (idxOut t).2.2.1.2
  have h6 : t.val / 8 < 6 := by have := lt48 t; omega
  have e : ((cfg0.win 9).blk t).view.emb y = ix2 (tok (t.val / 8) h6 (y 0)) (y 1) := by
    unfold tok
    blk_ext [i1, i2]
  rw [e]
  refine (congrArg _ (eq_ix2 y)).trans ?_
  have h7 := (flushes t).2.2 hf
  refine (pe_apply _ _ _ _ (y 0) (y 1) (blk6 m c t)).trans ?_
  rw [blk0]
  have hm := mOf_val t
  have hr : (y 0).val < 512 := (y 0).isLt
  have e1 : startOf (mOf (grid0.coords t)) (aSt m c) = aSt m c (ix1 (bOf (tok (t.val / 8) h6 (y 0)))) := by
    unfold startOf
    refine congrArg (fun q => aSt m c (ix1 q)) (Fin.ext ?_)
    show (mOf (grid0.coords t)).val / 3 = (512 * (t.val / 8) + (y 0).val) / 1536
    rw [hm]
    omega
  have e2 : (mOf (grid0.coords t)).val % 3 * 512 + (y 0).val = (sOf (tok (t.val / 8) h6 (y 0))).val := by
    show (mOf (grid0.coords t)).val % 3 * 512 + (y 0).val = (512 * (t.val / 8) + (y 0).val) % 1536
    rw [hm]
    omega
  rw [e1, e2]
  exact congrArg (fun h => rot h _ (y 1))
    (funext fun k : Fin 64 => acc_done hX t.val (lt48 t) h7 (y 0) ⟨2048 + k.val, by have := k.isLt; omega⟩)

theorem out_v25 : Pipeline.afterTail₀ cfgs (dats m) 0 (V0 m) [hostOps1] c main_v25 = resPe (aX m c) (aW m c) (aS m c) (aSt m c) := by
  have e : Pipeline.afterTail₀ cfgs (dats m) 0 (V0 m) [hostOps1] c main_v25
      = shapeCast S2x1536x64 ((dats m 0 c).arrAt 9 cfg0.N) shapeCasts_S3072x64_S2x1536x64 := by
    unfold Pipeline.afterTail₀
    dsimp only [hostOps1, List.flatten_cons, List.flatten_nil, List.append_nil, List.cons_append, List.nil_append]
    after_results
    exact congrArg (fun a => shapeCast S2x1536x64 a shapeCasts_S3072x64_S2x1536x64) (Pipeline.withArrays_arr spec0 arr_inj c (V0 m c) _ 9)
  rw [e, final9 hX]
  exact cut_flat _ _

theorem final10 : (dats m 0 c).arrAt 10 cfg0.N = flat (resCd (aX m c)) := by
  refine (dats m 0 c).arrAt_eq_of_covers 10 _ (by decide +kernel) fun t hf y => ?_
  blk_simp
  rw [after0_10]
  have i1 : win0_10.index t 0 = t.val / 8 := (idxOut t).2.2.2.1.1
  have i2 : win0_10.index t 1 = t.val % 8 := (idxOut t).2.2.2.1.2
  have h6 : t.val / 8 < 6 := by have := lt48 t; omega
  have e : ((cfg0.win 10).blk t).view.emb y = ix2 (tok (t.val / 8) h6 (y 0)) ⟨1024 * (t.val % 8) + (y 1).val, by have : (y 1).val < 1024 := (y 1).isLt; omega⟩ := by
    unfold tok
    blk_ext [i1, i2]
  rw [e]
  refine (congrArg _ (eq_ix2 y)).trans ?_
  exact codes_apply hX t.val (lt48 t) (y 0) (y 1)

theorem out_v26 : Pipeline.afterTail₀ cfgs (dats m) 0 (V0 m) [hostOps1] c main_v26 = resCd (aX m c) := by
  have e : Pipeline.afterTail₀ cfgs (dats m) 0 (V0 m) [hostOps1] c main_v26
      = shapeCast S2x1536x8192 ((dats m 0 c).arrAt 10 cfg0.N) shapeCasts_S3072x8192_S2x1536x8192 := by
    unfold Pipeline.afterTail₀
    dsimp only [hostOps1, List.flatten_cons, List.flatten_nil, List.append_nil, List.cons_append, List.nil_append]
    after_results
    exact congrArg (fun a => shapeCast S2x1536x8192 a shapeCasts_S3072x8192_S2x1536x8192) (Pipeline.withArrays_arr spec0 arr_inj c (V0 m c) _ 10)
  rw [e, final10 hX]
  exact cut_flat _ _

theorem final11 : (dats m 0 c).arrAt 11 cfg0.N = flat (resSc (aX m c)) := by
  refine (dats m 0 c).arrAt_eq_of_covers 11 _ (by decide +kernel) fun t hf y => ?_
  blk_simp
  rw [after0_11]
  have i1 : win0_11.index t 0 = t.val / 8 := (idxOut t).2.2.2.2.1
  have i2 : win0_11.index t 1 = 0 := (idxOut t).2.2.2.2.2
  have h6 : t.val / 8 < 6 := by have := lt48 t; omega
  have e : ((cfg0.win 11).blk t).view.emb y = ix2 (tok (t.val / 8) h6 (y 0)) (y 1) := by
    unfold tok
    blk_ext [i1, i2]
  rw [e]
  refine (congrArg _ (eq_ix2 y)).trans ?_
  exact sc_apply hX t.val (lt48 t) (y 0) (y 1)

theorem out_v27 : Pipeline.afterTail₀ cfgs (dats m) 0 (V0 m) [hostOps1] c main_v27 = resSc (aX m c) := by
  have e : Pipeline.afterTail₀ cfgs (dats m) 0 (V0 m) [hostOps1] c main_v27
      = shapeCast S2x1536x64 ((dats m 0 c).arrAt 11 cfg0.N) shapeCasts_S3072x64_S2x1536x64 := by
    unfold Pipeline.afterTail₀
    dsimp only [hostOps1, List.flatten_cons, List.flatten_nil, List.append_nil, List.cons_append, List.nil_append]
    after_results
    exact congrArg (fun a => shapeCast S2x1536x64 a shapeCasts_S3072x64_S2x1536x64) (Pipeline.withArrays_arr spec0 arr_inj c (V0 m c) _ 11)
  rw [e, final11 hX]
  exact cut_flat _ _

omit hX
/-- From finite activations the kernel ends with the results at the plain formulas and its arguments unchanged. -/
theorem run (hX : ∀ c, AllFinite m c) : θ_run defs (onTc (τ := τ) (main (F := Ideal))) ⟨m, fun _ => 0, ρ⟩ fun r => ∀ c : Dev nD,
      r.2.mem ((c : Thread nD τ).loc main_v23) = resQ (aX m c) (aW m c) (aS m c) (aQ m c)
      ∧ r.2.mem ((c : Thread nD τ).loc main_v24) = resKv (aX m c) (aW m c) (aS m c) (aKv m c)
      ∧ r.2.mem ((c : Thread nD τ).loc main_v25) = resPe (aX m c) (aW m c) (aS m c) (aSt m c)
      ∧ r.2.mem ((c : Thread nD τ).loc main_v26) = resCd (aX m c)
      ∧ r.2.mem ((c : Thread nD τ).loc main_v27) = resSc (aX m c) :=
  (θ_run defs _ _).mono (fun _ h c => ⟨
      ((h c).2 main_v23 (Pipeline.mem_restRefs_of main_v23 (by decide) (by decide))).trans (out_v23 (hX c)),
      ((h c).2 main_v24 (Pipeline.mem_restRefs_of main_v24 (by decide) (by decide))).trans (out_v24 (hX c)),
      ((h c).2 main_v25 (Pipeline.mem_restRefs_of main_v25 (by decide) (by decide))).trans (out_v25 (hX c)),
      ((h c).2 main_v26 (Pipeline.mem_restRefs_of main_v26 (by decide) (by decide))).trans (out_v26 (hX c)),
      ((h c).2 main_v27 (Pipeline.mem_restRefs_of main_v27 (by decide) (by decide))).trans (out_v27 (hX c))⟩)
    (run_main m ρ)

end Cert.Value.K

end
-- ==== Proof.Value.RPay.lean ====
/- The reference's vectors read at an index: each is the plain formula. -/
module

public import proofs.«01_k».proof.Proof.Gen.ReferenceIdeal.Frame
public import proofs.«01_k».proof.Proof.Value.Plain
public import proofs.«01_k».proof.Proof.Value.Read

@[expose] public section

set_option maxRecDepth 16384

noncomputable section

namespace Cert.Value.R

open Cert.ReferenceIdeal Cert.ReferenceIdeal.Gen
open Idealize.ShloMosaic Idealize.ShloMosaic.ValueIdx

variable (X : Vec Ideal S2x1536x8192 .bf16) (b : Fin 2) (s : Fin 1536)

/-- The activations by groups. -/
theorem pay2_apply (g : Fin 64) (l : Fin 128) : (k0_pay2 X (ix4 b s g l) : EReal) = grp X b s g l := by
  unfold k0_pay2
  refine shapeCast_apply (extf (F := Ideal) (φ := .bf16) .f32 X bitsLt_bf16_f32) shapeCasts_S2x1536x8192_S2x1536x64x128 (ix4 b s g l)
    (ix3 b s ⟨128 * g.val + l.val, by have := g.isLt; have := l.isLt; omega⟩) ?_
  rw [Shape.rowMajor_val_three, Shape.rowMajor_val_four]
  show (b.val * 1536 + s.val) * 8192 + (128 * g.val + l.val) = ((b.val * 1536 + s.val) * 64 + g.val) * 128 + l.val
  omega

/-- The exponent chain at an index. -/
theorem exp_at {s : Shape} (m : FVec Ideal s .f32) (j : s.Idx) :
    (show FVec Ideal s .f32 from select (cmpf (F := Ideal) .olt (mulf m (broadcast s (Scalar.ofBits .f32 0x3B124925#32))) (broadcast s (Scalar.ofBits .f32 0x00800000#32)))
      (broadcast s (Scalar.ofBits .f32 0x00000000#32))
      (addf (floor (divf (log (mulf m (broadcast s (Scalar.ofBits .f32 0x3B124925#32)))) (log (broadcast s (Scalar.ofBits .f32 0x40000000#32)))))
        (broadcast s (Scalar.ofBits .f32 0x3F800000#32)))) j = refExp ((m j : EReal) * Ideal.ofBits .f32 0x3B124925#32) := rfl

/-- The exponent of a group. -/
theorem pay3_apply (g : Fin 64) : (k0_pay3 X (ix3 b s g) : EReal) = refExp (tOf (grp X b s g)) := by
  have e : (multiReduction .maximumf [3] S2x1536x64 (absf (k0_pay2 X)) 0xFF800000#32 reduces_S2x1536x64x128_S2x1536x64 (.inl rfl) rfl (ix3 b s g) : EReal)
      = rowMax (grp X b s g) := by
    refine (max_last4 (absf (k0_pay2 X)) 0xFF800000#32 reduces_S2x1536x64x128_S2x1536x64 (.inl rfl) rfl b s g).trans ?_
    unfold rowMax
    refine congrArg (fun f => (Finset.univ : Finset (Fin 128)).fold max _ f) (funext fun l => ?_)
    rw [← pay2_apply]
    exact abs_at _ _
  unfold tOf k0_pay3
  rw [← e]
  exact exp_at _ _

/-- The scale of a group. -/
theorem pay4_apply (g : Fin 64) : (k0_pay4 X (ix3 b s g) : EReal) = scl (grp X b s g) := by
  unfold scl k0_pay4
  rw [← pay3_apply]
  exact exp2_at _ _

/-- The code of an activation. -/
theorem pay5_apply (col : Fin 8192) : (k0_pay5 X (ix3 b s col) : EReal) = cd X b s col := by
  have hi : (broadcastTo S2x1536x64x128 (shapeCast S2x1536x64x1 (exp2 (subf (broadcast S2x1536x64 (Scalar.ofBits .f32 0x00000000#32)) (k0_pay3 X)))
      shapeCasts_S2x1536x64_S2x1536x64x1) broadcasts_S2x1536x64x1_S2x1536x64x128 (ix4 b s (gOf col) (lOf col)) : EReal) = inv (grp X b s (gOf col)) := by
    rw [broadcastTo_apply _ broadcasts_S2x1536x64x1_S2x1536x64x128 (ix4 b s (gOf col) (lOf col)) (ix4 b s (gOf col) 0) (fun a => by
      match a with
      | ⟨0, _⟩ => rfl
      | ⟨1, _⟩ => rfl
      | ⟨2, _⟩ => rfl
      | ⟨3, _⟩ => rfl)]
    rw [shapeCast_apply _ shapeCasts_S2x1536x64_S2x1536x64x1 (ix4 b s (gOf col) 0) (ix3 b s (gOf col)) (by
      rw [Shape.rowMajor_val_three, Shape.rowMajor_val_four]
      show (b.val * 1536 + s.val) * 64 + (gOf col).val = ((b.val * 1536 + s.val) * 64 + (gOf col).val) * 1 + 0
      omega)]
    unfold inv
    rw [← pay3_apply]
    exact inv_at _ _
  have hx := pay2_apply X b s (gOf col) (lOf col)
  unfold cd cde
  rw [← hi, ← hx, ← code_at]
  unfold k0_pay5
  refine (shapeCast_apply _ shapeCasts_S2x1536x64x128_S2x1536x8192 (ix3 b s col) (ix4 b s (gOf col) (lOf col)) ?_).trans (trunc_at _ _ _)
  rw [Shape.rowMajor_val_three, Shape.rowMajor_val_four]
  show ((b.val * 1536 + s.val) * 64 + col.val / 128) * 128 + col.val % 128 = (b.val * 1536 + s.val) * 8192 + col.val
  omega

/-- A quantised and dequantised activation. -/
theorem pay6_apply (col : Fin 8192) : (k0_pay6 X (ix3 b s col) : EReal) = dq X b s col := by
  unfold dq k0_pay6
  rw [← pay5_apply, ← pay4_apply]
  refine (shapeCast_apply _ shapeCasts_S2x1536x64x128_S2x1536x8192 (ix3 b s col) (ix4 b s (gOf col) (lOf col)) (by
    rw [Shape.rowMajor_val_three, Shape.rowMajor_val_four]
    show ((b.val * 1536 + s.val) * 64 + col.val / 128) * 128 + col.val % 128 = (b.val * 1536 + s.val) * 8192 + col.val
    omega)).trans ?_
  refine (mul_at _ _ _).trans (congrArg₂ (fun p q : EReal => p * q) ?_ ?_)
  · refine (shapeCast_apply (extf (F := Ideal) .bf16 (k0_pay5 X) bitsLt_fp8e4m3_bf16) shapeCasts_S2x1536x8192_S2x1536x64x128 (ix4 b s (gOf col) (lOf col)) (ix3 b s col) ?_).trans (ext_at _ _ _)
    rw [Shape.rowMajor_val_three, Shape.rowMajor_val_four]
    show (b.val * 1536 + s.val) * 8192 + col.val = ((b.val * 1536 + s.val) * 64 + col.val / 128) * 128 + col.val % 128
    omega
  · refine (broadcastTo_apply _ broadcasts_S2x1536x64x1_S2x1536x64x128 (ix4 b s (gOf col) (lOf col)) (ix4 b s (gOf col) 0) (fun a => by
      match a with
      | ⟨0, _⟩ => rfl
      | ⟨1, _⟩ => rfl
      | ⟨2, _⟩ => rfl
      | ⟨3, _⟩ => rfl)).trans ?_
    refine (shapeCast_apply (truncf (F := Ideal) .bf16 (k0_pay4 X) bitsLt_bf16_f32) shapeCasts_S2x1536x64_S2x1536x64x1 (ix4 b s (gOf col) 0) (ix3 b s (gOf col)) ?_).trans (trunc_at _ _ _)
    rw [Shape.rowMajor_val_three, Shape.rowMajor_val_four]
    show (b.val * 1536 + s.val) * 64 + (gOf col).val = ((b.val * 1536 + s.val) * 64 + (gOf col).val) * 1 + 0
    omega

/-- The weight scales spread over rows and columns. -/
theorem pay7_apply (S : Vec Ideal S17x64 .f32) (n : Fin 2112) (col : Fin 8192) :
    (k0_pay7 S (ix2 n col) : EReal) = S (ix2 ⟨n.val / 128, by have := n.isLt; omega⟩ (gOf col)) := by
  have hn := n.isLt
  unfold k0_pay7
  refine (extractStridedSlice_apply ![0, 0] _ slices_S2176x8192_o0_0_S2112x8192 (ix2 n col) (ix2 (⟨n.val, by omega⟩ : Fin 2176) col) (fun a => by
    match a with
    | ⟨0, _⟩ => exact (Nat.zero_add _).symm
    | ⟨1, _⟩ => exact (Nat.zero_add _).symm)).trans ?_
  refine (shapeCast_apply _ shapeCasts_S2176x64x128_S2176x8192 (ix2 (⟨n.val, by omega⟩ : Fin 2176) col) (ix3 (⟨n.val, by omega⟩ : Fin 2176) (gOf col) (lOf col)) (by
    rw [Shape.rowMajor_val_three, Shape.rowMajor_val_two]
    show (n.val * 64 + col.val / 128) * 128 + col.val % 128 = n.val * 8192 + col.val
    omega)).trans ?_
  refine (broadcastTo_apply _ broadcasts_S2176x64x1_S2176x64x128 (ix3 (⟨n.val, by omega⟩ : Fin 2176) (gOf col) (lOf col)) (ix3 (⟨n.val, by omega⟩ : Fin 2176) (gOf col) 0) (fun a => by
    match a with
    | ⟨0, _⟩ => rfl
    | ⟨1, _⟩ => rfl
    | ⟨2, _⟩ => rfl)).trans ?_
  refine (shapeCast_apply _ shapeCasts_S2176x64_S2176x64x1 (ix3 (⟨n.val, by omega⟩ : Fin 2176) (gOf col) 0) (ix2 (⟨n.val, by omega⟩ : Fin 2176) (gOf col)) (by
    rw [Shape.rowMajor_val_three, Shape.rowMajor_val_two]
    show n.val * 64 + (gOf col).val = (n.val * 64 + (gOf col).val) * 1 + 0
    omega)).trans ?_
  refine (shapeCast_apply _ shapeCasts_S17x128x64_S2176x64 (ix2 (⟨n.val, by omega⟩ : Fin 2176) (gOf col)) (ix3 (⟨n.val / 128, by omega⟩ : Fin 17) (⟨n.val % 128, by omega⟩ : Fin 128) (gOf col)) (by
    rw [Shape.rowMajor_val_three, Shape.rowMajor_val_two]
    show (n.val / 128 * 128 + n.val % 128) * 64 + (gOf col).val = n.val * 64 + (gOf col).val
    omega)).trans ?_
  refine (broadcastTo_apply _ broadcasts_S17x1x64_S17x128x64 (ix3 (⟨n.val / 128, by omega⟩ : Fin 17) (⟨n.val % 128, by omega⟩ : Fin 128) (gOf col)) (ix3 (⟨n.val / 128, by omega⟩ : Fin 17) 0 (gOf col)) (fun a => by
    match a with
    | ⟨0, _⟩ => rfl
    | ⟨1, _⟩ => rfl
    | ⟨2, _⟩ => rfl)).trans ?_
  refine shapeCast_apply S shapeCasts_S17x64_S17x1x64 (ix3 (⟨n.val / 128, by omega⟩ : Fin 17) 0 (gOf col)) (ix2 (⟨n.val / 128, by omega⟩ : Fin 17) (gOf col)) ?_
  rw [Shape.rowMajor_val_three, Shape.rowMajor_val_two]
  show n.val / 128 * 64 + (gOf col).val = (n.val / 128 * 1 + 0) * 64 + (gOf col).val
  omega

/-- The projection. -/
theorem pay8_apply (S : Vec Ideal S17x64 .f32) (W : Vec Ideal S2112x8192 .fp8e4m3) (n : Fin 2112) :
    (k0_pay8 (k0_pay6 X) (k0_pay7 S) W (ix3 b s n) : EReal) = hid X W S b s n := by
  have hr : dot_S2x1536x8192_S2112x8192_S2x1536x2112_2_1_01_0_n_n.contr.rank = 1 := rfl
  have hs : dot_S2x1536x8192_S2112x8192_S2x1536x2112_2_1_01_0_n_n.contr.size ⟨0, by omega⟩ = 8192 := rfl
  unfold k0_pay8 hid
  refine (Ideal.matmul_constant_zero_apply _ none _ _ _).trans ?_
  rw [← Equiv.sum_comp (contrEquiv1 _ 8192 hr hs).symm]
  refine Finset.sum_congr rfl fun col _ => ?_
  have hk := contrEquiv1_symm_val _ 8192 hr hs col
  have el : dot_S2x1536x8192_S2112x8192_S2x1536x2112_2_1_01_0_n_n.lhsIdx (ix3 b s n) ((contrEquiv1 _ 8192 hr hs).symm col) = ix3 b s col := by
    funext a; apply Fin.ext
    match a with
    | ⟨0, _⟩ => rfl
    | ⟨1, _⟩ => rfl
    | ⟨2, _⟩ => exact hk
  have er : dot_S2x1536x8192_S2112x8192_S2x1536x2112_2_1_01_0_n_n.rhsIdx (ix3 b s n) ((contrEquiv1 _ 8192 hr hs).symm col) = ix2 n col := by
    funext a; apply Fin.ext
    match a with
    | ⟨0, _⟩ => rfl
    | ⟨1, _⟩ => exact hk
  rw [el, er]
  unfold wd
  rw [← pay6_apply, ← pay7_apply S n col]
  exact congrArg (fun q : EReal => (k0_pay6 X (ix3 b s col) : EReal) * q) (mul_at _ _ _)

end Cert.Value.R

end
-- ==== Proof.Value.RRes.lean ====
/- The reference's two normed results and its rotated result at an index. -/
module

public import proofs.«01_k».proof.Proof.Value.RPay
public import proofs.«01_k».proof.Proof.Value.Norm

@[expose] public section

set_option maxRecDepth 16384

noncomputable section

namespace Cert.Value.R

open Cert.ReferenceIdeal Cert.ReferenceIdeal.Gen
open Idealize.ShloMosaic Idealize.ShloMosaic.ValueIdx

variable (X : Vec Ideal S2x1536x8192 .bf16) (W : Vec Ideal S2112x8192 .fp8e4m3) (S : Vec Ideal S17x64 .f32) (b : Fin 2) (s : Fin 1536)

/-- Columns `o …` of the projection. -/
theorem cols_apply {N : ℕ} (o : ℕ) (h : S2x1536x2112.Slices ![0, 0, o] ⟨3, ![2, 1536, N]⟩) (k : Fin N) (ho : o + k.val < 2112) :
    (extractStridedSlice ⟨3, ![2, 1536, N]⟩ ![0, 0, o] (k0_pay8 (k0_pay6 X) (k0_pay7 S) W) h (ix3 b s k) : EReal)
      = hid X W S b s ⟨o + k.val, ho⟩ := by
  refine (extractStridedSlice_apply ![0, 0, o] _ h (ix3 b s k) (ix3 b s ⟨o + k.val, ho⟩) fun a => ?_).trans (pay8_apply X b s S W _)
  match a with
  | ⟨0, _⟩ => exact (Nat.zero_add _).symm
  | ⟨1, _⟩ => exact (Nat.zero_add _).symm
  | ⟨2, _⟩ => rfl

/-- The first normed result. -/
theorem pay9_apply (γ : Vec Ideal S1536 .bf16) (j : Fin 1536) :
    (k0_pay9 (k0_pay6 X) (k0_pay7 S) W γ (ix3 b s j) : EReal)
      = rms (Ideal.ofBits .f32 0x44C00000#32) (fun k : Fin 1536 => hid X W S b s ⟨k.val, by have := k.isLt; omega⟩) (fun k => (γ (ix1 k) : EReal)) j := by
  unfold k0_pay9
  refine (trunc_at (φ := .f32) (ψ := .bf16) _ _ bitsLt_bf16_f32).trans ((rms3 _ (extf (F := Ideal) (φ := .bf16) .f32 γ bitsLt_bf16_f32) _ _ _ _ _ _ _ _ b s j).trans ?_)
  refine congrArg₂ (fun h g => rms _ h g j) (funext fun k => ?_) (funext fun k => ext_at (φ := .bf16) (ψ := .f32) _ _ bitsLt_bf16_f32)
  refine (cols_apply X W S b s 0 _ k (by have := k.isLt; omega)).trans ?_
  exact congrArg (hid X W S b s) (Fin.ext (Nat.zero_add _))

/-- The second normed result. -/
theorem pay10_apply (γ : Vec Ideal S512 .bf16) (j : Fin 512) :
    (k0_pay10 (k0_pay6 X) (k0_pay7 S) W γ (ix3 b s j) : EReal)
      = rms (Ideal.ofBits .f32 0x44000000#32) (fun k : Fin 512 => hid X W S b s ⟨1536 + k.val, by have := k.isLt; omega⟩) (fun k => (γ (ix1 k) : EReal)) j := by
  unfold k0_pay10
  refine (trunc_at (φ := .f32) (ψ := .bf16) _ _ bitsLt_bf16_f32).trans ((rms3 _ (extf (F := Ideal) (φ := .bf16) .f32 γ bitsLt_bf16_f32) _ _ _ _ _ _ _ _ b s j).trans ?_)
  refine congrArg₂ (fun h g => rms _ h g j) (funext fun k => ?_) (funext fun k => ext_at (φ := .bf16) (ψ := .f32) _ _ bitsLt_bf16_f32)
  exact cols_apply X W S b s 1536 _ k (by have := k.isLt; omega)

/-- A rotated result: pairs of lanes turned by their angles. -/
theorem pay1_apply (H : FVec Ideal S2x1536x2112 .f32) (A : Vec Ideal S2x1536x32 .f32) (j : Fin 64) :
    (k0_pay1 H A (ix3 b s j) : EReal)
      = rot (fun k : Fin 64 => (H (ix3 b s ⟨2048 + k.val, by have := k.isLt; omega⟩) : EReal)) (fun i => (A (ix3 b s i) : EReal)) j := by
  have hj := j.isLt
  have hlane : ∀ (e : Fin 2) (i : Fin 32) (off : Fin 4 → ℕ) (ho : off = ![0, 0, 0, e.val]) (h : S2x1536x32x2.Slices off S2x1536x32x1),
      (shapeCast S2x1536x32 (extractStridedSlice S2x1536x32x1 off (shapeCast S2x1536x32x2
        (extractStridedSlice S2x1536x64 ![0, 0, 2048] H slices_S2x1536x2112_o0_0_2048_S2x1536x64) shapeCasts_S2x1536x64_S2x1536x32x2) h)
        shapeCasts_S2x1536x32x1_S2x1536x32 (ix3 b s i) : EReal) = H (ix3 b s ⟨2048 + (2 * i.val + e.val), by have := i.isLt; have := e.isLt; omega⟩) := by
    intro e i off ho h
    subst ho
    have hi := i.isLt
    have he := e.isLt
    refine (shapeCast_apply _ shapeCasts_S2x1536x32x1_S2x1536x32 (ix3 b s i) (ix4 b s i 0) (by
      rw [Shape.rowMajor_val_three, Shape.rowMajor_val_four]
      show ((b.val * 1536 + s.val) * 32 + i.val) * 1 + 0 = (b.val * 1536 + s.val) * 32 + i.val
      omega)).trans ?_
    refine (extractStridedSlice_apply _ _ h (ix4 b s i 0) (ix4 b s i e) (fun a => by
      match a with
      | ⟨0, _⟩ => exact (Nat.zero_add _).symm
      | ⟨1, _⟩ => exact (Nat.zero_add _).symm
      | ⟨2, _⟩ => exact (Nat.zero_add _).symm
      | ⟨3, _⟩ => rfl)).trans ?_
    refine (shapeCast_apply _ shapeCasts_S2x1536x64_S2x1536x32x2 (ix4 b s i e) (ix3 b s ⟨2 * i.val + e.val, by omega⟩) (by
      rw [Shape.rowMajor_val_three, Shape.rowMajor_val_four]
      show (b.val * 1536 + s.val) * 64 + (2 * i.val + e.val) = ((b.val * 1536 + s.val) * 32 + i.val) * 2 + e.val
      omega)).trans ?_
    exact extractStridedSlice_apply _ H slices_S2x1536x2112_o0_0_2048_S2x1536x64 (ix3 b s ⟨2 * i.val + e.val, by omega⟩) _ (fun a => by
      match a with
      | ⟨0, _⟩ => exact (Nat.zero_add _).symm
      | ⟨1, _⟩ => exact (Nat.zero_add _).symm
      | ⟨2, _⟩ => rfl)
  have h0 := fun i => hlane 0 i ![0, 0, 0, 0] rfl slices_S2x1536x32x2_o0_0_0_0_S2x1536x32x1
  have h1 := fun i => hlane 1 i ![0, 0, 0, 1] rfl slices_S2x1536x32x2_o0_0_0_1_S2x1536x32x1
  have hA : shapeCast S2x1536x32 A shapeCasts_S2x1536x32_S2x1536x32 = A := shapeCast_self A _
  have hback : ∀ (v : FVec Ideal S2x1536x32 .f32) (i : Fin 32),
      shapeCast S2x1536x32x1 v shapeCasts_S2x1536x32_S2x1536x32x1 (ix4 b s i 0) = v (ix3 b s i) := fun v i =>
    shapeCast_apply v _ (ix4 b s i 0) (ix3 b s i) (by
      rw [Shape.rowMajor_val_three, Shape.rowMajor_val_four]
      show (b.val * 1536 + s.val) * 32 + i.val = ((b.val * 1536 + s.val) * 32 + i.val) * 1 + 0
      omega)
  unfold k0_pay1
  refine (trunc_at (φ := .f32) (ψ := .bf16) _ _ bitsLt_bf16_f32).trans ?_
  refine (shapeCast_apply _ shapeCasts_S2x1536x32x2_S2x1536x64 (ix3 b s j) (ix4 b s ⟨j.val / 2, by omega⟩ ⟨j.val % 2, by omega⟩) (by
    rw [Shape.rowMajor_val_three, Shape.rowMajor_val_four]
    show ((b.val * 1536 + s.val) * 32 + j.val / 2) * 2 + j.val % 2 = (b.val * 1536 + s.val) * 64 + j.val
    omega)).trans ?_
  unfold rot
  split
  · rename_i hp
    refine (concatenate_pair_apply_left 3 _ _ concatenates_S2x1536x32x1_S2x1536x32x1_S2x1536x32x2_d3 _ rfl (ix4 b s ⟨j.val / 2, by omega⟩ 0) (fun a => by
      match a with
      | ⟨0, _⟩ => rfl
      | ⟨1, _⟩ => rfl
      | ⟨2, _⟩ => rfl
      | ⟨3, _⟩ => exact hp.symm)).trans ?_
    rw [hback, sub_at, mul_at, mul_at, cos_at, sin_at, hA, h0, h1]
    rfl
  · rename_i hp
    refine (concatenate_pair_apply_right 3 _ _ concatenates_S2x1536x32x1_S2x1536x32x1_S2x1536x32x2_d3 _ rfl rfl (ix4 b s ⟨j.val / 2, by omega⟩ 0) (fun a ha => by
      match a with
      | ⟨0, _⟩ => rfl
      | ⟨1, _⟩ => rfl
      | ⟨2, _⟩ => rfl
      | ⟨3, _⟩ => exact absurd rfl ha) (by show 0 + 1 = j.val % 2; omega)).trans ?_
    rw [hback, add_at, mul_at, mul_at, cos_at, sin_at, hA, h0, h1]
    rfl

end Cert.Value.R

end
-- ==== Proof.Value.RArr.lean ====
/- The reference's run: each result array holds the plain formula of the arguments. -/
module

public import proofs.«01_k».proof.Proof.Value.RRes
public import Idealize.ShloMosaic.Lib.Pipeline.ValueKit.Geometry

@[expose] public section

set_option maxRecDepth 16384

noncomputable section

namespace Cert.Value.R

open Cert.ReferenceIdeal Cert.ReferenceIdeal.Gen
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The angles the host hands the kernel. -/
theorem angles_apply (b : Fin 2) (s : Fin 1536) (i : Fin 32) :
    (V m c main_v21 (ix3 b s i) : EReal) = ang ((m ((c : Thread nD τ).loc main_arg5) : Vec Ideal S2 .i32) (ix1 b)) s.val i := by
  have e : V m c main_v21 = mulf (F := Ideal) (φ := .f32)
      (broadcastInDim S2x1536x32 ![0, 1, 2] bcast_S2x1536x1_S2x1536x32_0_1_2 (broadcastInDim S2x1536x1 ![0, 1] bcast_S2x1536_S2x1536x1_0_1
        (addf (F := Ideal) (φ := .f32) (broadcastInDim S2x1536 ![0, 1] bcast_S2x1_S2x1536_0_1 (broadcastInDim S2x1 ![0] bcast_S2_S2x1_0 (sitofp .f32 (m ((c : Thread nD τ).loc main_arg5) : Vec Ideal S2 .i32))))
          (broadcastInDim S2x1536 ![0, 1] bcast_S1x1536_S2x1536_0_1 (broadcastInDim S1x1536 ![1] bcast_S1536_S1x1536_1 (sitofp .f32 (iotaInDim S1536 32 0)))))))
      (broadcastInDim S2x1536x32 ![0, 1, 2] bcast_S1x1x32_S2x1536x32_0_1_2 (broadcastInDim S1x1x32 ![2] bcast_S32_S1x1x32_2
        (Host.powf (F := Ideal) (φ := .f32) (broadcastInDim S32 ![] bcast_S_S32 (constant S_ .f32 0x461C4000#32))
          (Host.divf (Host.negf (addf (broadcastInDim S32 ![] bcast_S_S32 (constant S_ .f32 0x00000000#32))
            (mulf (broadcastInDim S32 ![] bcast_S_S32 (constant S_ .f32 0x40000000#32)) (sitofp .f32 (iotaInDim S32 32 0)))))
            (broadcastInDim S32 ![] bcast_S_S32 (constant S_ .f32 0x42800000#32)))))) := by
    unfold_abbrev_sides
    after_results
  rw [e]
  unfold ang
  refine (mul_at _ _ _).trans (congrArg₂ (fun p q : EReal => p * q) ?_ ?_)
  · refine (broadcastInDim_apply _ bcast_S2x1536x1_S2x1536x32_0_1_2 _ (ix3 b s i) (ix3 b s 0) fun a => ?_).trans ?_
    · match a with
      | ⟨0, _⟩ => rfl
      | ⟨1, _⟩ => rfl
      | ⟨2, _⟩ => rfl
    refine (broadcastInDim_apply _ bcast_S2x1536_S2x1536x1_0_1 _ (ix3 b s 0) (ix2 b s) fun a => ?_).trans ?_
    · match a with
      | ⟨0, _⟩ => rfl
      | ⟨1, _⟩ => rfl
    refine (add_at _ _ _).trans (congrArg₂ (fun p q : EReal => p + q) ?_ ?_)
    · refine (broadcastInDim_apply _ bcast_S2x1_S2x1536_0_1 _ (ix2 b s) (ix2 b 0) fun a => ?_).trans ?_
      · match a with
        | ⟨0, _⟩ => rfl
        | ⟨1, _⟩ => rfl
      exact broadcastInDim_apply _ bcast_S2_S2x1_0 _ (ix2 b 0) (ix1 b) fun a => by
        match a with
        | ⟨0, _⟩ => rfl
    · refine (broadcastInDim_apply _ bcast_S1x1536_S2x1536_0_1 _ (ix2 b s) (ix2 0 s) fun a => ?_).trans ?_
      · match a with
        | ⟨0, _⟩ => rfl
        | ⟨1, _⟩ => rfl
      exact broadcastInDim_apply _ bcast_S1536_S1x1536_1 _ (ix2 0 s) (ix1 s) fun a => by
        match a with
        | ⟨0, _⟩ => rfl
  · refine (broadcastInDim_apply _ bcast_S1x1x32_S2x1536x32_0_1_2 _ (ix3 b s i) (ix3 0 0 i) fun a => ?_).trans ?_
    · match a with
      | ⟨0, _⟩ => rfl
      | ⟨1, _⟩ => rfl
      | ⟨2, _⟩ => rfl
    refine (broadcastInDim_apply _ bcast_S32_S1x1x32_2 _ (ix3 0 0 i) (ix1 i) fun a => ?_).trans ?_
    · match a with
      | ⟨0, _⟩ => rfl
    rfl

theorem idx : ∀ t : Fin cfg0.N, (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0) ∧ (∀ a, win0_8.index t a = 0)
    ∧ (∀ a, win0_9.index t a = 0) ∧ (∀ a, win0_10.index t a = 0) := by decide +kernel

/-! Each window's block is its whole array. -/

theorem blk0 (t : Fin cfg0.N) : iblk m c 0 t = m ((c : Thread nD τ).loc main_arg0) := by
  funext y
  rw [← V_main_arg0 m c]
  blk_ext [iblk, (idx t).1]

theorem blk1 (t : Fin cfg0.N) : iblk m c 1 t = m ((c : Thread nD τ).loc main_arg1) := by
  funext y
  rw [← V_main_arg1 m c]
  blk_ext [iblk, (idx t).2.1]

theorem blk2 (t : Fin cfg0.N) : iblk m c 2 t = m ((c : Thread nD τ).loc main_arg2) := by
  funext y
  rw [← V_main_arg2 m c]
  blk_ext [iblk, (idx t).2.2.1]

theorem blk3 (t : Fin cfg0.N) : iblk m c 3 t = m ((c : Thread nD τ).loc main_arg3) := by
  funext y
  rw [← V_main_arg3 m c]
  blk_ext [iblk, (idx t).2.2.2.1]

theorem blk4 (t : Fin cfg0.N) : iblk m c 4 t = m ((c : Thread nD τ).loc main_arg4) := by
  funext y
  rw [← V_main_arg4 m c]
  blk_ext [iblk, (idx t).2.2.2.2.1]

theorem blk5 (t : Fin cfg0.N) : iblk m c 5 t = V m c main_v21 := by
  funext y
  blk_ext [iblk, (idx t).2.2.2.2.2.1]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Device `c`'s arguments. -/
abbrev aX : Vec Ideal S2x1536x8192 .bf16 := m ((c : Thread nD τ).loc main_arg0)
abbrev aW : Vec Ideal S2112x8192 .fp8e4m3 := m ((c : Thread nD τ).loc main_arg1)
abbrev aS : Vec Ideal S17x64 .f32 := m ((c : Thread nD τ).loc main_arg2)
abbrev aQ : Vec Ideal S1536 .bf16 := m ((c : Thread nD τ).loc main_arg3)
abbrev aKv : Vec Ideal S512 .bf16 := m ((c : Thread nD τ).loc main_arg4)
abbrev aSt : Vec Ideal S2 .i32 := m ((c : Thread nD τ).loc main_arg5)

theorem final6 : (dats m 0 c).arrAt 6 cfg0.N = resQ (aX m c) (aW m c) (aS m c) (aQ m c) := by
  refine (dats m 0 c).arrAt_eq_of_covers 6 _ (by decide +kernel) fun t hf y => ?_
  blk_simp
  rw [after0_6, blk0, blk1, blk2, blk3, blk4]
  have e : ((cfg0.win 6).blk t).view.emb y = ix3 (y 0) (y 1) (y 2) := by
    blk_ext [(idx t).2.2.2.2.2.2.1]
  rw [e]
  unfold_out out0_6
  rw [View.canon_unit_zero hz3, View.ld_unit_zero hz3, View.ld_unit_zero hz2, View.ld_unit_zero hz2, View.ld_unit_zero hz1]
  exact (congrArg _ (eq_ix3 y)).trans (pay9_apply (aX m c) (aW m c) (aS m c) (y 0) (y 1) (aQ m c) (y 2))

theorem final7 : (dats m 0 c).arrAt 7 cfg0.N = resKv (aX m c) (aW m c) (aS m c) (aKv m c) := by
  refine (dats m 0 c).arrAt_eq_of_covers 7 _ (by decide +kernel) fun t hf y => ?_
  blk_simp
  rw [after0_7, blk0, blk1, blk2, blk3, blk4]
  have e : ((cfg0.win 7).blk t).view.emb y = ix3 (y 0) (y 1) (y 2) := by
    blk_ext [(idx t).2.2.2.2.2.2.2.1]
  rw [e]
  unfold_out out0_7
  rw [View.canon_unit_zero hz3, View.ld_unit_zero hz3, View.ld_unit_zero hz2, View.ld_unit_zero hz2, View.ld_unit_zero hz1]
  exact (congrArg _ (eq_ix3 y)).trans (pay10_apply (aX m c) (aW m c) (aS m c) (y 0) (y 1) (aKv m c) (y 2))

theorem final8 : (dats m 0 c).arrAt 8 cfg0.N = resPe (aX m c) (aW m c) (aS m c) (aSt m c) := by
  refine (dats m 0 c).arrAt_eq_of_covers 8 _ (by decide +kernel) fun t hf y => ?_
  blk_simp
  rw [after0_8, blk0, blk1, blk2, blk5]
  have e : ((cfg0.win 8).blk t).view.emb y = ix3 (y 0) (y 1) (y 2) := by
    blk_ext [(idx t).2.2.2.2.2.2.2.2.1]
  rw [e]
  unfold_out out0_8
  rw [View.canon_unit_zero hz3, View.ld_unit_zero hz3, View.ld_unit_zero hz2, View.ld_unit_zero hz2, View.ld_unit_zero hz3]
  refine (congrArg _ (eq_ix3 y)).trans ((pay1_apply (y 0) (y 1) _ _ (y 2)).trans ?_)
  exact congrArg₂ (fun h a => rot h a (y 2)) (funext fun k => pay8_apply (aX m c) (y 0) (y 1) (aS m c) (aW m c) _)
    (funext fun i => angles_apply m c (y 0) (y 1) i)

theorem final9 : (dats m 0 c).arrAt 9 cfg0.N = resCd (aX m c) := by
  refine (dats m 0 c).arrAt_eq_of_covers 9 _ (by decide +kernel) fun t hf y => ?_
  blk_simp
  rw [after0_9, blk0]
  have e : ((cfg0.win 9).blk t).view.emb y = ix3 (y 0) (y 1) (y 2) := by
    blk_ext [(idx t).2.2.2.2.2.2.2.2.2.1]
  rw [e]
  unfold_out out0_9
  rw [View.canon_unit_zero hz3, View.ld_unit_zero hz3]
  exact (congrArg _ (eq_ix3 y)).trans (pay5_apply (aX m c) (y 0) (y 1) (y 2))

theorem final10 : (dats m 0 c).arrAt 10 cfg0.N = resSc (aX m c) := by
  refine (dats m 0 c).arrAt_eq_of_covers 10 _ (by decide +kernel) fun t hf y => ?_
  blk_simp
  rw [after0_10, blk0]
  have e : ((cfg0.win 10).blk t).view.emb y = ix3 (y 0) (y 1) (y 2) := by
    blk_ext [(idx t).2.2.2.2.2.2.2.2.2.2]
  rw [e]
  unfold_out out0_10
  rw [View.canon_unit_zero hz3, View.ld_unit_zero hz3]
  exact (congrArg _ (eq_ix3 y)).trans (pay4_apply (aX m c) (y 0) (y 1) (y 2))

/-- The reference ends with the results at the plain formulas and its arguments unchanged. -/
theorem run : θ_run defs (onTc (τ := τ) (main (F := Ideal))) ⟨m, fun _ => 0, ρ⟩ fun r => ∀ c : Dev nD,
      r.2.mem ((c : Thread nD τ).loc main_v22_0) = resQ (aX m c) (aW m c) (aS m c) (aQ m c)
      ∧ r.2.mem ((c : Thread nD τ).loc main_v22_1) = resKv (aX m c) (aW m c) (aS m c) (aKv m c)
      ∧ r.2.mem ((c : Thread nD τ).loc main_v22_2) = resPe (aX m c) (aW m c) (aS m c) (aSt m c)
      ∧ r.2.mem ((c : Thread nD τ).loc main_v22_3) = resCd (aX m c)
      ∧ r.2.mem ((c : Thread nD τ).loc main_v22_4) = resSc (aX m c) :=
  (θ_run defs _ _).mono (fun _ h c => ⟨((h c).1 6).trans (final6 m c), ((h c).1 7).trans (final7 m c), ((h c).1 8).trans (final8 m c),
      ((h c).1 9).trans (final9 m c), ((h c).1 10).trans (final10 m c)⟩)
    (run_main m ρ)

end Cert.Value.R

end
-- ==== Proof.lean ====
/- The certificate: both programs of the kernel and the reference terminate and leave their arguments unchanged, the ideal program
   is the kernel, and from finite activations the kernel and the reference end with the same five results. -/
module

public import proofs.«01_k».proof.Defs
public import proofs.«01_k».proof.Proof.Kernel.Body
public import proofs.«01_k».proof.Proof.KernelIdeal.Body
public import proofs.«01_k».proof.Proof.Gen.ReferenceIdeal.Frame
public import proofs.«01_k».proof.Proof.Value.FiniteInput
public import proofs.«01_k».proof.Proof.Value.KArr
public import proofs.«01_k».proof.Proof.Value.RArr

@[expose] public section

noncomputable section

namespace Cert.Proof

open Idealize.ShloMosaic Idealize.SL.Sem Cert.Kernel

/-- The kernel and the reference both end with the results at the plain formulas. -/
theorem algebraic : Cert.algebraic_KernelIdeal_ReferenceIdeal_pre_finite_input (hKernelIdeal := Cert.KernelIdeal.Gen.facts)
    (hReferenceIdeal := Cert.ReferenceIdeal.Gen.facts) (hPre_finite_input := Cert.Value.K.preFacts) := by
  intro m g m' g' hm ha
  have hX := Cert.Value.K.allFinite m hm
  refine ⟨fun c => Cert.Value.resQ (Cert.Value.K.aX m c) (Cert.Value.K.aW m c) (Cert.Value.K.aS m c) (Cert.Value.K.aQ m c),
    fun c => Cert.Value.resKv (Cert.Value.K.aX m c) (Cert.Value.K.aW m c) (Cert.Value.K.aS m c) (Cert.Value.K.aKv m c),
    fun c => Cert.Value.resPe (Cert.Value.K.aX m c) (Cert.Value.K.aW m c) (Cert.Value.K.aS m c) (Cert.Value.K.aSt m c),
    fun c => Cert.Value.resCd (Cert.Value.K.aX m c), fun c => Cert.Value.resSc (Cert.Value.K.aX m c), ?_, ?_⟩
  · exact (θ_run _ _ _).mono (fun _ h c => ⟨(h.1 c).1, (h.1 c).2.1, (h.1 c).2.2.1, (h.1 c).2.2.2.1, (h.1 c).2.2.2.2, h.2.1 c⟩)
      (θ_run_and (Cert.Value.K.run g hX) (Cert.KernelIdeal.Run.frame m g))
  · refine (θ_run _ _ _).mono (fun _ h c => ?_) (θ_run_and (Cert.Value.R.run m' g') (Cert.ReferenceIdeal.Gen.frame m' g'))
    have e0 : Cert.Value.R.aX m' c = Cert.Value.K.aX m c := (ha c).1
    have e1 : Cert.Value.R.aW m' c = Cert.Value.K.aW m c := (ha c).2.1
    have e2 : Cert.Value.R.aS m' c = Cert.Value.K.aS m c := (ha c).2.2.1
    have e3 : Cert.Value.R.aQ m' c = Cert.Value.K.aQ m c := (ha c).2.2.2.1
    have e4 : Cert.Value.R.aKv m' c = Cert.Value.K.aKv m c := (ha c).2.2.2.2.1
    have e5 : Cert.Value.R.aSt m' c = Cert.Value.K.aSt m c := (ha c).2.2.2.2.2
    have hv := h.1 c
    rw [e0, e1, e2, e3, e4, e5] at hv
    exact ⟨hv.1, hv.2.1, hv.2.2.1, hv.2.2.2.1, hv.2.2.2.2, h.2.1 c⟩

/-- Every claim of the certificate. -/
theorem claim : Cert.Claim := ⟨Cert.Kernel.Gen.facts, Cert.KernelIdeal.Gen.facts, Cert.ReferenceIdeal.Gen.facts, Cert.Value.K.preFacts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, algebraic⟩

end Cert.Proof

end
